-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S2x128x512 : Shape := ⟨3, ![2, 128, 512]⟩
abbrev S4x2 : Shape := ⟨2, ![4, 2]⟩
abbrev S4 : Shape := ⟨1, ![4]⟩
abbrev S8x128 : Shape := ⟨2, ![8, 128]⟩
abbrev S32x8x128 : Shape := ⟨3, ![32, 8, 128]⟩
abbrev S31 : Shape := ⟨1, ![31]⟩
abbrev S32 : Shape := ⟨1, ![32]⟩
abbrev S_ : Shape := ⟨0, ![]⟩
abbrev S128x128 : Shape := ⟨2, ![128, 128]⟩
abbrev S128x512 : Shape := ⟨2, ![128, 512]⟩
abbrev S1x128x512 : Shape := ⟨3, ![1, 128, 512]⟩
abbrev S1x1 : Shape := ⟨2, ![1, 1]⟩
abbrev S1 : Shape := ⟨1, ![1]⟩
abbrev S1x128x2048 : Shape := ⟨3, ![1, 128, 2048]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S128x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S128x2048, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S2x128x512, .f32⟩
  | .local _ .vmem, ⟨9, _⟩ => ⟨S2x128x512, .f32⟩
  | .local _ .vmem, ⟨10, _⟩ => ⟨S2x128x512, .f32⟩
  | .local _ .vmem, ⟨11, _⟩ => ⟨S8x128, .f32⟩
  | .local _ .vmem, ⟨12, _⟩ => ⟨S32x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 5 82 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch11 : Ref sig .tc := ⟨.vmem, 11, rfl⟩
abbrev cc0_scratch12 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_126 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_125 : BitVec 32 := 1#32
  let v235 : BitVec 32 := Scalar.muli v233 c1_i32_125
  let v236 : BitVec 32 := Scalar.addi c0_i32_126 v235
  v236.toNat
def k0_dev2 (d0 : Dev nD) : Nat :=
  let c0_i32_129 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_128 : BitVec 32 := 1#32
  let v237 : BitVec 32 := Scalar.muli v160 c1_i32_128
  let v238 : BitVec 32 := Scalar.addi c0_i32_129 v237
  v238.toNat
def k0_off1 (d0 : Dev nD) (c1_i32_131 : BitVec 32) : Fin 2 → Nat :=
  let c8_i32_164 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let v239 : BitVec 32 := Scalar.subi v87 c1_i32_131
  let c32_i32_132 : BitVec 32 := 32#32
  let c0_i32_133 : BitVec 32 := 0#32
  let v240 : BitVec 1 := Scalar.cmpi .eq c32_i32_132 c0_i32_133
  let c1_i32_134 : BitVec 32 := 1#32
  let v241 : BitVec 32 := Scalar.select v240 c1_i32_134 c32_i32_132
  let v242 : BitVec 32 := Scalar.remsi v239 v241
  let c0_i32_136 : BitVec 32 := 0#32
  let v244 : BitVec 1 := Scalar.cmpi .slt v242 c0_i32_136
  let c0_i32_137 : BitVec 32 := 0#32
  let v245 : BitVec 1 := Scalar.cmpi .slt v241 c0_i32_137
  let v246 : BitVec 1 := Scalar.xori v244 v245
  let c0_i32_135 : BitVec 32 := 0#32
  let v243 : BitVec 1 := Scalar.cmpi .ne v242 c0_i32_135
  let v247 : BitVec 1 := Scalar.andi v246 v243
  let v248 : BitVec 32 := Scalar.addi v242 v241
  let v249 : BitVec 32 := Scalar.select v247 v248 v242
  let c16_i32_141 : BitVec 32 := 16#32
  let v252 : BitVec 1 := Scalar.cmpi .slt v249 c16_i32_141
  let c31_i32_142 : BitVec 32 := 31#32
  let v253 : BitVec 32 := Scalar.subi c31_i32_142 v249
  let v254 : BitVec 32 := Scalar.select v252 v249 v253
  let c0_i32_144 : BitVec 32 := 0#32
  let v256 : BitVec 1 := Scalar.cmpi .sgt v254 c0_i32_144
  let v257 : BitVec 32 := Scalar.extui v256
  let c0_i32_145 : BitVec 32 := 0#32
  let v258 : BitVec 1 := Scalar.cmpi .slt v254 c0_i32_145
  let v259 : BitVec 32 := Scalar.extui v258
  let v260 : BitVec 32 := Scalar.subi v257 v259
  let c4_i32_143 : BitVec 32 := 4#32
  let c0_i32_146 : BitVec 32 := 0#32
  let v261 : BitVec 1 := Scalar.cmpi .sgt c4_i32_143 c0_i32_146
  let v262 : BitVec 32 := Scalar.extui v261
  let c0_i32_147 : BitVec 32 := 0#32
  let v263 : BitVec 1 := Scalar.cmpi .slt c4_i32_143 c0_i32_147
  let v264 : BitVec 32 := Scalar.extui v263
  let v265 : BitVec 32 := Scalar.subi v262 v264
  let v266 : BitVec 1 := Scalar.cmpi .ne v260 v265
  let v267 : BitVec 32 := Scalar.remsi v254 c4_i32_143
  let c0_i32_148 : BitVec 32 := 0#32
  let v268 : BitVec 1 := Scalar.cmpi .ne v267 c0_i32_148
  let v269 : BitVec 1 := Scalar.andi v266 v268
  let v255 : BitVec 32 := Scalar.divsi v254 c4_i32_143
  let c1_i32_149 : BitVec 32 := 1#32
  let v270 : BitVec 32 := Scalar.subi v255 c1_i32_149
  let v271 : BitVec 32 := Scalar.select v269 v270 v255
  let v295 : BitVec 32 := Scalar.muli c8_i32_164 v271
  let c2_i32_165 : BitVec 32 := 2#32
  let c2_i32_156 : BitVec 32 := 2#32
  let c0_i32_157 : BitVec 32 := 0#32
  let v282 : BitVec 1 := Scalar.cmpi .eq c2_i32_156 c0_i32_157
  let c1_i32_158 : BitVec 32 := 1#32
  let v283 : BitVec 32 := Scalar.select v282 c1_i32_158 c2_i32_156
  let v284 : BitVec 32 := Scalar.remsi v271 v283
  let c0_i32_160 : BitVec 32 := 0#32
  let v286 : BitVec 1 := Scalar.cmpi .slt v284 c0_i32_160
  let c0_i32_161 : BitVec 32 := 0#32
  let v287 : BitVec 1 := Scalar.cmpi .slt v283 c0_i32_161
  let v288 : BitVec 1 := Scalar.xori v286 v287
  let c0_i32_159 : BitVec 32 := 0#32
  let v285 : BitVec 1 := Scalar.cmpi .ne v284 c0_i32_159
  let v289 : BitVec 1 := Scalar.andi v288 v285
  let v290 : BitVec 32 := Scalar.addi v284 v283
  let v291 : BitVec 32 := Scalar.select v289 v290 v284
  let c0_i32_162 : BitVec 32 := 0#32
  let v292 : BitVec 1 := Scalar.cmpi .eq v291 c0_i32_162
  let c4_i32_150 : BitVec 32 := 4#32
  let c0_i32_151 : BitVec 32 := 0#32
  let v272 : BitVec 1 := Scalar.cmpi .eq c4_i32_150 c0_i32_151
  let c1_i32_152 : BitVec 32 := 1#32
  let v273 : BitVec 32 := Scalar.select v272 c1_i32_152 c4_i32_150
  let v274 : BitVec 32 := Scalar.remsi v254 v273
  let c0_i32_154 : BitVec 32 := 0#32
  let v276 : BitVec 1 := Scalar.cmpi .slt v274 c0_i32_154
  let c0_i32_155 : BitVec 32 := 0#32
  let v277 : BitVec 1 := Scalar.cmpi .slt v273 c0_i32_155
  let v278 : BitVec 1 := Scalar.xori v276 v277
  let c0_i32_153 : BitVec 32 := 0#32
  let v275 : BitVec 1 := Scalar.cmpi .ne v274 c0_i32_153
  let v279 : BitVec 1 := Scalar.andi v278 v275
  let v280 : BitVec 32 := Scalar.addi v274 v273
  let v281 : BitVec 32 := Scalar.select v279 v280 v274
  let c3_i32_163 : BitVec 32 := 3#32
  let v293 : BitVec 32 := Scalar.subi c3_i32_163 v281
  let v294 : BitVec 32 := Scalar.select v292 v281 v293
  let v296 : BitVec 32 := Scalar.muli c2_i32_165 v294
  let v297 : BitVec 32 := Scalar.addi v295 v296
  let c2_i32_166 : BitVec 32 := 2#32
  let c0_i32_167 : BitVec 32 := 0#32
  let v298 : BitVec 1 := Scalar.cmpi .eq c2_i32_166 c0_i32_167
  let c1_i32_168 : BitVec 32 := 1#32
  let v299 : BitVec 32 := Scalar.select v298 c1_i32_168 c2_i32_166
  let v300 : BitVec 32 := Scalar.remsi v294 v299
  let c0_i32_170 : BitVec 32 := 0#32
  let v302 : BitVec 1 := Scalar.cmpi .slt v300 c0_i32_170
  let c0_i32_171 : BitVec 32 := 0#32
  let v303 : BitVec 1 := Scalar.cmpi .slt v299 c0_i32_171
  let v304 : BitVec 1 := Scalar.xori v302 v303
  let c0_i32_169 : BitVec 32 := 0#32
  let v301 : BitVec 1 := Scalar.cmpi .ne v300 c0_i32_169
  let v305 : BitVec 1 := Scalar.andi v304 v301
  let v306 : BitVec 32 := Scalar.addi v300 v299
  let v307 : BitVec 32 := Scalar.select v305 v306 v300
  let c0_i32_172 : BitVec 32 := 0#32
  let v308 : BitVec 1 := Scalar.cmpi .eq v307 c0_i32_172
  let c16_i32_138 : BitVec 32 := 16#32
  let v250 : BitVec 1 := Scalar.cmpi .slt v249 c16_i32_138
  let c0_i32_139 : BitVec 32 := 0#32
  let c1_i32_140 : BitVec 32 := 1#32
  let v251 : BitVec 32 := Scalar.select v250 c0_i32_139 c1_i32_140
  let c1_i32_173 : BitVec 32 := 1#32
  let v309 : BitVec 32 := Scalar.subi c1_i32_173 v251
  let v310 : BitVec 32 := Scalar.select v308 v251 v309
  let v311 : BitVec 32 := Scalar.addi v297 v310
  let c128_i32 : BitVec 32 := 128#32
  let v312 : BitVec 32 := Scalar.muli v311 c128_i32
  let v313 : Index := Scalar.indexCast v312
  let c0 : Index := 0#32
  ![v313.toNat, 0]
def k0_off1_at (r : Fin 62) : BitVec 32 :=
  if r.val < 31 then
    if r.val < 15 then
      if r.val < 7 then
        if r.val < 3 then
          if r.val < 1 then
            1#32
          else
            if r.val < 2 then
              4294967295#32
            else
              2#32
        else
          if r.val < 5 then
            if r.val < 4 then
              4294967294#32
            else
              3#32
          else
            if r.val < 6 then
              4294967293#32
            else
              4#32
      else
        if r.val < 11 then
          if r.val < 9 then
            if r.val < 8 then
              4294967292#32
            else
              5#32
          else
            if r.val < 10 then
              4294967291#32
            else
              6#32
        else
          if r.val < 13 then
            if r.val < 12 then
              4294967290#32
            else
              7#32
          else
            if r.val < 14 then
              4294967289#32
            else
              8#32
    else
      if r.val < 23 then
        if r.val < 19 then
          if r.val < 17 then
            if r.val < 16 then
              4294967288#32
            else
              9#32
          else
            if r.val < 18 then
              4294967287#32
            else
              10#32
        else
          if r.val < 21 then
            if r.val < 20 then
              4294967286#32
            else
              11#32
          else
            if r.val < 22 then
              4294967285#32
            else
              12#32
      else
        if r.val < 27 then
          if r.val < 25 then
            if r.val < 24 then
              4294967284#32
            else
              13#32
          else
            if r.val < 26 then
              4294967283#32
            else
              14#32
        else
          if r.val < 29 then
            if r.val < 28 then
              4294967282#32
            else
              15#32
          else
            if r.val < 30 then
              4294967281#32
            else
              16#32
  else
    if r.val < 46 then
      if r.val < 38 then
        if r.val < 34 then
          if r.val < 32 then
            4294967280#32
          else
            if r.val < 33 then
              17#32
            else
              4294967279#32
        else
          if r.val < 36 then
            if r.val < 35 then
              18#32
            else
              4294967278#32
          else
            if r.val < 37 then
              19#32
            else
              4294967277#32
      else
        if r.val < 42 then
          if r.val < 40 then
            if r.val < 39 then
              20#32
            else
              4294967276#32
          else
            if r.val < 41 then
              21#32
            else
              4294967275#32
        else
          if r.val < 44 then
            if r.val < 43 then
              22#32
            else
              4294967274#32
          else
            if r.val < 45 then
              23#32
            else
              4294967273#32
    else
      if r.val < 54 then
        if r.val < 50 then
          if r.val < 48 then
            if r.val < 47 then
              24#32
            else
              4294967272#32
          else
            if r.val < 49 then
              25#32
            else
              4294967271#32
        else
          if r.val < 52 then
            if r.val < 51 then
              26#32
            else
              4294967270#32
          else
            if r.val < 53 then
              27#32
            else
              4294967269#32
      else
        if r.val < 58 then
          if r.val < 56 then
            if r.val < 55 then
              28#32
            else
              4294967268#32
          else
            if r.val < 57 then
              29#32
            else
              4294967267#32
        else
          if r.val < 60 then
            if r.val < 59 then
              30#32
            else
              4294967266#32
          else
            if r.val < 61 then
              31#32
            else
              4294967265#32
def k0_dev3 (d0 : Dev nD) : Nat :=
  let c0_i32_186 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_185 : BitVec 32 := 1#32
  let v322 : BitVec 32 := Scalar.muli v160 c1_i32_185
  let v323 : BitVec 32 := Scalar.addi c0_i32_186 v322
  v323.toNat
def k0_dev4 (d0 : Dev nD) : Nat :=
  let c0_i32_247 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_246 : BitVec 32 := 1#32
  let v415 : BitVec 32 := Scalar.muli v233 c1_i32_246
  let v416 : BitVec 32 := Scalar.addi c0_i32_247 v415
  v416.toNat
def k0_dev5 (d0 : Dev nD) : Nat :=
  let c0_i32_309 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_308 : BitVec 32 := 1#32
  let v508 : BitVec 32 := Scalar.muli v160 c1_i32_308
  let v509 : BitVec 32 := Scalar.addi c0_i32_309 v508
  v509.toNat
def k0_dev6 (d0 : Dev nD) : Nat :=
  let c0_i32_371 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_370 : BitVec 32 := 1#32
  let v601 : BitVec 32 := Scalar.muli v233 c1_i32_370
  let v602 : BitVec 32 := Scalar.addi c0_i32_371 v601
  v602.toNat
def k0_dev7 (d0 : Dev nD) : Nat :=
  let c0_i32_455 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_454 : BitVec 32 := 1#32
  let v713 : BitVec 32 := Scalar.muli v233 c1_i32_454
  let v714 : BitVec 32 := Scalar.addi c0_i32_455 v713
  v714.toNat
def k0_dev8 (d0 : Dev nD) : Nat :=
  let c0_i32_463 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_462 : BitVec 32 := 1#32
  let v715 : BitVec 32 := Scalar.muli v160 c1_i32_462
  let v716 : BitVec 32 := Scalar.addi c0_i32_463 v715
  v716.toNat
def k0_dev9 (d0 : Dev nD) : Nat :=
  let c0_i32_547 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_546 : BitVec 32 := 1#32
  let v827 : BitVec 32 := Scalar.muli v160 c1_i32_546
  let v828 : BitVec 32 := Scalar.addi c0_i32_547 v827
  v828.toNat
def k0_dev10 (d0 : Dev nD) : Nat :=
  let c0_i32_555 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_554 : BitVec 32 := 1#32
  let v829 : BitVec 32 := Scalar.muli v233 c1_i32_554
  let v830 : BitVec 32 := Scalar.addi c0_i32_555 v829
  v830.toNat
def k0_dev11 (d0 : Dev nD) : Nat :=
  let c0_i32_640 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_639 : BitVec 32 := 1#32
  let v941 : BitVec 32 := Scalar.muli v233 c1_i32_639
  let v942 : BitVec 32 := Scalar.addi c0_i32_640 v941
  v942.toNat
def k0_dev12 (d0 : Dev nD) : Nat :=
  let c0_i32_648 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_647 : BitVec 32 := 1#32
  let v943 : BitVec 32 := Scalar.muli v160 c1_i32_647
  let v944 : BitVec 32 := Scalar.addi c0_i32_648 v943
  v944.toNat
def k0_dev13 (d0 : Dev nD) : Nat :=
  let c0_i32_733 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_732 : BitVec 32 := 1#32
  let v1055 : BitVec 32 := Scalar.muli v160 c1_i32_732
  let v1056 : BitVec 32 := Scalar.addi c0_i32_733 v1055
  v1056.toNat
def k0_dev14 (d0 : Dev nD) : Nat :=
  let c0_i32_741 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_740 : BitVec 32 := 1#32
  let v1057 : BitVec 32 := Scalar.muli v233 c1_i32_740
  let v1058 : BitVec 32 := Scalar.addi c0_i32_741 v1057
  v1058.toNat
def k0_dev15 (d0 : Dev nD) : Nat :=
  let c0_i32_826 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_825 : BitVec 32 := 1#32
  let v1169 : BitVec 32 := Scalar.muli v233 c1_i32_825
  let v1170 : BitVec 32 := Scalar.addi c0_i32_826 v1169
  v1170.toNat
def k0_dev16 (d0 : Dev nD) : Nat :=
  let c0_i32_837 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_836 : BitVec 32 := 1#32
  let v1173 : BitVec 32 := Scalar.muli v160 c1_i32_836
  let v1174 : BitVec 32 := Scalar.addi c0_i32_837 v1173
  v1174.toNat
def k0_dev17 (d0 : Dev nD) : Nat :=
  let c0_i32_921 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_920 : BitVec 32 := 1#32
  let v1285 : BitVec 32 := Scalar.muli v160 c1_i32_920
  let v1286 : BitVec 32 := Scalar.addi c0_i32_921 v1285
  v1286.toNat
def k0_dev18 (d0 : Dev nD) : Nat :=
  let c0_i32_932 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_931 : BitVec 32 := 1#32
  let v1289 : BitVec 32 := Scalar.muli v233 c1_i32_931
  let v1290 : BitVec 32 := Scalar.addi c0_i32_932 v1289
  v1290.toNat
def k0_dev19 (d0 : Dev nD) : Nat :=
  let c0_i32_1017 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1016 : BitVec 32 := 1#32
  let v1401 : BitVec 32 := Scalar.muli v233 c1_i32_1016
  let v1402 : BitVec 32 := Scalar.addi c0_i32_1017 v1401
  v1402.toNat
def k0_dev20 (d0 : Dev nD) : Nat :=
  let c0_i32_1028 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1027 : BitVec 32 := 1#32
  let v1405 : BitVec 32 := Scalar.muli v160 c1_i32_1027
  let v1406 : BitVec 32 := Scalar.addi c0_i32_1028 v1405
  v1406.toNat
def k0_dev21 (d0 : Dev nD) : Nat :=
  let c0_i32_1113 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1112 : BitVec 32 := 1#32
  let v1517 : BitVec 32 := Scalar.muli v160 c1_i32_1112
  let v1518 : BitVec 32 := Scalar.addi c0_i32_1113 v1517
  v1518.toNat
def k0_dev22 (d0 : Dev nD) : Nat :=
  let c0_i32_1124 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1123 : BitVec 32 := 1#32
  let v1521 : BitVec 32 := Scalar.muli v233 c1_i32_1123
  let v1522 : BitVec 32 := Scalar.addi c0_i32_1124 v1521
  v1522.toNat
def k0_dev23 (d0 : Dev nD) : Nat :=
  let c0_i32_1209 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1208 : BitVec 32 := 1#32
  let v1633 : BitVec 32 := Scalar.muli v233 c1_i32_1208
  let v1634 : BitVec 32 := Scalar.addi c0_i32_1209 v1633
  v1634.toNat
def k0_dev24 (d0 : Dev nD) : Nat :=
  let c0_i32_1220 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1219 : BitVec 32 := 1#32
  let v1637 : BitVec 32 := Scalar.muli v160 c1_i32_1219
  let v1638 : BitVec 32 := Scalar.addi c0_i32_1220 v1637
  v1638.toNat
def k0_dev25 (d0 : Dev nD) : Nat :=
  let c0_i32_1304 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1303 : BitVec 32 := 1#32
  let v1749 : BitVec 32 := Scalar.muli v160 c1_i32_1303
  let v1750 : BitVec 32 := Scalar.addi c0_i32_1304 v1749
  v1750.toNat
def k0_dev26 (d0 : Dev nD) : Nat :=
  let c0_i32_1315 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1314 : BitVec 32 := 1#32
  let v1753 : BitVec 32 := Scalar.muli v233 c1_i32_1314
  let v1754 : BitVec 32 := Scalar.addi c0_i32_1315 v1753
  v1754.toNat
def k0_dev27 (d0 : Dev nD) : Nat :=
  let c0_i32_1400 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1399 : BitVec 32 := 1#32
  let v1865 : BitVec 32 := Scalar.muli v233 c1_i32_1399
  let v1866 : BitVec 32 := Scalar.addi c0_i32_1400 v1865
  v1866.toNat
def k0_dev28 (d0 : Dev nD) : Nat :=
  let c0_i32_1411 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1410 : BitVec 32 := 1#32
  let v1869 : BitVec 32 := Scalar.muli v160 c1_i32_1410
  let v1870 : BitVec 32 := Scalar.addi c0_i32_1411 v1869
  v1870.toNat
def k0_dev29 (d0 : Dev nD) : Nat :=
  let c0_i32_1496 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1495 : BitVec 32 := 1#32
  let v1981 : BitVec 32 := Scalar.muli v160 c1_i32_1495
  let v1982 : BitVec 32 := Scalar.addi c0_i32_1496 v1981
  v1982.toNat
def k0_dev30 (d0 : Dev nD) : Nat :=
  let c0_i32_1507 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1506 : BitVec 32 := 1#32
  let v1985 : BitVec 32 := Scalar.muli v233 c1_i32_1506
  let v1986 : BitVec 32 := Scalar.addi c0_i32_1507 v1985
  v1986.toNat
def k0_dev31 (d0 : Dev nD) : Nat :=
  let c0_i32_1591 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1590 : BitVec 32 := 1#32
  let v2097 : BitVec 32 := Scalar.muli v233 c1_i32_1590
  let v2098 : BitVec 32 := Scalar.addi c0_i32_1591 v2097
  v2098.toNat
def k0_dev32 (d0 : Dev nD) : Nat :=
  let c0_i32_1602 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1601 : BitVec 32 := 1#32
  let v2101 : BitVec 32 := Scalar.muli v160 c1_i32_1601
  let v2102 : BitVec 32 := Scalar.addi c0_i32_1602 v2101
  v2102.toNat
def k0_dev33 (d0 : Dev nD) : Nat :=
  let c0_i32_1686 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1685 : BitVec 32 := 1#32
  let v2213 : BitVec 32 := Scalar.muli v160 c1_i32_1685
  let v2214 : BitVec 32 := Scalar.addi c0_i32_1686 v2213
  v2214.toNat
def k0_dev34 (d0 : Dev nD) : Nat :=
  let c0_i32_1697 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1696 : BitVec 32 := 1#32
  let v2217 : BitVec 32 := Scalar.muli v233 c1_i32_1696
  let v2218 : BitVec 32 := Scalar.addi c0_i32_1697 v2217
  v2218.toNat
def k0_dev35 (d0 : Dev nD) : Nat :=
  let c0_i32_1782 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1781 : BitVec 32 := 1#32
  let v2329 : BitVec 32 := Scalar.muli v233 c1_i32_1781
  let v2330 : BitVec 32 := Scalar.addi c0_i32_1782 v2329
  v2330.toNat
def k0_dev36 (d0 : Dev nD) : Nat :=
  let c0_i32_1793 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1792 : BitVec 32 := 1#32
  let v2333 : BitVec 32 := Scalar.muli v160 c1_i32_1792
  let v2334 : BitVec 32 := Scalar.addi c0_i32_1793 v2333
  v2334.toNat
def k0_dev37 (d0 : Dev nD) : Nat :=
  let c0_i32_1878 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1877 : BitVec 32 := 1#32
  let v2445 : BitVec 32 := Scalar.muli v160 c1_i32_1877
  let v2446 : BitVec 32 := Scalar.addi c0_i32_1878 v2445
  v2446.toNat
def k0_dev38 (d0 : Dev nD) : Nat :=
  let c0_i32_1889 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1888 : BitVec 32 := 1#32
  let v2449 : BitVec 32 := Scalar.muli v233 c1_i32_1888
  let v2450 : BitVec 32 := Scalar.addi c0_i32_1889 v2449
  v2450.toNat
def k0_dev39 (d0 : Dev nD) : Nat :=
  let c0_i32_1973 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_1972 : BitVec 32 := 1#32
  let v2561 : BitVec 32 := Scalar.muli v233 c1_i32_1972
  let v2562 : BitVec 32 := Scalar.addi c0_i32_1973 v2561
  v2562.toNat
def k0_dev40 (d0 : Dev nD) : Nat :=
  let c0_i32_1984 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_1983 : BitVec 32 := 1#32
  let v2565 : BitVec 32 := Scalar.muli v160 c1_i32_1983
  let v2566 : BitVec 32 := Scalar.addi c0_i32_1984 v2565
  v2566.toNat
def k0_dev41 (d0 : Dev nD) : Nat :=
  let c0_i32_2068 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2067 : BitVec 32 := 1#32
  let v2677 : BitVec 32 := Scalar.muli v160 c1_i32_2067
  let v2678 : BitVec 32 := Scalar.addi c0_i32_2068 v2677
  v2678.toNat
def k0_dev42 (d0 : Dev nD) : Nat :=
  let c0_i32_2079 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2078 : BitVec 32 := 1#32
  let v2681 : BitVec 32 := Scalar.muli v233 c1_i32_2078
  let v2682 : BitVec 32 := Scalar.addi c0_i32_2079 v2681
  v2682.toNat
def k0_dev43 (d0 : Dev nD) : Nat :=
  let c0_i32_2164 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2163 : BitVec 32 := 1#32
  let v2793 : BitVec 32 := Scalar.muli v233 c1_i32_2163
  let v2794 : BitVec 32 := Scalar.addi c0_i32_2164 v2793
  v2794.toNat
def k0_dev44 (d0 : Dev nD) : Nat :=
  let c0_i32_2175 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2174 : BitVec 32 := 1#32
  let v2797 : BitVec 32 := Scalar.muli v160 c1_i32_2174
  let v2798 : BitVec 32 := Scalar.addi c0_i32_2175 v2797
  v2798.toNat
def k0_dev45 (d0 : Dev nD) : Nat :=
  let c0_i32_2260 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2259 : BitVec 32 := 1#32
  let v2909 : BitVec 32 := Scalar.muli v160 c1_i32_2259
  let v2910 : BitVec 32 := Scalar.addi c0_i32_2260 v2909
  v2910.toNat
def k0_dev46 (d0 : Dev nD) : Nat :=
  let c0_i32_2271 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2270 : BitVec 32 := 1#32
  let v2913 : BitVec 32 := Scalar.muli v233 c1_i32_2270
  let v2914 : BitVec 32 := Scalar.addi c0_i32_2271 v2913
  v2914.toNat
def k0_dev47 (d0 : Dev nD) : Nat :=
  let c0_i32_2355 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2354 : BitVec 32 := 1#32
  let v3025 : BitVec 32 := Scalar.muli v233 c1_i32_2354
  let v3026 : BitVec 32 := Scalar.addi c0_i32_2355 v3025
  v3026.toNat
def k0_dev48 (d0 : Dev nD) : Nat :=
  let c0_i32_2366 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2365 : BitVec 32 := 1#32
  let v3029 : BitVec 32 := Scalar.muli v160 c1_i32_2365
  let v3030 : BitVec 32 := Scalar.addi c0_i32_2366 v3029
  v3030.toNat
def k0_dev49 (d0 : Dev nD) : Nat :=
  let c0_i32_2450 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2449 : BitVec 32 := 1#32
  let v3141 : BitVec 32 := Scalar.muli v160 c1_i32_2449
  let v3142 : BitVec 32 := Scalar.addi c0_i32_2450 v3141
  v3142.toNat
def k0_dev50 (d0 : Dev nD) : Nat :=
  let c0_i32_2461 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2460 : BitVec 32 := 1#32
  let v3145 : BitVec 32 := Scalar.muli v233 c1_i32_2460
  let v3146 : BitVec 32 := Scalar.addi c0_i32_2461 v3145
  v3146.toNat
def k0_dev51 (d0 : Dev nD) : Nat :=
  let c0_i32_2546 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2545 : BitVec 32 := 1#32
  let v3257 : BitVec 32 := Scalar.muli v233 c1_i32_2545
  let v3258 : BitVec 32 := Scalar.addi c0_i32_2546 v3257
  v3258.toNat
def k0_dev52 (d0 : Dev nD) : Nat :=
  let c0_i32_2557 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2556 : BitVec 32 := 1#32
  let v3261 : BitVec 32 := Scalar.muli v160 c1_i32_2556
  let v3262 : BitVec 32 := Scalar.addi c0_i32_2557 v3261
  v3262.toNat
def k0_dev53 (d0 : Dev nD) : Nat :=
  let c0_i32_2642 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2641 : BitVec 32 := 1#32
  let v3373 : BitVec 32 := Scalar.muli v160 c1_i32_2641
  let v3374 : BitVec 32 := Scalar.addi c0_i32_2642 v3373
  v3374.toNat
def k0_dev54 (d0 : Dev nD) : Nat :=
  let c0_i32_2653 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2652 : BitVec 32 := 1#32
  let v3377 : BitVec 32 := Scalar.muli v233 c1_i32_2652
  let v3378 : BitVec 32 := Scalar.addi c0_i32_2653 v3377
  v3378.toNat
def k0_dev55 (d0 : Dev nD) : Nat :=
  let c0_i32_2738 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2737 : BitVec 32 := 1#32
  let v3489 : BitVec 32 := Scalar.muli v233 c1_i32_2737
  let v3490 : BitVec 32 := Scalar.addi c0_i32_2738 v3489
  v3490.toNat
def k0_dev56 (d0 : Dev nD) : Nat :=
  let c0_i32_2749 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2748 : BitVec 32 := 1#32
  let v3493 : BitVec 32 := Scalar.muli v160 c1_i32_2748
  let v3494 : BitVec 32 := Scalar.addi c0_i32_2749 v3493
  v3494.toNat
def k0_dev57 (d0 : Dev nD) : Nat :=
  let c0_i32_2833 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2832 : BitVec 32 := 1#32
  let v3605 : BitVec 32 := Scalar.muli v160 c1_i32_2832
  let v3606 : BitVec 32 := Scalar.addi c0_i32_2833 v3605
  v3606.toNat
def k0_dev58 (d0 : Dev nD) : Nat :=
  let c0_i32_2844 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2843 : BitVec 32 := 1#32
  let v3609 : BitVec 32 := Scalar.muli v233 c1_i32_2843
  let v3610 : BitVec 32 := Scalar.addi c0_i32_2844 v3609
  v3610.toNat
def k0_dev59 (d0 : Dev nD) : Nat :=
  let c0_i32_2929 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_2928 : BitVec 32 := 1#32
  let v3721 : BitVec 32 := Scalar.muli v233 c1_i32_2928
  let v3722 : BitVec 32 := Scalar.addi c0_i32_2929 v3721
  v3722.toNat
def k0_dev60 (d0 : Dev nD) : Nat :=
  let c0_i32_2940 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_2939 : BitVec 32 := 1#32
  let v3725 : BitVec 32 := Scalar.muli v160 c1_i32_2939
  let v3726 : BitVec 32 := Scalar.addi c0_i32_2940 v3725
  v3726.toNat
def k0_dev61 (d0 : Dev nD) : Nat :=
  let c0_i32_3025 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3024 : BitVec 32 := 1#32
  let v3837 : BitVec 32 := Scalar.muli v160 c1_i32_3024
  let v3838 : BitVec 32 := Scalar.addi c0_i32_3025 v3837
  v3838.toNat
def k0_dev62 (d0 : Dev nD) : Nat :=
  let c0_i32_3036 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3035 : BitVec 32 := 1#32
  let v3841 : BitVec 32 := Scalar.muli v233 c1_i32_3035
  let v3842 : BitVec 32 := Scalar.addi c0_i32_3036 v3841
  v3842.toNat
def k0_dev63 (d0 : Dev nD) : Nat :=
  let c0_i32_3120 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3119 : BitVec 32 := 1#32
  let v3953 : BitVec 32 := Scalar.muli v233 c1_i32_3119
  let v3954 : BitVec 32 := Scalar.addi c0_i32_3120 v3953
  v3954.toNat
def k0_dev64 (d0 : Dev nD) : Nat :=
  let c0_i32_3131 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3130 : BitVec 32 := 1#32
  let v3957 : BitVec 32 := Scalar.muli v160 c1_i32_3130
  let v3958 : BitVec 32 := Scalar.addi c0_i32_3131 v3957
  v3958.toNat
def k0_dev65 (d0 : Dev nD) : Nat :=
  let c0_i32_3215 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3214 : BitVec 32 := 1#32
  let v4069 : BitVec 32 := Scalar.muli v160 c1_i32_3214
  let v4070 : BitVec 32 := Scalar.addi c0_i32_3215 v4069
  v4070.toNat
def k0_dev66 (d0 : Dev nD) : Nat :=
  let c0_i32_3226 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3225 : BitVec 32 := 1#32
  let v4073 : BitVec 32 := Scalar.muli v233 c1_i32_3225
  let v4074 : BitVec 32 := Scalar.addi c0_i32_3226 v4073
  v4074.toNat
def k0_dev67 (d0 : Dev nD) : Nat :=
  let c0_i32_3311 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3310 : BitVec 32 := 1#32
  let v4185 : BitVec 32 := Scalar.muli v233 c1_i32_3310
  let v4186 : BitVec 32 := Scalar.addi c0_i32_3311 v4185
  v4186.toNat
def k0_dev68 (d0 : Dev nD) : Nat :=
  let c0_i32_3322 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3321 : BitVec 32 := 1#32
  let v4189 : BitVec 32 := Scalar.muli v160 c1_i32_3321
  let v4190 : BitVec 32 := Scalar.addi c0_i32_3322 v4189
  v4190.toNat
def k0_dev69 (d0 : Dev nD) : Nat :=
  let c0_i32_3407 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3406 : BitVec 32 := 1#32
  let v4301 : BitVec 32 := Scalar.muli v160 c1_i32_3406
  let v4302 : BitVec 32 := Scalar.addi c0_i32_3407 v4301
  v4302.toNat
def k0_dev70 (d0 : Dev nD) : Nat :=
  let c0_i32_3418 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3417 : BitVec 32 := 1#32
  let v4305 : BitVec 32 := Scalar.muli v233 c1_i32_3417
  let v4306 : BitVec 32 := Scalar.addi c0_i32_3418 v4305
  v4306.toNat
def k0_dev71 (d0 : Dev nD) : Nat :=
  let c0_i32_3502 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3501 : BitVec 32 := 1#32
  let v4417 : BitVec 32 := Scalar.muli v233 c1_i32_3501
  let v4418 : BitVec 32 := Scalar.addi c0_i32_3502 v4417
  v4418.toNat
def k0_dev72 (d0 : Dev nD) : Nat :=
  let c0_i32_3513 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3512 : BitVec 32 := 1#32
  let v4421 : BitVec 32 := Scalar.muli v160 c1_i32_3512
  let v4422 : BitVec 32 := Scalar.addi c0_i32_3513 v4421
  v4422.toNat
def k0_dev73 (d0 : Dev nD) : Nat :=
  let c0_i32_3597 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3596 : BitVec 32 := 1#32
  let v4533 : BitVec 32 := Scalar.muli v160 c1_i32_3596
  let v4534 : BitVec 32 := Scalar.addi c0_i32_3597 v4533
  v4534.toNat
def k0_dev74 (d0 : Dev nD) : Nat :=
  let c0_i32_3608 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3607 : BitVec 32 := 1#32
  let v4537 : BitVec 32 := Scalar.muli v233 c1_i32_3607
  let v4538 : BitVec 32 := Scalar.addi c0_i32_3608 v4537
  v4538.toNat
def k0_dev75 (d0 : Dev nD) : Nat :=
  let c0_i32_3693 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3692 : BitVec 32 := 1#32
  let v4649 : BitVec 32 := Scalar.muli v233 c1_i32_3692
  let v4650 : BitVec 32 := Scalar.addi c0_i32_3693 v4649
  v4650.toNat
def k0_dev76 (d0 : Dev nD) : Nat :=
  let c0_i32_3704 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3703 : BitVec 32 := 1#32
  let v4653 : BitVec 32 := Scalar.muli v160 c1_i32_3703
  let v4654 : BitVec 32 := Scalar.addi c0_i32_3704 v4653
  v4654.toNat
def k0_dev77 (d0 : Dev nD) : Nat :=
  let c0_i32_3789 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3788 : BitVec 32 := 1#32
  let v4765 : BitVec 32 := Scalar.muli v160 c1_i32_3788
  let v4766 : BitVec 32 := Scalar.addi c0_i32_3789 v4765
  v4766.toNat
def k0_dev78 (d0 : Dev nD) : Nat :=
  let c0_i32_3800 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3799 : BitVec 32 := 1#32
  let v4769 : BitVec 32 := Scalar.muli v233 c1_i32_3799
  let v4770 : BitVec 32 := Scalar.addi c0_i32_3800 v4769
  v4770.toNat
def k0_dev79 (d0 : Dev nD) : Nat :=
  let c0_i32_3884 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3883 : BitVec 32 := 1#32
  let v4881 : BitVec 32 := Scalar.muli v233 c1_i32_3883
  let v4882 : BitVec 32 := Scalar.addi c0_i32_3884 v4881
  v4882.toNat
def k0_dev80 (d0 : Dev nD) : Nat :=
  let c0_i32_3895 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3894 : BitVec 32 := 1#32
  let v4885 : BitVec 32 := Scalar.muli v160 c1_i32_3894
  let v4886 : BitVec 32 := Scalar.addi c0_i32_3895 v4885
  v4886.toNat
def k0_dev81 (d0 : Dev nD) : Nat :=
  let c0_i32_3979 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_3978 : BitVec 32 := 1#32
  let v4997 : BitVec 32 := Scalar.muli v160 c1_i32_3978
  let v4998 : BitVec 32 := Scalar.addi c0_i32_3979 v4997
  v4998.toNat
def k0_dev82 (d0 : Dev nD) : Nat :=
  let c0_i32_3990 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_3989 : BitVec 32 := 1#32
  let v5001 : BitVec 32 := Scalar.muli v233 c1_i32_3989
  let v5002 : BitVec 32 := Scalar.addi c0_i32_3990 v5001
  v5002.toNat
def k0_dev83 (d0 : Dev nD) : Nat :=
  let c0_i32_4075 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4074 : BitVec 32 := 1#32
  let v5113 : BitVec 32 := Scalar.muli v233 c1_i32_4074
  let v5114 : BitVec 32 := Scalar.addi c0_i32_4075 v5113
  v5114.toNat
def k0_dev84 (d0 : Dev nD) : Nat :=
  let c0_i32_4086 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4085 : BitVec 32 := 1#32
  let v5117 : BitVec 32 := Scalar.muli v160 c1_i32_4085
  let v5118 : BitVec 32 := Scalar.addi c0_i32_4086 v5117
  v5118.toNat
def k0_dev85 (d0 : Dev nD) : Nat :=
  let c0_i32_4171 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4170 : BitVec 32 := 1#32
  let v5229 : BitVec 32 := Scalar.muli v160 c1_i32_4170
  let v5230 : BitVec 32 := Scalar.addi c0_i32_4171 v5229
  v5230.toNat
def k0_dev86 (d0 : Dev nD) : Nat :=
  let c0_i32_4182 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4181 : BitVec 32 := 1#32
  let v5233 : BitVec 32 := Scalar.muli v233 c1_i32_4181
  let v5234 : BitVec 32 := Scalar.addi c0_i32_4182 v5233
  v5234.toNat
def k0_dev87 (d0 : Dev nD) : Nat :=
  let c0_i32_4266 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4265 : BitVec 32 := 1#32
  let v5345 : BitVec 32 := Scalar.muli v233 c1_i32_4265
  let v5346 : BitVec 32 := Scalar.addi c0_i32_4266 v5345
  v5346.toNat
def k0_dev88 (d0 : Dev nD) : Nat :=
  let c0_i32_4277 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4276 : BitVec 32 := 1#32
  let v5349 : BitVec 32 := Scalar.muli v160 c1_i32_4276
  let v5350 : BitVec 32 := Scalar.addi c0_i32_4277 v5349
  v5350.toNat
def k0_dev89 (d0 : Dev nD) : Nat :=
  let c0_i32_4361 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4360 : BitVec 32 := 1#32
  let v5461 : BitVec 32 := Scalar.muli v160 c1_i32_4360
  let v5462 : BitVec 32 := Scalar.addi c0_i32_4361 v5461
  v5462.toNat
def k0_dev90 (d0 : Dev nD) : Nat :=
  let c0_i32_4372 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4371 : BitVec 32 := 1#32
  let v5465 : BitVec 32 := Scalar.muli v233 c1_i32_4371
  let v5466 : BitVec 32 := Scalar.addi c0_i32_4372 v5465
  v5466.toNat
def k0_dev91 (d0 : Dev nD) : Nat :=
  let c0_i32_4457 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4456 : BitVec 32 := 1#32
  let v5577 : BitVec 32 := Scalar.muli v233 c1_i32_4456
  let v5578 : BitVec 32 := Scalar.addi c0_i32_4457 v5577
  v5578.toNat
def k0_dev92 (d0 : Dev nD) : Nat :=
  let c0_i32_4468 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4467 : BitVec 32 := 1#32
  let v5581 : BitVec 32 := Scalar.muli v160 c1_i32_4467
  let v5582 : BitVec 32 := Scalar.addi c0_i32_4468 v5581
  v5582.toNat
def k0_dev93 (d0 : Dev nD) : Nat :=
  let c0_i32_4553 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4552 : BitVec 32 := 1#32
  let v5693 : BitVec 32 := Scalar.muli v160 c1_i32_4552
  let v5694 : BitVec 32 := Scalar.addi c0_i32_4553 v5693
  v5694.toNat
def k0_dev94 (d0 : Dev nD) : Nat :=
  let c0_i32_4564 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4563 : BitVec 32 := 1#32
  let v5697 : BitVec 32 := Scalar.muli v233 c1_i32_4563
  let v5698 : BitVec 32 := Scalar.addi c0_i32_4564 v5697
  v5698.toNat
def k0_dev95 (d0 : Dev nD) : Nat :=
  let c0_i32_4648 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4647 : BitVec 32 := 1#32
  let v5809 : BitVec 32 := Scalar.muli v233 c1_i32_4647
  let v5810 : BitVec 32 := Scalar.addi c0_i32_4648 v5809
  v5810.toNat
def k0_dev96 (d0 : Dev nD) : Nat :=
  let c0_i32_4659 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4658 : BitVec 32 := 1#32
  let v5813 : BitVec 32 := Scalar.muli v160 c1_i32_4658
  let v5814 : BitVec 32 := Scalar.addi c0_i32_4659 v5813
  v5814.toNat
def k0_dev97 (d0 : Dev nD) : Nat :=
  let c0_i32_4743 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4742 : BitVec 32 := 1#32
  let v5925 : BitVec 32 := Scalar.muli v160 c1_i32_4742
  let v5926 : BitVec 32 := Scalar.addi c0_i32_4743 v5925
  v5926.toNat
def k0_dev98 (d0 : Dev nD) : Nat :=
  let c0_i32_4754 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4753 : BitVec 32 := 1#32
  let v5929 : BitVec 32 := Scalar.muli v233 c1_i32_4753
  let v5930 : BitVec 32 := Scalar.addi c0_i32_4754 v5929
  v5930.toNat
def k0_dev99 (d0 : Dev nD) : Nat :=
  let c0_i32_4839 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4838 : BitVec 32 := 1#32
  let v6041 : BitVec 32 := Scalar.muli v233 c1_i32_4838
  let v6042 : BitVec 32 := Scalar.addi c0_i32_4839 v6041
  v6042.toNat
def k0_dev100 (d0 : Dev nD) : Nat :=
  let c0_i32_4850 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4849 : BitVec 32 := 1#32
  let v6045 : BitVec 32 := Scalar.muli v160 c1_i32_4849
  let v6046 : BitVec 32 := Scalar.addi c0_i32_4850 v6045
  v6046.toNat
def k0_dev101 (d0 : Dev nD) : Nat :=
  let c0_i32_4935 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_4934 : BitVec 32 := 1#32
  let v6157 : BitVec 32 := Scalar.muli v160 c1_i32_4934
  let v6158 : BitVec 32 := Scalar.addi c0_i32_4935 v6157
  v6158.toNat
def k0_dev102 (d0 : Dev nD) : Nat :=
  let c0_i32_4946 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_4945 : BitVec 32 := 1#32
  let v6161 : BitVec 32 := Scalar.muli v233 c1_i32_4945
  let v6162 : BitVec 32 := Scalar.addi c0_i32_4946 v6161
  v6162.toNat
def k0_dev103 (d0 : Dev nD) : Nat :=
  let c0_i32_5030 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5029 : BitVec 32 := 1#32
  let v6273 : BitVec 32 := Scalar.muli v233 c1_i32_5029
  let v6274 : BitVec 32 := Scalar.addi c0_i32_5030 v6273
  v6274.toNat
def k0_dev104 (d0 : Dev nD) : Nat :=
  let c0_i32_5041 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5040 : BitVec 32 := 1#32
  let v6277 : BitVec 32 := Scalar.muli v160 c1_i32_5040
  let v6278 : BitVec 32 := Scalar.addi c0_i32_5041 v6277
  v6278.toNat
def k0_dev105 (d0 : Dev nD) : Nat :=
  let c0_i32_5125 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5124 : BitVec 32 := 1#32
  let v6389 : BitVec 32 := Scalar.muli v160 c1_i32_5124
  let v6390 : BitVec 32 := Scalar.addi c0_i32_5125 v6389
  v6390.toNat
def k0_dev106 (d0 : Dev nD) : Nat :=
  let c0_i32_5136 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5135 : BitVec 32 := 1#32
  let v6393 : BitVec 32 := Scalar.muli v233 c1_i32_5135
  let v6394 : BitVec 32 := Scalar.addi c0_i32_5136 v6393
  v6394.toNat
def k0_dev107 (d0 : Dev nD) : Nat :=
  let c0_i32_5221 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5220 : BitVec 32 := 1#32
  let v6505 : BitVec 32 := Scalar.muli v233 c1_i32_5220
  let v6506 : BitVec 32 := Scalar.addi c0_i32_5221 v6505
  v6506.toNat
def k0_dev108 (d0 : Dev nD) : Nat :=
  let c0_i32_5232 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5231 : BitVec 32 := 1#32
  let v6509 : BitVec 32 := Scalar.muli v160 c1_i32_5231
  let v6510 : BitVec 32 := Scalar.addi c0_i32_5232 v6509
  v6510.toNat
def k0_dev109 (d0 : Dev nD) : Nat :=
  let c0_i32_5317 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5316 : BitVec 32 := 1#32
  let v6621 : BitVec 32 := Scalar.muli v160 c1_i32_5316
  let v6622 : BitVec 32 := Scalar.addi c0_i32_5317 v6621
  v6622.toNat
def k0_dev110 (d0 : Dev nD) : Nat :=
  let c0_i32_5328 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5327 : BitVec 32 := 1#32
  let v6625 : BitVec 32 := Scalar.muli v233 c1_i32_5327
  let v6626 : BitVec 32 := Scalar.addi c0_i32_5328 v6625
  v6626.toNat
def k0_dev111 (d0 : Dev nD) : Nat :=
  let c0_i32_5412 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5411 : BitVec 32 := 1#32
  let v6737 : BitVec 32 := Scalar.muli v233 c1_i32_5411
  let v6738 : BitVec 32 := Scalar.addi c0_i32_5412 v6737
  v6738.toNat
def k0_dev112 (d0 : Dev nD) : Nat :=
  let c0_i32_5423 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5422 : BitVec 32 := 1#32
  let v6741 : BitVec 32 := Scalar.muli v160 c1_i32_5422
  let v6742 : BitVec 32 := Scalar.addi c0_i32_5423 v6741
  v6742.toNat
def k0_dev113 (d0 : Dev nD) : Nat :=
  let c0_i32_5507 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5506 : BitVec 32 := 1#32
  let v6853 : BitVec 32 := Scalar.muli v160 c1_i32_5506
  let v6854 : BitVec 32 := Scalar.addi c0_i32_5507 v6853
  v6854.toNat
def k0_dev114 (d0 : Dev nD) : Nat :=
  let c0_i32_5518 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5517 : BitVec 32 := 1#32
  let v6857 : BitVec 32 := Scalar.muli v233 c1_i32_5517
  let v6858 : BitVec 32 := Scalar.addi c0_i32_5518 v6857
  v6858.toNat
def k0_dev115 (d0 : Dev nD) : Nat :=
  let c0_i32_5603 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5602 : BitVec 32 := 1#32
  let v6969 : BitVec 32 := Scalar.muli v233 c1_i32_5602
  let v6970 : BitVec 32 := Scalar.addi c0_i32_5603 v6969
  v6970.toNat
def k0_dev116 (d0 : Dev nD) : Nat :=
  let c0_i32_5614 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5613 : BitVec 32 := 1#32
  let v6973 : BitVec 32 := Scalar.muli v160 c1_i32_5613
  let v6974 : BitVec 32 := Scalar.addi c0_i32_5614 v6973
  v6974.toNat
def k0_dev117 (d0 : Dev nD) : Nat :=
  let c0_i32_5699 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5698 : BitVec 32 := 1#32
  let v7085 : BitVec 32 := Scalar.muli v160 c1_i32_5698
  let v7086 : BitVec 32 := Scalar.addi c0_i32_5699 v7085
  v7086.toNat
def k0_dev118 (d0 : Dev nD) : Nat :=
  let c0_i32_5710 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5709 : BitVec 32 := 1#32
  let v7089 : BitVec 32 := Scalar.muli v233 c1_i32_5709
  let v7090 : BitVec 32 := Scalar.addi c0_i32_5710 v7089
  v7090.toNat
def k0_dev119 (d0 : Dev nD) : Nat :=
  let c0_i32_5795 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5794 : BitVec 32 := 1#32
  let v7201 : BitVec 32 := Scalar.muli v233 c1_i32_5794
  let v7202 : BitVec 32 := Scalar.addi c0_i32_5795 v7201
  v7202.toNat
def k0_dev120 (d0 : Dev nD) : Nat :=
  let c0_i32_5806 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5805 : BitVec 32 := 1#32
  let v7205 : BitVec 32 := Scalar.muli v160 c1_i32_5805
  let v7206 : BitVec 32 := Scalar.addi c0_i32_5806 v7205
  v7206.toNat
def k0_dev121 (d0 : Dev nD) : Nat :=
  let c0_i32_5890 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5889 : BitVec 32 := 1#32
  let v7317 : BitVec 32 := Scalar.muli v160 c1_i32_5889
  let v7318 : BitVec 32 := Scalar.addi c0_i32_5890 v7317
  v7318.toNat
def k0_dev122 (d0 : Dev nD) : Nat :=
  let c0_i32_5901 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5900 : BitVec 32 := 1#32
  let v7321 : BitVec 32 := Scalar.muli v233 c1_i32_5900
  let v7322 : BitVec 32 := Scalar.addi c0_i32_5901 v7321
  v7322.toNat
def k0_dev123 (d0 : Dev nD) : Nat :=
  let c0_i32_5986 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_5985 : BitVec 32 := 1#32
  let v7433 : BitVec 32 := Scalar.muli v233 c1_i32_5985
  let v7434 : BitVec 32 := Scalar.addi c0_i32_5986 v7433
  v7434.toNat
def k0_dev124 (d0 : Dev nD) : Nat :=
  let c0_i32_5997 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_5996 : BitVec 32 := 1#32
  let v7437 : BitVec 32 := Scalar.muli v160 c1_i32_5996
  let v7438 : BitVec 32 := Scalar.addi c0_i32_5997 v7437
  v7438.toNat
def k0_dev125 (d0 : Dev nD) : Nat :=
  let c0_i32_6082 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6081 : BitVec 32 := 1#32
  let v7549 : BitVec 32 := Scalar.muli v160 c1_i32_6081
  let v7550 : BitVec 32 := Scalar.addi c0_i32_6082 v7549
  v7550.toNat
def k0_dev126 (d0 : Dev nD) : Nat :=
  let c0_i32_6093 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6092 : BitVec 32 := 1#32
  let v7553 : BitVec 32 := Scalar.muli v233 c1_i32_6092
  let v7554 : BitVec 32 := Scalar.addi c0_i32_6093 v7553
  v7554.toNat
def k0_dev127 (d0 : Dev nD) : Nat :=
  let c0_i32_6177 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6176 : BitVec 32 := 1#32
  let v7665 : BitVec 32 := Scalar.muli v233 c1_i32_6176
  let v7666 : BitVec 32 := Scalar.addi c0_i32_6177 v7665
  v7666.toNat
def k0_dev128 (d0 : Dev nD) : Nat :=
  let c0_i32_6188 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6187 : BitVec 32 := 1#32
  let v7669 : BitVec 32 := Scalar.muli v160 c1_i32_6187
  let v7670 : BitVec 32 := Scalar.addi c0_i32_6188 v7669
  v7670.toNat
def k0_dev129 (d0 : Dev nD) : Nat :=
  let c0_i32_6272 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6271 : BitVec 32 := 1#32
  let v7781 : BitVec 32 := Scalar.muli v160 c1_i32_6271
  let v7782 : BitVec 32 := Scalar.addi c0_i32_6272 v7781
  v7782.toNat
def k0_dev130 (d0 : Dev nD) : Nat :=
  let c0_i32_6283 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6282 : BitVec 32 := 1#32
  let v7785 : BitVec 32 := Scalar.muli v233 c1_i32_6282
  let v7786 : BitVec 32 := Scalar.addi c0_i32_6283 v7785
  v7786.toNat
def k0_dev131 (d0 : Dev nD) : Nat :=
  let c0_i32_6368 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6367 : BitVec 32 := 1#32
  let v7897 : BitVec 32 := Scalar.muli v233 c1_i32_6367
  let v7898 : BitVec 32 := Scalar.addi c0_i32_6368 v7897
  v7898.toNat
def k0_dev132 (d0 : Dev nD) : Nat :=
  let c0_i32_6379 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6378 : BitVec 32 := 1#32
  let v7901 : BitVec 32 := Scalar.muli v160 c1_i32_6378
  let v7902 : BitVec 32 := Scalar.addi c0_i32_6379 v7901
  v7902.toNat
def k0_dev133 (d0 : Dev nD) : Nat :=
  let c0_i32_6464 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6463 : BitVec 32 := 1#32
  let v8013 : BitVec 32 := Scalar.muli v160 c1_i32_6463
  let v8014 : BitVec 32 := Scalar.addi c0_i32_6464 v8013
  v8014.toNat
def k0_dev134 (d0 : Dev nD) : Nat :=
  let c0_i32_6475 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6474 : BitVec 32 := 1#32
  let v8017 : BitVec 32 := Scalar.muli v233 c1_i32_6474
  let v8018 : BitVec 32 := Scalar.addi c0_i32_6475 v8017
  v8018.toNat
def k0_dev135 (d0 : Dev nD) : Nat :=
  let c0_i32_6559 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6558 : BitVec 32 := 1#32
  let v8129 : BitVec 32 := Scalar.muli v233 c1_i32_6558
  let v8130 : BitVec 32 := Scalar.addi c0_i32_6559 v8129
  v8130.toNat
def k0_dev136 (d0 : Dev nD) : Nat :=
  let c0_i32_6570 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6569 : BitVec 32 := 1#32
  let v8133 : BitVec 32 := Scalar.muli v160 c1_i32_6569
  let v8134 : BitVec 32 := Scalar.addi c0_i32_6570 v8133
  v8134.toNat
def k0_dev137 (d0 : Dev nD) : Nat :=
  let c0_i32_6654 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6653 : BitVec 32 := 1#32
  let v8245 : BitVec 32 := Scalar.muli v160 c1_i32_6653
  let v8246 : BitVec 32 := Scalar.addi c0_i32_6654 v8245
  v8246.toNat
def k0_dev138 (d0 : Dev nD) : Nat :=
  let c0_i32_6665 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6664 : BitVec 32 := 1#32
  let v8249 : BitVec 32 := Scalar.muli v233 c1_i32_6664
  let v8250 : BitVec 32 := Scalar.addi c0_i32_6665 v8249
  v8250.toNat
def k0_dev139 (d0 : Dev nD) : Nat :=
  let c0_i32_6750 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6749 : BitVec 32 := 1#32
  let v8361 : BitVec 32 := Scalar.muli v233 c1_i32_6749
  let v8362 : BitVec 32 := Scalar.addi c0_i32_6750 v8361
  v8362.toNat
def k0_dev140 (d0 : Dev nD) : Nat :=
  let c0_i32_6761 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6760 : BitVec 32 := 1#32
  let v8365 : BitVec 32 := Scalar.muli v160 c1_i32_6760
  let v8366 : BitVec 32 := Scalar.addi c0_i32_6761 v8365
  v8366.toNat
def k0_dev141 (d0 : Dev nD) : Nat :=
  let c0_i32_6846 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6845 : BitVec 32 := 1#32
  let v8477 : BitVec 32 := Scalar.muli v160 c1_i32_6845
  let v8478 : BitVec 32 := Scalar.addi c0_i32_6846 v8477
  v8478.toNat
def k0_dev142 (d0 : Dev nD) : Nat :=
  let c0_i32_6857 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6856 : BitVec 32 := 1#32
  let v8481 : BitVec 32 := Scalar.muli v233 c1_i32_6856
  let v8482 : BitVec 32 := Scalar.addi c0_i32_6857 v8481
  v8482.toNat
def k0_dev143 (d0 : Dev nD) : Nat :=
  let c0_i32_6941 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_6940 : BitVec 32 := 1#32
  let v8593 : BitVec 32 := Scalar.muli v233 c1_i32_6940
  let v8594 : BitVec 32 := Scalar.addi c0_i32_6941 v8593
  v8594.toNat
def k0_dev144 (d0 : Dev nD) : Nat :=
  let c0_i32_6952 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_6951 : BitVec 32 := 1#32
  let v8597 : BitVec 32 := Scalar.muli v160 c1_i32_6951
  let v8598 : BitVec 32 := Scalar.addi c0_i32_6952 v8597
  v8598.toNat
def k0_dev145 (d0 : Dev nD) : Nat :=
  let c0_i32_7036 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7035 : BitVec 32 := 1#32
  let v8709 : BitVec 32 := Scalar.muli v160 c1_i32_7035
  let v8710 : BitVec 32 := Scalar.addi c0_i32_7036 v8709
  v8710.toNat
def k0_dev146 (d0 : Dev nD) : Nat :=
  let c0_i32_7047 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7046 : BitVec 32 := 1#32
  let v8713 : BitVec 32 := Scalar.muli v233 c1_i32_7046
  let v8714 : BitVec 32 := Scalar.addi c0_i32_7047 v8713
  v8714.toNat
def k0_dev147 (d0 : Dev nD) : Nat :=
  let c0_i32_7132 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7131 : BitVec 32 := 1#32
  let v8825 : BitVec 32 := Scalar.muli v233 c1_i32_7131
  let v8826 : BitVec 32 := Scalar.addi c0_i32_7132 v8825
  v8826.toNat
def k0_dev148 (d0 : Dev nD) : Nat :=
  let c0_i32_7143 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7142 : BitVec 32 := 1#32
  let v8829 : BitVec 32 := Scalar.muli v160 c1_i32_7142
  let v8830 : BitVec 32 := Scalar.addi c0_i32_7143 v8829
  v8830.toNat
def k0_dev149 (d0 : Dev nD) : Nat :=
  let c0_i32_7228 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7227 : BitVec 32 := 1#32
  let v8941 : BitVec 32 := Scalar.muli v160 c1_i32_7227
  let v8942 : BitVec 32 := Scalar.addi c0_i32_7228 v8941
  v8942.toNat
def k0_dev150 (d0 : Dev nD) : Nat :=
  let c0_i32_7239 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7238 : BitVec 32 := 1#32
  let v8945 : BitVec 32 := Scalar.muli v233 c1_i32_7238
  let v8946 : BitVec 32 := Scalar.addi c0_i32_7239 v8945
  v8946.toNat
def k0_dev151 (d0 : Dev nD) : Nat :=
  let c0_i32_7323 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7322 : BitVec 32 := 1#32
  let v9057 : BitVec 32 := Scalar.muli v233 c1_i32_7322
  let v9058 : BitVec 32 := Scalar.addi c0_i32_7323 v9057
  v9058.toNat
def k0_dev152 (d0 : Dev nD) : Nat :=
  let c0_i32_7334 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7333 : BitVec 32 := 1#32
  let v9061 : BitVec 32 := Scalar.muli v160 c1_i32_7333
  let v9062 : BitVec 32 := Scalar.addi c0_i32_7334 v9061
  v9062.toNat
def k0_dev153 (d0 : Dev nD) : Nat :=
  let c0_i32_7418 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7417 : BitVec 32 := 1#32
  let v9173 : BitVec 32 := Scalar.muli v160 c1_i32_7417
  let v9174 : BitVec 32 := Scalar.addi c0_i32_7418 v9173
  v9174.toNat
def k0_dev154 (d0 : Dev nD) : Nat :=
  let c0_i32_7429 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7428 : BitVec 32 := 1#32
  let v9177 : BitVec 32 := Scalar.muli v233 c1_i32_7428
  let v9178 : BitVec 32 := Scalar.addi c0_i32_7429 v9177
  v9178.toNat
def k0_dev155 (d0 : Dev nD) : Nat :=
  let c0_i32_7514 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7513 : BitVec 32 := 1#32
  let v9289 : BitVec 32 := Scalar.muli v233 c1_i32_7513
  let v9290 : BitVec 32 := Scalar.addi c0_i32_7514 v9289
  v9290.toNat
def k0_dev156 (d0 : Dev nD) : Nat :=
  let c0_i32_7525 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7524 : BitVec 32 := 1#32
  let v9293 : BitVec 32 := Scalar.muli v160 c1_i32_7524
  let v9294 : BitVec 32 := Scalar.addi c0_i32_7525 v9293
  v9294.toNat
def k0_dev157 (d0 : Dev nD) : Nat :=
  let c0_i32_7610 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7609 : BitVec 32 := 1#32
  let v9405 : BitVec 32 := Scalar.muli v160 c1_i32_7609
  let v9406 : BitVec 32 := Scalar.addi c0_i32_7610 v9405
  v9406.toNat
def k0_dev158 (d0 : Dev nD) : Nat :=
  let c0_i32_7621 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7620 : BitVec 32 := 1#32
  let v9409 : BitVec 32 := Scalar.muli v233 c1_i32_7620
  let v9410 : BitVec 32 := Scalar.addi c0_i32_7621 v9409
  v9410.toNat
def k0_dev159 (d0 : Dev nD) : Nat :=
  let c0_i32_7705 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7704 : BitVec 32 := 1#32
  let v9521 : BitVec 32 := Scalar.muli v233 c1_i32_7704
  let v9522 : BitVec 32 := Scalar.addi c0_i32_7705 v9521
  v9522.toNat
def k0_dev160 (d0 : Dev nD) : Nat :=
  let c0_i32_7716 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7715 : BitVec 32 := 1#32
  let v9525 : BitVec 32 := Scalar.muli v160 c1_i32_7715
  let v9526 : BitVec 32 := Scalar.addi c0_i32_7716 v9525
  v9526.toNat
def k0_dev161 (d0 : Dev nD) : Nat :=
  let c0_i32_7800 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7799 : BitVec 32 := 1#32
  let v9637 : BitVec 32 := Scalar.muli v160 c1_i32_7799
  let v9638 : BitVec 32 := Scalar.addi c0_i32_7800 v9637
  v9638.toNat
def k0_dev162 (d0 : Dev nD) : Nat :=
  let c0_i32_7811 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7810 : BitVec 32 := 1#32
  let v9641 : BitVec 32 := Scalar.muli v233 c1_i32_7810
  let v9642 : BitVec 32 := Scalar.addi c0_i32_7811 v9641
  v9642.toNat
def k0_dev163 (d0 : Dev nD) : Nat :=
  let c0_i32_7896 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_7895 : BitVec 32 := 1#32
  let v9753 : BitVec 32 := Scalar.muli v233 c1_i32_7895
  let v9754 : BitVec 32 := Scalar.addi c0_i32_7896 v9753
  v9754.toNat
def k0_dev164 (d0 : Dev nD) : Nat :=
  let c0_i32_7907 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7906 : BitVec 32 := 1#32
  let v9757 : BitVec 32 := Scalar.muli v160 c1_i32_7906
  let v9758 : BitVec 32 := Scalar.addi c0_i32_7907 v9757
  v9758.toNat
def k0_dev165 (d0 : Dev nD) : Nat :=
  let c0_i32_7992 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_7991 : BitVec 32 := 1#32
  let v9869 : BitVec 32 := Scalar.muli v160 c1_i32_7991
  let v9870 : BitVec 32 := Scalar.addi c0_i32_7992 v9869
  v9870.toNat
def k0_dev166 (d0 : Dev nD) : Nat :=
  let c0_i32_8003 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8002 : BitVec 32 := 1#32
  let v9873 : BitVec 32 := Scalar.muli v233 c1_i32_8002
  let v9874 : BitVec 32 := Scalar.addi c0_i32_8003 v9873
  v9874.toNat
def k0_dev167 (d0 : Dev nD) : Nat :=
  let c0_i32_8087 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8086 : BitVec 32 := 1#32
  let v9985 : BitVec 32 := Scalar.muli v233 c1_i32_8086
  let v9986 : BitVec 32 := Scalar.addi c0_i32_8087 v9985
  v9986.toNat
def k0_dev168 (d0 : Dev nD) : Nat :=
  let c0_i32_8098 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8097 : BitVec 32 := 1#32
  let v9989 : BitVec 32 := Scalar.muli v160 c1_i32_8097
  let v9990 : BitVec 32 := Scalar.addi c0_i32_8098 v9989
  v9990.toNat

variable {F : FTy → Type} [FloatOps F]

def k0_dev169 (d0 : Dev nD) : Nat :=
  let c0_i32_8182 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8181 : BitVec 32 := 1#32
  let v10101 : BitVec 32 := Scalar.muli v160 c1_i32_8181
  let v10102 : BitVec 32 := Scalar.addi c0_i32_8182 v10101
  v10102.toNat
def k0_dev170 (d0 : Dev nD) : Nat :=
  let c0_i32_8193 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8192 : BitVec 32 := 1#32
  let v10105 : BitVec 32 := Scalar.muli v233 c1_i32_8192
  let v10106 : BitVec 32 := Scalar.addi c0_i32_8193 v10105
  v10106.toNat
def k0_dev171 (d0 : Dev nD) : Nat :=
  let c0_i32_8278 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8277 : BitVec 32 := 1#32
  let v10217 : BitVec 32 := Scalar.muli v233 c1_i32_8277
  let v10218 : BitVec 32 := Scalar.addi c0_i32_8278 v10217
  v10218.toNat
def k0_dev172 (d0 : Dev nD) : Nat :=
  let c0_i32_8289 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8288 : BitVec 32 := 1#32
  let v10221 : BitVec 32 := Scalar.muli v160 c1_i32_8288
  let v10222 : BitVec 32 := Scalar.addi c0_i32_8289 v10221
  v10222.toNat
def k0_dev173 (d0 : Dev nD) : Nat :=
  let c0_i32_8374 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8373 : BitVec 32 := 1#32
  let v10333 : BitVec 32 := Scalar.muli v160 c1_i32_8373
  let v10334 : BitVec 32 := Scalar.addi c0_i32_8374 v10333
  v10334.toNat
def k0_dev174 (d0 : Dev nD) : Nat :=
  let c0_i32_8385 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8384 : BitVec 32 := 1#32
  let v10337 : BitVec 32 := Scalar.muli v233 c1_i32_8384
  let v10338 : BitVec 32 := Scalar.addi c0_i32_8385 v10337
  v10338.toNat
def k0_dev175 (d0 : Dev nD) : Nat :=
  let c0_i32_8469 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8468 : BitVec 32 := 1#32
  let v10449 : BitVec 32 := Scalar.muli v233 c1_i32_8468
  let v10450 : BitVec 32 := Scalar.addi c0_i32_8469 v10449
  v10450.toNat
def k0_dev176 (d0 : Dev nD) : Nat :=
  let c0_i32_8480 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8479 : BitVec 32 := 1#32
  let v10453 : BitVec 32 := Scalar.muli v160 c1_i32_8479
  let v10454 : BitVec 32 := Scalar.addi c0_i32_8480 v10453
  v10454.toNat
def k0_dev177 (d0 : Dev nD) : Nat :=
  let c0_i32_8564 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8563 : BitVec 32 := 1#32
  let v10565 : BitVec 32 := Scalar.muli v160 c1_i32_8563
  let v10566 : BitVec 32 := Scalar.addi c0_i32_8564 v10565
  v10566.toNat
def k0_dev178 (d0 : Dev nD) : Nat :=
  let c0_i32_8575 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8574 : BitVec 32 := 1#32
  let v10569 : BitVec 32 := Scalar.muli v233 c1_i32_8574
  let v10570 : BitVec 32 := Scalar.addi c0_i32_8575 v10569
  v10570.toNat
def k0_dev179 (d0 : Dev nD) : Nat :=
  let c0_i32_8660 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8659 : BitVec 32 := 1#32
  let v10681 : BitVec 32 := Scalar.muli v233 c1_i32_8659
  let v10682 : BitVec 32 := Scalar.addi c0_i32_8660 v10681
  v10682.toNat
def k0_dev180 (d0 : Dev nD) : Nat :=
  let c0_i32_8671 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8670 : BitVec 32 := 1#32
  let v10685 : BitVec 32 := Scalar.muli v160 c1_i32_8670
  let v10686 : BitVec 32 := Scalar.addi c0_i32_8671 v10685
  v10686.toNat
def k0_dev181 (d0 : Dev nD) : Nat :=
  let c0_i32_8756 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8755 : BitVec 32 := 1#32
  let v10797 : BitVec 32 := Scalar.muli v160 c1_i32_8755
  let v10798 : BitVec 32 := Scalar.addi c0_i32_8756 v10797
  v10798.toNat
def k0_dev182 (d0 : Dev nD) : Nat :=
  let c0_i32_8767 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8766 : BitVec 32 := 1#32
  let v10801 : BitVec 32 := Scalar.muli v233 c1_i32_8766
  let v10802 : BitVec 32 := Scalar.addi c0_i32_8767 v10801
  v10802.toNat
def k0_dev183 (d0 : Dev nD) : Nat :=
  let c0_i32_8851 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8850 : BitVec 32 := 1#32
  let v10913 : BitVec 32 := Scalar.muli v233 c1_i32_8850
  let v10914 : BitVec 32 := Scalar.addi c0_i32_8851 v10913
  v10914.toNat
def k0_dev184 (d0 : Dev nD) : Nat :=
  let c0_i32_8862 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8861 : BitVec 32 := 1#32
  let v10917 : BitVec 32 := Scalar.muli v160 c1_i32_8861
  let v10918 : BitVec 32 := Scalar.addi c0_i32_8862 v10917
  v10918.toNat
def k0_dev185 (d0 : Dev nD) : Nat :=
  let c0_i32_8946 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_8945 : BitVec 32 := 1#32
  let v11029 : BitVec 32 := Scalar.muli v160 c1_i32_8945
  let v11030 : BitVec 32 := Scalar.addi c0_i32_8946 v11029
  v11030.toNat
def k0_dev186 (d0 : Dev nD) : Nat :=
  let c0_i32_8957 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_8956 : BitVec 32 := 1#32
  let v11033 : BitVec 32 := Scalar.muli v233 c1_i32_8956
  let v11034 : BitVec 32 := Scalar.addi c0_i32_8957 v11033
  v11034.toNat
def k0_dev187 (d0 : Dev nD) : Nat :=
  let c0_i32_9042 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9041 : BitVec 32 := 1#32
  let v11145 : BitVec 32 := Scalar.muli v233 c1_i32_9041
  let v11146 : BitVec 32 := Scalar.addi c0_i32_9042 v11145
  v11146.toNat
def k0_dev188 (d0 : Dev nD) : Nat :=
  let c0_i32_9053 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9052 : BitVec 32 := 1#32
  let v11149 : BitVec 32 := Scalar.muli v160 c1_i32_9052
  let v11150 : BitVec 32 := Scalar.addi c0_i32_9053 v11149
  v11150.toNat
def k0_dev189 (d0 : Dev nD) : Nat :=
  let c0_i32_9138 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9137 : BitVec 32 := 1#32
  let v11261 : BitVec 32 := Scalar.muli v160 c1_i32_9137
  let v11262 : BitVec 32 := Scalar.addi c0_i32_9138 v11261
  v11262.toNat
def k0_dev190 (d0 : Dev nD) : Nat :=
  let c0_i32_9149 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9148 : BitVec 32 := 1#32
  let v11265 : BitVec 32 := Scalar.muli v233 c1_i32_9148
  let v11266 : BitVec 32 := Scalar.addi c0_i32_9149 v11265
  v11266.toNat
def k0_dev191 (d0 : Dev nD) : Nat :=
  let c0_i32_9233 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9232 : BitVec 32 := 1#32
  let v11377 : BitVec 32 := Scalar.muli v233 c1_i32_9232
  let v11378 : BitVec 32 := Scalar.addi c0_i32_9233 v11377
  v11378.toNat
def k0_dev192 (d0 : Dev nD) : Nat :=
  let c0_i32_9244 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9243 : BitVec 32 := 1#32
  let v11381 : BitVec 32 := Scalar.muli v160 c1_i32_9243
  let v11382 : BitVec 32 := Scalar.addi c0_i32_9244 v11381
  v11382.toNat
def k0_dev193 (d0 : Dev nD) : Nat :=
  let c0_i32_9328 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9327 : BitVec 32 := 1#32
  let v11493 : BitVec 32 := Scalar.muli v160 c1_i32_9327
  let v11494 : BitVec 32 := Scalar.addi c0_i32_9328 v11493
  v11494.toNat
def k0_dev194 (d0 : Dev nD) : Nat :=
  let c0_i32_9339 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9338 : BitVec 32 := 1#32
  let v11497 : BitVec 32 := Scalar.muli v233 c1_i32_9338
  let v11498 : BitVec 32 := Scalar.addi c0_i32_9339 v11497
  v11498.toNat
def k0_dev195 (d0 : Dev nD) : Nat :=
  let c0_i32_9424 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9423 : BitVec 32 := 1#32
  let v11609 : BitVec 32 := Scalar.muli v233 c1_i32_9423
  let v11610 : BitVec 32 := Scalar.addi c0_i32_9424 v11609
  v11610.toNat
def k0_dev196 (d0 : Dev nD) : Nat :=
  let c0_i32_9435 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9434 : BitVec 32 := 1#32
  let v11613 : BitVec 32 := Scalar.muli v160 c1_i32_9434
  let v11614 : BitVec 32 := Scalar.addi c0_i32_9435 v11613
  v11614.toNat
def k0_dev197 (d0 : Dev nD) : Nat :=
  let c0_i32_9520 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9519 : BitVec 32 := 1#32
  let v11725 : BitVec 32 := Scalar.muli v160 c1_i32_9519
  let v11726 : BitVec 32 := Scalar.addi c0_i32_9520 v11725
  v11726.toNat
def k0_dev198 (d0 : Dev nD) : Nat :=
  let c0_i32_9531 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9530 : BitVec 32 := 1#32
  let v11729 : BitVec 32 := Scalar.muli v233 c1_i32_9530
  let v11730 : BitVec 32 := Scalar.addi c0_i32_9531 v11729
  v11730.toNat
def k0_dev199 (d0 : Dev nD) : Nat :=
  let c0_i32_9615 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9614 : BitVec 32 := 1#32
  let v11841 : BitVec 32 := Scalar.muli v233 c1_i32_9614
  let v11842 : BitVec 32 := Scalar.addi c0_i32_9615 v11841
  v11842.toNat
def k0_dev200 (d0 : Dev nD) : Nat :=
  let c0_i32_9626 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9625 : BitVec 32 := 1#32
  let v11845 : BitVec 32 := Scalar.muli v160 c1_i32_9625
  let v11846 : BitVec 32 := Scalar.addi c0_i32_9626 v11845
  v11846.toNat
def k0_dev201 (d0 : Dev nD) : Nat :=
  let c0_i32_9710 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9709 : BitVec 32 := 1#32
  let v11957 : BitVec 32 := Scalar.muli v160 c1_i32_9709
  let v11958 : BitVec 32 := Scalar.addi c0_i32_9710 v11957
  v11958.toNat
def k0_dev202 (d0 : Dev nD) : Nat :=
  let c0_i32_9721 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9720 : BitVec 32 := 1#32
  let v11961 : BitVec 32 := Scalar.muli v233 c1_i32_9720
  let v11962 : BitVec 32 := Scalar.addi c0_i32_9721 v11961
  v11962.toNat
def k0_dev203 (d0 : Dev nD) : Nat :=
  let c0_i32_9806 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9805 : BitVec 32 := 1#32
  let v12073 : BitVec 32 := Scalar.muli v233 c1_i32_9805
  let v12074 : BitVec 32 := Scalar.addi c0_i32_9806 v12073
  v12074.toNat
def k0_dev204 (d0 : Dev nD) : Nat :=
  let c0_i32_9817 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9816 : BitVec 32 := 1#32
  let v12077 : BitVec 32 := Scalar.muli v160 c1_i32_9816
  let v12078 : BitVec 32 := Scalar.addi c0_i32_9817 v12077
  v12078.toNat
def k0_dev205 (d0 : Dev nD) : Nat :=
  let c0_i32_9902 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_9901 : BitVec 32 := 1#32
  let v12189 : BitVec 32 := Scalar.muli v160 c1_i32_9901
  let v12190 : BitVec 32 := Scalar.addi c0_i32_9902 v12189
  v12190.toNat
def k0_dev206 (d0 : Dev nD) : Nat :=
  let c0_i32_9913 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9912 : BitVec 32 := 1#32
  let v12193 : BitVec 32 := Scalar.muli v233 c1_i32_9912
  let v12194 : BitVec 32 := Scalar.addi c0_i32_9913 v12193
  v12194.toNat
def k0_dev207 (d0 : Dev nD) : Nat :=
  let c0_i32_9997 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_9996 : BitVec 32 := 1#32
  let v12305 : BitVec 32 := Scalar.muli v233 c1_i32_9996
  let v12306 : BitVec 32 := Scalar.addi c0_i32_9997 v12305
  v12306.toNat
def k0_dev208 (d0 : Dev nD) : Nat :=
  let c0_i32_10008 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10007 : BitVec 32 := 1#32
  let v12309 : BitVec 32 := Scalar.muli v160 c1_i32_10007
  let v12310 : BitVec 32 := Scalar.addi c0_i32_10008 v12309
  v12310.toNat
def k0_dev209 (d0 : Dev nD) : Nat :=
  let c0_i32_10092 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10091 : BitVec 32 := 1#32
  let v12421 : BitVec 32 := Scalar.muli v160 c1_i32_10091
  let v12422 : BitVec 32 := Scalar.addi c0_i32_10092 v12421
  v12422.toNat
def k0_dev210 (d0 : Dev nD) : Nat :=
  let c0_i32_10103 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10102 : BitVec 32 := 1#32
  let v12425 : BitVec 32 := Scalar.muli v233 c1_i32_10102
  let v12426 : BitVec 32 := Scalar.addi c0_i32_10103 v12425
  v12426.toNat
def k0_dev211 (d0 : Dev nD) : Nat :=
  let c0_i32_10188 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10187 : BitVec 32 := 1#32
  let v12537 : BitVec 32 := Scalar.muli v233 c1_i32_10187
  let v12538 : BitVec 32 := Scalar.addi c0_i32_10188 v12537
  v12538.toNat
def k0_dev212 (d0 : Dev nD) : Nat :=
  let c0_i32_10199 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10198 : BitVec 32 := 1#32
  let v12541 : BitVec 32 := Scalar.muli v160 c1_i32_10198
  let v12542 : BitVec 32 := Scalar.addi c0_i32_10199 v12541
  v12542.toNat
def k0_dev213 (d0 : Dev nD) : Nat :=
  let c0_i32_10284 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10283 : BitVec 32 := 1#32
  let v12653 : BitVec 32 := Scalar.muli v160 c1_i32_10283
  let v12654 : BitVec 32 := Scalar.addi c0_i32_10284 v12653
  v12654.toNat
def k0_dev214 (d0 : Dev nD) : Nat :=
  let c0_i32_10295 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10294 : BitVec 32 := 1#32
  let v12657 : BitVec 32 := Scalar.muli v233 c1_i32_10294
  let v12658 : BitVec 32 := Scalar.addi c0_i32_10295 v12657
  v12658.toNat
def k0_dev215 (d0 : Dev nD) : Nat :=
  let c0_i32_10379 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10378 : BitVec 32 := 1#32
  let v12769 : BitVec 32 := Scalar.muli v233 c1_i32_10378
  let v12770 : BitVec 32 := Scalar.addi c0_i32_10379 v12769
  v12770.toNat
def k0_dev216 (d0 : Dev nD) : Nat :=
  let c0_i32_10390 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10389 : BitVec 32 := 1#32
  let v12773 : BitVec 32 := Scalar.muli v160 c1_i32_10389
  let v12774 : BitVec 32 := Scalar.addi c0_i32_10390 v12773
  v12774.toNat
def k0_dev217 (d0 : Dev nD) : Nat :=
  let c0_i32_10474 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10473 : BitVec 32 := 1#32
  let v12885 : BitVec 32 := Scalar.muli v160 c1_i32_10473
  let v12886 : BitVec 32 := Scalar.addi c0_i32_10474 v12885
  v12886.toNat
def k0_dev218 (d0 : Dev nD) : Nat :=
  let c0_i32_10485 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10484 : BitVec 32 := 1#32
  let v12889 : BitVec 32 := Scalar.muli v233 c1_i32_10484
  let v12890 : BitVec 32 := Scalar.addi c0_i32_10485 v12889
  v12890.toNat
def k0_dev219 (d0 : Dev nD) : Nat :=
  let c0_i32_10570 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10569 : BitVec 32 := 1#32
  let v13001 : BitVec 32 := Scalar.muli v233 c1_i32_10569
  let v13002 : BitVec 32 := Scalar.addi c0_i32_10570 v13001
  v13002.toNat
def k0_dev220 (d0 : Dev nD) : Nat :=
  let c0_i32_10581 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10580 : BitVec 32 := 1#32
  let v13005 : BitVec 32 := Scalar.muli v160 c1_i32_10580
  let v13006 : BitVec 32 := Scalar.addi c0_i32_10581 v13005
  v13006.toNat
def k0_dev221 (d0 : Dev nD) : Nat :=
  let c0_i32_10666 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10665 : BitVec 32 := 1#32
  let v13117 : BitVec 32 := Scalar.muli v160 c1_i32_10665
  let v13118 : BitVec 32 := Scalar.addi c0_i32_10666 v13117
  v13118.toNat
def k0_dev222 (d0 : Dev nD) : Nat :=
  let c0_i32_10677 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10676 : BitVec 32 := 1#32
  let v13121 : BitVec 32 := Scalar.muli v233 c1_i32_10676
  let v13122 : BitVec 32 := Scalar.addi c0_i32_10677 v13121
  v13122.toNat
def k0_dev223 (d0 : Dev nD) : Nat :=
  let c0_i32_10761 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10760 : BitVec 32 := 1#32
  let v13233 : BitVec 32 := Scalar.muli v233 c1_i32_10760
  let v13234 : BitVec 32 := Scalar.addi c0_i32_10761 v13233
  v13234.toNat
def k0_dev224 (d0 : Dev nD) : Nat :=
  let c0_i32_10772 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10771 : BitVec 32 := 1#32
  let v13237 : BitVec 32 := Scalar.muli v160 c1_i32_10771
  let v13238 : BitVec 32 := Scalar.addi c0_i32_10772 v13237
  v13238.toNat
def k0_dev225 (d0 : Dev nD) : Nat :=
  let c0_i32_10856 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10855 : BitVec 32 := 1#32
  let v13349 : BitVec 32 := Scalar.muli v160 c1_i32_10855
  let v13350 : BitVec 32 := Scalar.addi c0_i32_10856 v13349
  v13350.toNat
def k0_dev226 (d0 : Dev nD) : Nat :=
  let c0_i32_10867 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10866 : BitVec 32 := 1#32
  let v13353 : BitVec 32 := Scalar.muli v233 c1_i32_10866
  let v13354 : BitVec 32 := Scalar.addi c0_i32_10867 v13353
  v13354.toNat
def k0_dev227 (d0 : Dev nD) : Nat :=
  let c0_i32_10952 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_10951 : BitVec 32 := 1#32
  let v13465 : BitVec 32 := Scalar.muli v233 c1_i32_10951
  let v13466 : BitVec 32 := Scalar.addi c0_i32_10952 v13465
  v13466.toNat
def k0_dev228 (d0 : Dev nD) : Nat :=
  let c0_i32_10963 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_10962 : BitVec 32 := 1#32
  let v13469 : BitVec 32 := Scalar.muli v160 c1_i32_10962
  let v13470 : BitVec 32 := Scalar.addi c0_i32_10963 v13469
  v13470.toNat
def k0_dev229 (d0 : Dev nD) : Nat :=
  let c0_i32_11048 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11047 : BitVec 32 := 1#32
  let v13581 : BitVec 32 := Scalar.muli v160 c1_i32_11047
  let v13582 : BitVec 32 := Scalar.addi c0_i32_11048 v13581
  v13582.toNat
def k0_dev230 (d0 : Dev nD) : Nat :=
  let c0_i32_11059 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11058 : BitVec 32 := 1#32
  let v13585 : BitVec 32 := Scalar.muli v233 c1_i32_11058
  let v13586 : BitVec 32 := Scalar.addi c0_i32_11059 v13585
  v13586.toNat
def k0_dev231 (d0 : Dev nD) : Nat :=
  let c0_i32_11143 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11142 : BitVec 32 := 1#32
  let v13697 : BitVec 32 := Scalar.muli v233 c1_i32_11142
  let v13698 : BitVec 32 := Scalar.addi c0_i32_11143 v13697
  v13698.toNat
def k0_dev232 (d0 : Dev nD) : Nat :=
  let c0_i32_11154 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11153 : BitVec 32 := 1#32
  let v13701 : BitVec 32 := Scalar.muli v160 c1_i32_11153
  let v13702 : BitVec 32 := Scalar.addi c0_i32_11154 v13701
  v13702.toNat
def k0_dev233 (d0 : Dev nD) : Nat :=
  let c0_i32_11238 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11237 : BitVec 32 := 1#32
  let v13813 : BitVec 32 := Scalar.muli v160 c1_i32_11237
  let v13814 : BitVec 32 := Scalar.addi c0_i32_11238 v13813
  v13814.toNat
def k0_dev234 (d0 : Dev nD) : Nat :=
  let c0_i32_11249 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11248 : BitVec 32 := 1#32
  let v13817 : BitVec 32 := Scalar.muli v233 c1_i32_11248
  let v13818 : BitVec 32 := Scalar.addi c0_i32_11249 v13817
  v13818.toNat
def k0_dev235 (d0 : Dev nD) : Nat :=
  let c0_i32_11334 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11333 : BitVec 32 := 1#32
  let v13929 : BitVec 32 := Scalar.muli v233 c1_i32_11333
  let v13930 : BitVec 32 := Scalar.addi c0_i32_11334 v13929
  v13930.toNat
def k0_dev236 (d0 : Dev nD) : Nat :=
  let c0_i32_11345 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11344 : BitVec 32 := 1#32
  let v13933 : BitVec 32 := Scalar.muli v160 c1_i32_11344
  let v13934 : BitVec 32 := Scalar.addi c0_i32_11345 v13933
  v13934.toNat
def k0_dev237 (d0 : Dev nD) : Nat :=
  let c0_i32_11430 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11429 : BitVec 32 := 1#32
  let v14045 : BitVec 32 := Scalar.muli v160 c1_i32_11429
  let v14046 : BitVec 32 := Scalar.addi c0_i32_11430 v14045
  v14046.toNat
def k0_dev238 (d0 : Dev nD) : Nat :=
  let c0_i32_11441 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11440 : BitVec 32 := 1#32
  let v14049 : BitVec 32 := Scalar.muli v233 c1_i32_11440
  let v14050 : BitVec 32 := Scalar.addi c0_i32_11441 v14049
  v14050.toNat
def k0_dev239 (d0 : Dev nD) : Nat :=
  let c0_i32_11533 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11532 : BitVec 32 := 1#32
  let v14161 : BitVec 32 := Scalar.muli v160 c1_i32_11532
  let v14162 : BitVec 32 := Scalar.addi c0_i32_11533 v14161
  v14162.toNat
def k0_dev240 (d0 : Dev nD) : Nat :=
  let c0_i32_11624 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11623 : BitVec 32 := 1#32
  let v14273 : BitVec 32 := Scalar.muli v233 c1_i32_11623
  let v14274 : BitVec 32 := Scalar.addi c0_i32_11624 v14273
  v14274.toNat
def k0_dev241 (d0 : Dev nD) : Nat :=
  let c0_i32_11716 : BitVec 32 := 0#32
  let c8_i32_71 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_39 : BitVec 32 := 1#32
  let v88 : BitVec 32 := Scalar.addi v87 c1_i32_39
  let c32_i32_40 : BitVec 32 := 32#32
  let c0_i32_41 : BitVec 32 := 0#32
  let v89 : BitVec 1 := Scalar.cmpi .eq c32_i32_40 c0_i32_41
  let c1_i32_42 : BitVec 32 := 1#32
  let v90 : BitVec 32 := Scalar.select v89 c1_i32_42 c32_i32_40
  let v91 : BitVec 32 := Scalar.remsi v88 v90
  let c0_i32_44 : BitVec 32 := 0#32
  let v93 : BitVec 1 := Scalar.cmpi .slt v91 c0_i32_44
  let c0_i32_45 : BitVec 32 := 0#32
  let v94 : BitVec 1 := Scalar.cmpi .slt v90 c0_i32_45
  let v95 : BitVec 1 := Scalar.xori v93 v94
  let c0_i32_43 : BitVec 32 := 0#32
  let v92 : BitVec 1 := Scalar.cmpi .ne v91 c0_i32_43
  let v96 : BitVec 1 := Scalar.andi v95 v92
  let v97 : BitVec 32 := Scalar.addi v91 v90
  let v98 : BitVec 32 := Scalar.select v96 v97 v91
  let c16_i32_48 : BitVec 32 := 16#32
  let v101 : BitVec 1 := Scalar.cmpi .slt v98 c16_i32_48
  let c31_i32_49 : BitVec 32 := 31#32
  let v102 : BitVec 32 := Scalar.subi c31_i32_49 v98
  let v103 : BitVec 32 := Scalar.select v101 v98 v102
  let c0_i32_51 : BitVec 32 := 0#32
  let v105 : BitVec 1 := Scalar.cmpi .sgt v103 c0_i32_51
  let v106 : BitVec 32 := Scalar.extui v105
  let c0_i32_52 : BitVec 32 := 0#32
  let v107 : BitVec 1 := Scalar.cmpi .slt v103 c0_i32_52
  let v108 : BitVec 32 := Scalar.extui v107
  let v109 : BitVec 32 := Scalar.subi v106 v108
  let c4_i32_50 : BitVec 32 := 4#32
  let c0_i32_53 : BitVec 32 := 0#32
  let v110 : BitVec 1 := Scalar.cmpi .sgt c4_i32_50 c0_i32_53
  let v111 : BitVec 32 := Scalar.extui v110
  let c0_i32_54 : BitVec 32 := 0#32
  let v112 : BitVec 1 := Scalar.cmpi .slt c4_i32_50 c0_i32_54
  let v113 : BitVec 32 := Scalar.extui v112
  let v114 : BitVec 32 := Scalar.subi v111 v113
  let v115 : BitVec 1 := Scalar.cmpi .ne v109 v114
  let v116 : BitVec 32 := Scalar.remsi v103 c4_i32_50
  let c0_i32_55 : BitVec 32 := 0#32
  let v117 : BitVec 1 := Scalar.cmpi .ne v116 c0_i32_55
  let v118 : BitVec 1 := Scalar.andi v115 v117
  let v104 : BitVec 32 := Scalar.divsi v103 c4_i32_50
  let c1_i32_56 : BitVec 32 := 1#32
  let v119 : BitVec 32 := Scalar.subi v104 c1_i32_56
  let v120 : BitVec 32 := Scalar.select v118 v119 v104
  let v144 : BitVec 32 := Scalar.muli c8_i32_71 v120
  let c2_i32_72 : BitVec 32 := 2#32
  let c2_i32_63 : BitVec 32 := 2#32
  let c0_i32_64 : BitVec 32 := 0#32
  let v131 : BitVec 1 := Scalar.cmpi .eq c2_i32_63 c0_i32_64
  let c1_i32_65 : BitVec 32 := 1#32
  let v132 : BitVec 32 := Scalar.select v131 c1_i32_65 c2_i32_63
  let v133 : BitVec 32 := Scalar.remsi v120 v132
  let c0_i32_67 : BitVec 32 := 0#32
  let v135 : BitVec 1 := Scalar.cmpi .slt v133 c0_i32_67
  let c0_i32_68 : BitVec 32 := 0#32
  let v136 : BitVec 1 := Scalar.cmpi .slt v132 c0_i32_68
  let v137 : BitVec 1 := Scalar.xori v135 v136
  let c0_i32_66 : BitVec 32 := 0#32
  let v134 : BitVec 1 := Scalar.cmpi .ne v133 c0_i32_66
  let v138 : BitVec 1 := Scalar.andi v137 v134
  let v139 : BitVec 32 := Scalar.addi v133 v132
  let v140 : BitVec 32 := Scalar.select v138 v139 v133
  let c0_i32_69 : BitVec 32 := 0#32
  let v141 : BitVec 1 := Scalar.cmpi .eq v140 c0_i32_69
  let c4_i32_57 : BitVec 32 := 4#32
  let c0_i32_58 : BitVec 32 := 0#32
  let v121 : BitVec 1 := Scalar.cmpi .eq c4_i32_57 c0_i32_58
  let c1_i32_59 : BitVec 32 := 1#32
  let v122 : BitVec 32 := Scalar.select v121 c1_i32_59 c4_i32_57
  let v123 : BitVec 32 := Scalar.remsi v103 v122
  let c0_i32_61 : BitVec 32 := 0#32
  let v125 : BitVec 1 := Scalar.cmpi .slt v123 c0_i32_61
  let c0_i32_62 : BitVec 32 := 0#32
  let v126 : BitVec 1 := Scalar.cmpi .slt v122 c0_i32_62
  let v127 : BitVec 1 := Scalar.xori v125 v126
  let c0_i32_60 : BitVec 32 := 0#32
  let v124 : BitVec 1 := Scalar.cmpi .ne v123 c0_i32_60
  let v128 : BitVec 1 := Scalar.andi v127 v124
  let v129 : BitVec 32 := Scalar.addi v123 v122
  let v130 : BitVec 32 := Scalar.select v128 v129 v123
  let c3_i32_70 : BitVec 32 := 3#32
  let v142 : BitVec 32 := Scalar.subi c3_i32_70 v130
  let v143 : BitVec 32 := Scalar.select v141 v130 v142
  let v145 : BitVec 32 := Scalar.muli c2_i32_72 v143
  let v146 : BitVec 32 := Scalar.addi v144 v145
  let c2_i32_73 : BitVec 32 := 2#32
  let c0_i32_74 : BitVec 32 := 0#32
  let v147 : BitVec 1 := Scalar.cmpi .eq c2_i32_73 c0_i32_74
  let c1_i32_75 : BitVec 32 := 1#32
  let v148 : BitVec 32 := Scalar.select v147 c1_i32_75 c2_i32_73
  let v149 : BitVec 32 := Scalar.remsi v143 v148
  let c0_i32_77 : BitVec 32 := 0#32
  let v151 : BitVec 1 := Scalar.cmpi .slt v149 c0_i32_77
  let c0_i32_78 : BitVec 32 := 0#32
  let v152 : BitVec 1 := Scalar.cmpi .slt v148 c0_i32_78
  let v153 : BitVec 1 := Scalar.xori v151 v152
  let c0_i32_76 : BitVec 32 := 0#32
  let v150 : BitVec 1 := Scalar.cmpi .ne v149 c0_i32_76
  let v154 : BitVec 1 := Scalar.andi v153 v150
  let v155 : BitVec 32 := Scalar.addi v149 v148
  let v156 : BitVec 32 := Scalar.select v154 v155 v149
  let c0_i32_79 : BitVec 32 := 0#32
  let v157 : BitVec 1 := Scalar.cmpi .eq v156 c0_i32_79
  let c16_i32 : BitVec 32 := 16#32
  let v99 : BitVec 1 := Scalar.cmpi .slt v98 c16_i32
  let c0_i32_46 : BitVec 32 := 0#32
  let c1_i32_47 : BitVec 32 := 1#32
  let v100 : BitVec 32 := Scalar.select v99 c0_i32_46 c1_i32_47
  let c1_i32_80 : BitVec 32 := 1#32
  let v158 : BitVec 32 := Scalar.subi c1_i32_80 v100
  let v159 : BitVec 32 := Scalar.select v157 v100 v158
  let v160 : BitVec 32 := Scalar.addi v146 v159
  let c1_i32_11715 : BitVec 32 := 1#32
  let v14385 : BitVec 32 := Scalar.muli v160 c1_i32_11715
  let v14386 : BitVec 32 := Scalar.addi c0_i32_11716 v14385
  v14386.toNat
def k0_dev242 (d0 : Dev nD) : Nat :=
  let c0_i32_11808 : BitVec 32 := 0#32
  let c8_i32_114 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c0_i32_38 : BitVec 32 := 0#32
  let v85 : BitVec 1 := Scalar.cmpi .eq v69 c0_i32_38
  let c4_i32 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v70 : BitVec 32 := Scalar.muli c4_i32 v19
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v19 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c0_i32_37 : BitVec 32 := 0#32
  let v81 : BitVec 1 := Scalar.cmpi .eq v80 c0_i32_37
  let c3_i32 : BitVec 32 := 3#32
  let v82 : BitVec 32 := Scalar.subi c3_i32 v46
  let v83 : BitVec 32 := Scalar.select v81 v46 v82
  let v84 : BitVec 32 := Scalar.addi v70 v83
  let c31_i32 : BitVec 32 := 31#32
  let v86 : BitVec 32 := Scalar.subi c31_i32 v84
  let v87 : BitVec 32 := Scalar.select v85 v84 v86
  let c1_i32_81 : BitVec 32 := 1#32
  let v161 : BitVec 32 := Scalar.subi v87 c1_i32_81
  let c32_i32_82 : BitVec 32 := 32#32
  let c0_i32_83 : BitVec 32 := 0#32
  let v162 : BitVec 1 := Scalar.cmpi .eq c32_i32_82 c0_i32_83
  let c1_i32_84 : BitVec 32 := 1#32
  let v163 : BitVec 32 := Scalar.select v162 c1_i32_84 c32_i32_82
  let v164 : BitVec 32 := Scalar.remsi v161 v163
  let c0_i32_86 : BitVec 32 := 0#32
  let v166 : BitVec 1 := Scalar.cmpi .slt v164 c0_i32_86
  let c0_i32_87 : BitVec 32 := 0#32
  let v167 : BitVec 1 := Scalar.cmpi .slt v163 c0_i32_87
  let v168 : BitVec 1 := Scalar.xori v166 v167
  let c0_i32_85 : BitVec 32 := 0#32
  let v165 : BitVec 1 := Scalar.cmpi .ne v164 c0_i32_85
  let v169 : BitVec 1 := Scalar.andi v168 v165
  let v170 : BitVec 32 := Scalar.addi v164 v163
  let v171 : BitVec 32 := Scalar.select v169 v170 v164
  let c16_i32_91 : BitVec 32 := 16#32
  let v174 : BitVec 1 := Scalar.cmpi .slt v171 c16_i32_91
  let c31_i32_92 : BitVec 32 := 31#32
  let v175 : BitVec 32 := Scalar.subi c31_i32_92 v171
  let v176 : BitVec 32 := Scalar.select v174 v171 v175
  let c0_i32_94 : BitVec 32 := 0#32
  let v178 : BitVec 1 := Scalar.cmpi .sgt v176 c0_i32_94
  let v179 : BitVec 32 := Scalar.extui v178
  let c0_i32_95 : BitVec 32 := 0#32
  let v180 : BitVec 1 := Scalar.cmpi .slt v176 c0_i32_95
  let v181 : BitVec 32 := Scalar.extui v180
  let v182 : BitVec 32 := Scalar.subi v179 v181
  let c4_i32_93 : BitVec 32 := 4#32
  let c0_i32_96 : BitVec 32 := 0#32
  let v183 : BitVec 1 := Scalar.cmpi .sgt c4_i32_93 c0_i32_96
  let v184 : BitVec 32 := Scalar.extui v183
  let c0_i32_97 : BitVec 32 := 0#32
  let v185 : BitVec 1 := Scalar.cmpi .slt c4_i32_93 c0_i32_97
  let v186 : BitVec 32 := Scalar.extui v185
  let v187 : BitVec 32 := Scalar.subi v184 v186
  let v188 : BitVec 1 := Scalar.cmpi .ne v182 v187
  let v189 : BitVec 32 := Scalar.remsi v176 c4_i32_93
  let c0_i32_98 : BitVec 32 := 0#32
  let v190 : BitVec 1 := Scalar.cmpi .ne v189 c0_i32_98
  let v191 : BitVec 1 := Scalar.andi v188 v190
  let v177 : BitVec 32 := Scalar.divsi v176 c4_i32_93
  let c1_i32_99 : BitVec 32 := 1#32
  let v192 : BitVec 32 := Scalar.subi v177 c1_i32_99
  let v193 : BitVec 32 := Scalar.select v191 v192 v177
  let v217 : BitVec 32 := Scalar.muli c8_i32_114 v193
  let c2_i32_115 : BitVec 32 := 2#32
  let c2_i32_106 : BitVec 32 := 2#32
  let c0_i32_107 : BitVec 32 := 0#32
  let v204 : BitVec 1 := Scalar.cmpi .eq c2_i32_106 c0_i32_107
  let c1_i32_108 : BitVec 32 := 1#32
  let v205 : BitVec 32 := Scalar.select v204 c1_i32_108 c2_i32_106
  let v206 : BitVec 32 := Scalar.remsi v193 v205
  let c0_i32_110 : BitVec 32 := 0#32
  let v208 : BitVec 1 := Scalar.cmpi .slt v206 c0_i32_110
  let c0_i32_111 : BitVec 32 := 0#32
  let v209 : BitVec 1 := Scalar.cmpi .slt v205 c0_i32_111
  let v210 : BitVec 1 := Scalar.xori v208 v209
  let c0_i32_109 : BitVec 32 := 0#32
  let v207 : BitVec 1 := Scalar.cmpi .ne v206 c0_i32_109
  let v211 : BitVec 1 := Scalar.andi v210 v207
  let v212 : BitVec 32 := Scalar.addi v206 v205
  let v213 : BitVec 32 := Scalar.select v211 v212 v206
  let c0_i32_112 : BitVec 32 := 0#32
  let v214 : BitVec 1 := Scalar.cmpi .eq v213 c0_i32_112
  let c4_i32_100 : BitVec 32 := 4#32
  let c0_i32_101 : BitVec 32 := 0#32
  let v194 : BitVec 1 := Scalar.cmpi .eq c4_i32_100 c0_i32_101
  let c1_i32_102 : BitVec 32 := 1#32
  let v195 : BitVec 32 := Scalar.select v194 c1_i32_102 c4_i32_100
  let v196 : BitVec 32 := Scalar.remsi v176 v195
  let c0_i32_104 : BitVec 32 := 0#32
  let v198 : BitVec 1 := Scalar.cmpi .slt v196 c0_i32_104
  let c0_i32_105 : BitVec 32 := 0#32
  let v199 : BitVec 1 := Scalar.cmpi .slt v195 c0_i32_105
  let v200 : BitVec 1 := Scalar.xori v198 v199
  let c0_i32_103 : BitVec 32 := 0#32
  let v197 : BitVec 1 := Scalar.cmpi .ne v196 c0_i32_103
  let v201 : BitVec 1 := Scalar.andi v200 v197
  let v202 : BitVec 32 := Scalar.addi v196 v195
  let v203 : BitVec 32 := Scalar.select v201 v202 v196
  let c3_i32_113 : BitVec 32 := 3#32
  let v215 : BitVec 32 := Scalar.subi c3_i32_113 v203
  let v216 : BitVec 32 := Scalar.select v214 v203 v215
  let v218 : BitVec 32 := Scalar.muli c2_i32_115 v216
  let v219 : BitVec 32 := Scalar.addi v217 v218
  let c2_i32_116 : BitVec 32 := 2#32
  let c0_i32_117 : BitVec 32 := 0#32
  let v220 : BitVec 1 := Scalar.cmpi .eq c2_i32_116 c0_i32_117
  let c1_i32_118 : BitVec 32 := 1#32
  let v221 : BitVec 32 := Scalar.select v220 c1_i32_118 c2_i32_116
  let v222 : BitVec 32 := Scalar.remsi v216 v221
  let c0_i32_120 : BitVec 32 := 0#32
  let v224 : BitVec 1 := Scalar.cmpi .slt v222 c0_i32_120
  let c0_i32_121 : BitVec 32 := 0#32
  let v225 : BitVec 1 := Scalar.cmpi .slt v221 c0_i32_121
  let v226 : BitVec 1 := Scalar.xori v224 v225
  let c0_i32_119 : BitVec 32 := 0#32
  let v223 : BitVec 1 := Scalar.cmpi .ne v222 c0_i32_119
  let v227 : BitVec 1 := Scalar.andi v226 v223
  let v228 : BitVec 32 := Scalar.addi v222 v221
  let v229 : BitVec 32 := Scalar.select v227 v228 v222
  let c0_i32_122 : BitVec 32 := 0#32
  let v230 : BitVec 1 := Scalar.cmpi .eq v229 c0_i32_122
  let c16_i32_88 : BitVec 32 := 16#32
  let v172 : BitVec 1 := Scalar.cmpi .slt v171 c16_i32_88
  let c0_i32_89 : BitVec 32 := 0#32
  let c1_i32_90 : BitVec 32 := 1#32
  let v173 : BitVec 32 := Scalar.select v172 c0_i32_89 c1_i32_90
  let c1_i32_123 : BitVec 32 := 1#32
  let v231 : BitVec 32 := Scalar.subi c1_i32_123 v173
  let v232 : BitVec 32 := Scalar.select v230 v173 v231
  let v233 : BitVec 32 := Scalar.addi v219 v232
  let c1_i32_11807 : BitVec 32 := 1#32
  let v14497 : BitVec 32 := Scalar.muli v233 c1_i32_11807
  let v14498 : BitVec 32 := Scalar.addi c0_i32_11808 v14497
  v14498.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_11839 : BitVec 32 := 128#32
  let v14523 : BitVec 32 := Scalar.muli v2 c128_i32_11839
  let v14524 : Index := Scalar.indexCast v14523
  let c0_11840 : Index := 0#32
  ![v14524.toNat, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v14615 : Index := Scalar.indexCast v2
  let c0_11943 : Index := 0#32
  let c0_11944 : Index := 0#32
  ![v14615.toNat, 0, 0]
def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_11955 : BitVec 32 := 0#32
  let c0_i32_11956 : BitVec 32 := 0#32
  ![v2.toNat, 0, 0]
def k0_dev243 (d0 : Dev nD) : Nat :=
  let c0_i32_11954 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_11945 : BitVec 32 := 1#32
  let v14619 : BitVec 32 := Scalar.addi v2 c1_i32_11945
  let c32_i32_11946 : BitVec 32 := 32#32
  let c0_i32_11947 : BitVec 32 := 0#32
  let v14620 : BitVec 1 := Scalar.cmpi .eq c32_i32_11946 c0_i32_11947
  let c1_i32_11948 : BitVec 32 := 1#32
  let v14621 : BitVec 32 := Scalar.select v14620 c1_i32_11948 c32_i32_11946
  let v14622 : BitVec 32 := Scalar.remsi v14619 v14621
  let c0_i32_11950 : BitVec 32 := 0#32
  let v14624 : BitVec 1 := Scalar.cmpi .slt v14622 c0_i32_11950
  let c0_i32_11951 : BitVec 32 := 0#32
  let v14625 : BitVec 1 := Scalar.cmpi .slt v14621 c0_i32_11951
  let v14626 : BitVec 1 := Scalar.xori v14624 v14625
  let c0_i32_11949 : BitVec 32 := 0#32
  let v14623 : BitVec 1 := Scalar.cmpi .ne v14622 c0_i32_11949
  let v14627 : BitVec 1 := Scalar.andi v14626 v14623
  let v14628 : BitVec 32 := Scalar.addi v14622 v14621
  let v14629 : BitVec 32 := Scalar.select v14627 v14628 v14622
  let c1_i32_11953 : BitVec 32 := 1#32
  let v14630 : BitVec 32 := Scalar.muli v14629 c1_i32_11953
  let v14631 : BitVec 32 := Scalar.addi c0_i32_11954 v14630
  v14631.toNat
def k0_dev244 (d0 : Dev nD) : Nat :=
  let c0_i32_11966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_11957 : BitVec 32 := 2#32
  let v14638 : BitVec 32 := Scalar.addi v2 c2_i32_11957
  let c32_i32_11958 : BitVec 32 := 32#32
  let c0_i32_11959 : BitVec 32 := 0#32
  let v14639 : BitVec 1 := Scalar.cmpi .eq c32_i32_11958 c0_i32_11959
  let c1_i32_11960 : BitVec 32 := 1#32
  let v14640 : BitVec 32 := Scalar.select v14639 c1_i32_11960 c32_i32_11958
  let v14641 : BitVec 32 := Scalar.remsi v14638 v14640
  let c0_i32_11962 : BitVec 32 := 0#32
  let v14643 : BitVec 1 := Scalar.cmpi .slt v14641 c0_i32_11962
  let c0_i32_11963 : BitVec 32 := 0#32
  let v14644 : BitVec 1 := Scalar.cmpi .slt v14640 c0_i32_11963
  let v14645 : BitVec 1 := Scalar.xori v14643 v14644
  let c0_i32_11961 : BitVec 32 := 0#32
  let v14642 : BitVec 1 := Scalar.cmpi .ne v14641 c0_i32_11961
  let v14646 : BitVec 1 := Scalar.andi v14645 v14642
  let v14647 : BitVec 32 := Scalar.addi v14641 v14640
  let v14648 : BitVec 32 := Scalar.select v14646 v14647 v14641
  let c1_i32_11965 : BitVec 32 := 1#32
  let v14649 : BitVec 32 := Scalar.muli v14648 c1_i32_11965
  let v14650 : BitVec 32 := Scalar.addi c0_i32_11966 v14649
  v14650.toNat
def k0_dev245 (d0 : Dev nD) : Nat :=
  let c0_i32_11978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_11969 : BitVec 32 := 3#32
  let v14657 : BitVec 32 := Scalar.addi v2 c3_i32_11969
  let c32_i32_11970 : BitVec 32 := 32#32
  let c0_i32_11971 : BitVec 32 := 0#32
  let v14658 : BitVec 1 := Scalar.cmpi .eq c32_i32_11970 c0_i32_11971
  let c1_i32_11972 : BitVec 32 := 1#32
  let v14659 : BitVec 32 := Scalar.select v14658 c1_i32_11972 c32_i32_11970
  let v14660 : BitVec 32 := Scalar.remsi v14657 v14659
  let c0_i32_11974 : BitVec 32 := 0#32
  let v14662 : BitVec 1 := Scalar.cmpi .slt v14660 c0_i32_11974
  let c0_i32_11975 : BitVec 32 := 0#32
  let v14663 : BitVec 1 := Scalar.cmpi .slt v14659 c0_i32_11975
  let v14664 : BitVec 1 := Scalar.xori v14662 v14663
  let c0_i32_11973 : BitVec 32 := 0#32
  let v14661 : BitVec 1 := Scalar.cmpi .ne v14660 c0_i32_11973
  let v14665 : BitVec 1 := Scalar.andi v14664 v14661
  let v14666 : BitVec 32 := Scalar.addi v14660 v14659
  let v14667 : BitVec 32 := Scalar.select v14665 v14666 v14660
  let c1_i32_11977 : BitVec 32 := 1#32
  let v14668 : BitVec 32 := Scalar.muli v14667 c1_i32_11977
  let v14669 : BitVec 32 := Scalar.addi c0_i32_11978 v14668
  v14669.toNat
def k0_dev246 (d0 : Dev nD) : Nat :=
  let c0_i32_11990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_11981 : BitVec 32 := 4#32
  let v14676 : BitVec 32 := Scalar.addi v2 c4_i32_11981
  let c32_i32_11982 : BitVec 32 := 32#32
  let c0_i32_11983 : BitVec 32 := 0#32
  let v14677 : BitVec 1 := Scalar.cmpi .eq c32_i32_11982 c0_i32_11983
  let c1_i32_11984 : BitVec 32 := 1#32
  let v14678 : BitVec 32 := Scalar.select v14677 c1_i32_11984 c32_i32_11982
  let v14679 : BitVec 32 := Scalar.remsi v14676 v14678
  let c0_i32_11986 : BitVec 32 := 0#32
  let v14681 : BitVec 1 := Scalar.cmpi .slt v14679 c0_i32_11986
  let c0_i32_11987 : BitVec 32 := 0#32
  let v14682 : BitVec 1 := Scalar.cmpi .slt v14678 c0_i32_11987
  let v14683 : BitVec 1 := Scalar.xori v14681 v14682
  let c0_i32_11985 : BitVec 32 := 0#32
  let v14680 : BitVec 1 := Scalar.cmpi .ne v14679 c0_i32_11985
  let v14684 : BitVec 1 := Scalar.andi v14683 v14680
  let v14685 : BitVec 32 := Scalar.addi v14679 v14678
  let v14686 : BitVec 32 := Scalar.select v14684 v14685 v14679
  let c1_i32_11989 : BitVec 32 := 1#32
  let v14687 : BitVec 32 := Scalar.muli v14686 c1_i32_11989
  let v14688 : BitVec 32 := Scalar.addi c0_i32_11990 v14687
  v14688.toNat
def k0_dev247 (d0 : Dev nD) : Nat :=
  let c0_i32_12002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_11993 : BitVec 32 := 5#32
  let v14695 : BitVec 32 := Scalar.addi v2 c5_i32_11993
  let c32_i32_11994 : BitVec 32 := 32#32
  let c0_i32_11995 : BitVec 32 := 0#32
  let v14696 : BitVec 1 := Scalar.cmpi .eq c32_i32_11994 c0_i32_11995
  let c1_i32_11996 : BitVec 32 := 1#32
  let v14697 : BitVec 32 := Scalar.select v14696 c1_i32_11996 c32_i32_11994
  let v14698 : BitVec 32 := Scalar.remsi v14695 v14697
  let c0_i32_11998 : BitVec 32 := 0#32
  let v14700 : BitVec 1 := Scalar.cmpi .slt v14698 c0_i32_11998
  let c0_i32_11999 : BitVec 32 := 0#32
  let v14701 : BitVec 1 := Scalar.cmpi .slt v14697 c0_i32_11999
  let v14702 : BitVec 1 := Scalar.xori v14700 v14701
  let c0_i32_11997 : BitVec 32 := 0#32
  let v14699 : BitVec 1 := Scalar.cmpi .ne v14698 c0_i32_11997
  let v14703 : BitVec 1 := Scalar.andi v14702 v14699
  let v14704 : BitVec 32 := Scalar.addi v14698 v14697
  let v14705 : BitVec 32 := Scalar.select v14703 v14704 v14698
  let c1_i32_12001 : BitVec 32 := 1#32
  let v14706 : BitVec 32 := Scalar.muli v14705 c1_i32_12001
  let v14707 : BitVec 32 := Scalar.addi c0_i32_12002 v14706
  v14707.toNat
def k0_dev248 (d0 : Dev nD) : Nat :=
  let c0_i32_12014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_12005 : BitVec 32 := 6#32
  let v14714 : BitVec 32 := Scalar.addi v2 c6_i32_12005
  let c32_i32_12006 : BitVec 32 := 32#32
  let c0_i32_12007 : BitVec 32 := 0#32
  let v14715 : BitVec 1 := Scalar.cmpi .eq c32_i32_12006 c0_i32_12007
  let c1_i32_12008 : BitVec 32 := 1#32
  let v14716 : BitVec 32 := Scalar.select v14715 c1_i32_12008 c32_i32_12006
  let v14717 : BitVec 32 := Scalar.remsi v14714 v14716
  let c0_i32_12010 : BitVec 32 := 0#32
  let v14719 : BitVec 1 := Scalar.cmpi .slt v14717 c0_i32_12010
  let c0_i32_12011 : BitVec 32 := 0#32
  let v14720 : BitVec 1 := Scalar.cmpi .slt v14716 c0_i32_12011
  let v14721 : BitVec 1 := Scalar.xori v14719 v14720
  let c0_i32_12009 : BitVec 32 := 0#32
  let v14718 : BitVec 1 := Scalar.cmpi .ne v14717 c0_i32_12009
  let v14722 : BitVec 1 := Scalar.andi v14721 v14718
  let v14723 : BitVec 32 := Scalar.addi v14717 v14716
  let v14724 : BitVec 32 := Scalar.select v14722 v14723 v14717
  let c1_i32_12013 : BitVec 32 := 1#32
  let v14725 : BitVec 32 := Scalar.muli v14724 c1_i32_12013
  let v14726 : BitVec 32 := Scalar.addi c0_i32_12014 v14725
  v14726.toNat
def k0_dev249 (d0 : Dev nD) : Nat :=
  let c0_i32_12026 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_12017 : BitVec 32 := 7#32
  let v14733 : BitVec 32 := Scalar.addi v2 c7_i32_12017
  let c32_i32_12018 : BitVec 32 := 32#32
  let c0_i32_12019 : BitVec 32 := 0#32
  let v14734 : BitVec 1 := Scalar.cmpi .eq c32_i32_12018 c0_i32_12019
  let c1_i32_12020 : BitVec 32 := 1#32
  let v14735 : BitVec 32 := Scalar.select v14734 c1_i32_12020 c32_i32_12018
  let v14736 : BitVec 32 := Scalar.remsi v14733 v14735
  let c0_i32_12022 : BitVec 32 := 0#32
  let v14738 : BitVec 1 := Scalar.cmpi .slt v14736 c0_i32_12022
  let c0_i32_12023 : BitVec 32 := 0#32
  let v14739 : BitVec 1 := Scalar.cmpi .slt v14735 c0_i32_12023
  let v14740 : BitVec 1 := Scalar.xori v14738 v14739
  let c0_i32_12021 : BitVec 32 := 0#32
  let v14737 : BitVec 1 := Scalar.cmpi .ne v14736 c0_i32_12021
  let v14741 : BitVec 1 := Scalar.andi v14740 v14737
  let v14742 : BitVec 32 := Scalar.addi v14736 v14735
  let v14743 : BitVec 32 := Scalar.select v14741 v14742 v14736
  let c1_i32_12025 : BitVec 32 := 1#32
  let v14744 : BitVec 32 := Scalar.muli v14743 c1_i32_12025
  let v14745 : BitVec 32 := Scalar.addi c0_i32_12026 v14744
  v14745.toNat
def k0_dev250 (d0 : Dev nD) : Nat :=
  let c0_i32_12038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_12029 : BitVec 32 := 8#32
  let v14752 : BitVec 32 := Scalar.addi v2 c8_i32_12029
  let c32_i32_12030 : BitVec 32 := 32#32
  let c0_i32_12031 : BitVec 32 := 0#32
  let v14753 : BitVec 1 := Scalar.cmpi .eq c32_i32_12030 c0_i32_12031
  let c1_i32_12032 : BitVec 32 := 1#32
  let v14754 : BitVec 32 := Scalar.select v14753 c1_i32_12032 c32_i32_12030
  let v14755 : BitVec 32 := Scalar.remsi v14752 v14754
  let c0_i32_12034 : BitVec 32 := 0#32
  let v14757 : BitVec 1 := Scalar.cmpi .slt v14755 c0_i32_12034
  let c0_i32_12035 : BitVec 32 := 0#32
  let v14758 : BitVec 1 := Scalar.cmpi .slt v14754 c0_i32_12035
  let v14759 : BitVec 1 := Scalar.xori v14757 v14758
  let c0_i32_12033 : BitVec 32 := 0#32
  let v14756 : BitVec 1 := Scalar.cmpi .ne v14755 c0_i32_12033
  let v14760 : BitVec 1 := Scalar.andi v14759 v14756
  let v14761 : BitVec 32 := Scalar.addi v14755 v14754
  let v14762 : BitVec 32 := Scalar.select v14760 v14761 v14755
  let c1_i32_12037 : BitVec 32 := 1#32
  let v14763 : BitVec 32 := Scalar.muli v14762 c1_i32_12037
  let v14764 : BitVec 32 := Scalar.addi c0_i32_12038 v14763
  v14764.toNat
def k0_dev251 (d0 : Dev nD) : Nat :=
  let c0_i32_12050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_12041 : BitVec 32 := 9#32
  let v14771 : BitVec 32 := Scalar.addi v2 c9_i32_12041
  let c32_i32_12042 : BitVec 32 := 32#32
  let c0_i32_12043 : BitVec 32 := 0#32
  let v14772 : BitVec 1 := Scalar.cmpi .eq c32_i32_12042 c0_i32_12043
  let c1_i32_12044 : BitVec 32 := 1#32
  let v14773 : BitVec 32 := Scalar.select v14772 c1_i32_12044 c32_i32_12042
  let v14774 : BitVec 32 := Scalar.remsi v14771 v14773
  let c0_i32_12046 : BitVec 32 := 0#32
  let v14776 : BitVec 1 := Scalar.cmpi .slt v14774 c0_i32_12046
  let c0_i32_12047 : BitVec 32 := 0#32
  let v14777 : BitVec 1 := Scalar.cmpi .slt v14773 c0_i32_12047
  let v14778 : BitVec 1 := Scalar.xori v14776 v14777
  let c0_i32_12045 : BitVec 32 := 0#32
  let v14775 : BitVec 1 := Scalar.cmpi .ne v14774 c0_i32_12045
  let v14779 : BitVec 1 := Scalar.andi v14778 v14775
  let v14780 : BitVec 32 := Scalar.addi v14774 v14773
  let v14781 : BitVec 32 := Scalar.select v14779 v14780 v14774
  let c1_i32_12049 : BitVec 32 := 1#32
  let v14782 : BitVec 32 := Scalar.muli v14781 c1_i32_12049
  let v14783 : BitVec 32 := Scalar.addi c0_i32_12050 v14782
  v14783.toNat
def k0_dev252 (d0 : Dev nD) : Nat :=
  let c0_i32_12062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_12053 : BitVec 32 := 10#32
  let v14790 : BitVec 32 := Scalar.addi v2 c10_i32_12053
  let c32_i32_12054 : BitVec 32 := 32#32
  let c0_i32_12055 : BitVec 32 := 0#32
  let v14791 : BitVec 1 := Scalar.cmpi .eq c32_i32_12054 c0_i32_12055
  let c1_i32_12056 : BitVec 32 := 1#32
  let v14792 : BitVec 32 := Scalar.select v14791 c1_i32_12056 c32_i32_12054
  let v14793 : BitVec 32 := Scalar.remsi v14790 v14792
  let c0_i32_12058 : BitVec 32 := 0#32
  let v14795 : BitVec 1 := Scalar.cmpi .slt v14793 c0_i32_12058
  let c0_i32_12059 : BitVec 32 := 0#32
  let v14796 : BitVec 1 := Scalar.cmpi .slt v14792 c0_i32_12059
  let v14797 : BitVec 1 := Scalar.xori v14795 v14796
  let c0_i32_12057 : BitVec 32 := 0#32
  let v14794 : BitVec 1 := Scalar.cmpi .ne v14793 c0_i32_12057
  let v14798 : BitVec 1 := Scalar.andi v14797 v14794
  let v14799 : BitVec 32 := Scalar.addi v14793 v14792
  let v14800 : BitVec 32 := Scalar.select v14798 v14799 v14793
  let c1_i32_12061 : BitVec 32 := 1#32
  let v14801 : BitVec 32 := Scalar.muli v14800 c1_i32_12061
  let v14802 : BitVec 32 := Scalar.addi c0_i32_12062 v14801
  v14802.toNat
def k0_dev253 (d0 : Dev nD) : Nat :=
  let c0_i32_12074 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_12065 : BitVec 32 := 11#32
  let v14809 : BitVec 32 := Scalar.addi v2 c11_i32_12065
  let c32_i32_12066 : BitVec 32 := 32#32
  let c0_i32_12067 : BitVec 32 := 0#32
  let v14810 : BitVec 1 := Scalar.cmpi .eq c32_i32_12066 c0_i32_12067
  let c1_i32_12068 : BitVec 32 := 1#32
  let v14811 : BitVec 32 := Scalar.select v14810 c1_i32_12068 c32_i32_12066
  let v14812 : BitVec 32 := Scalar.remsi v14809 v14811
  let c0_i32_12070 : BitVec 32 := 0#32
  let v14814 : BitVec 1 := Scalar.cmpi .slt v14812 c0_i32_12070
  let c0_i32_12071 : BitVec 32 := 0#32
  let v14815 : BitVec 1 := Scalar.cmpi .slt v14811 c0_i32_12071
  let v14816 : BitVec 1 := Scalar.xori v14814 v14815
  let c0_i32_12069 : BitVec 32 := 0#32
  let v14813 : BitVec 1 := Scalar.cmpi .ne v14812 c0_i32_12069
  let v14817 : BitVec 1 := Scalar.andi v14816 v14813
  let v14818 : BitVec 32 := Scalar.addi v14812 v14811
  let v14819 : BitVec 32 := Scalar.select v14817 v14818 v14812
  let c1_i32_12073 : BitVec 32 := 1#32
  let v14820 : BitVec 32 := Scalar.muli v14819 c1_i32_12073
  let v14821 : BitVec 32 := Scalar.addi c0_i32_12074 v14820
  v14821.toNat
def k0_dev254 (d0 : Dev nD) : Nat :=
  let c0_i32_12086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_12077 : BitVec 32 := 12#32
  let v14828 : BitVec 32 := Scalar.addi v2 c12_i32_12077
  let c32_i32_12078 : BitVec 32 := 32#32
  let c0_i32_12079 : BitVec 32 := 0#32
  let v14829 : BitVec 1 := Scalar.cmpi .eq c32_i32_12078 c0_i32_12079
  let c1_i32_12080 : BitVec 32 := 1#32
  let v14830 : BitVec 32 := Scalar.select v14829 c1_i32_12080 c32_i32_12078
  let v14831 : BitVec 32 := Scalar.remsi v14828 v14830
  let c0_i32_12082 : BitVec 32 := 0#32
  let v14833 : BitVec 1 := Scalar.cmpi .slt v14831 c0_i32_12082
  let c0_i32_12083 : BitVec 32 := 0#32
  let v14834 : BitVec 1 := Scalar.cmpi .slt v14830 c0_i32_12083
  let v14835 : BitVec 1 := Scalar.xori v14833 v14834
  let c0_i32_12081 : BitVec 32 := 0#32
  let v14832 : BitVec 1 := Scalar.cmpi .ne v14831 c0_i32_12081
  let v14836 : BitVec 1 := Scalar.andi v14835 v14832
  let v14837 : BitVec 32 := Scalar.addi v14831 v14830
  let v14838 : BitVec 32 := Scalar.select v14836 v14837 v14831
  let c1_i32_12085 : BitVec 32 := 1#32
  let v14839 : BitVec 32 := Scalar.muli v14838 c1_i32_12085
  let v14840 : BitVec 32 := Scalar.addi c0_i32_12086 v14839
  v14840.toNat
def k0_dev255 (d0 : Dev nD) : Nat :=
  let c0_i32_12098 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_12089 : BitVec 32 := 13#32
  let v14847 : BitVec 32 := Scalar.addi v2 c13_i32_12089
  let c32_i32_12090 : BitVec 32 := 32#32
  let c0_i32_12091 : BitVec 32 := 0#32
  let v14848 : BitVec 1 := Scalar.cmpi .eq c32_i32_12090 c0_i32_12091
  let c1_i32_12092 : BitVec 32 := 1#32
  let v14849 : BitVec 32 := Scalar.select v14848 c1_i32_12092 c32_i32_12090
  let v14850 : BitVec 32 := Scalar.remsi v14847 v14849
  let c0_i32_12094 : BitVec 32 := 0#32
  let v14852 : BitVec 1 := Scalar.cmpi .slt v14850 c0_i32_12094
  let c0_i32_12095 : BitVec 32 := 0#32
  let v14853 : BitVec 1 := Scalar.cmpi .slt v14849 c0_i32_12095
  let v14854 : BitVec 1 := Scalar.xori v14852 v14853
  let c0_i32_12093 : BitVec 32 := 0#32
  let v14851 : BitVec 1 := Scalar.cmpi .ne v14850 c0_i32_12093
  let v14855 : BitVec 1 := Scalar.andi v14854 v14851
  let v14856 : BitVec 32 := Scalar.addi v14850 v14849
  let v14857 : BitVec 32 := Scalar.select v14855 v14856 v14850
  let c1_i32_12097 : BitVec 32 := 1#32
  let v14858 : BitVec 32 := Scalar.muli v14857 c1_i32_12097
  let v14859 : BitVec 32 := Scalar.addi c0_i32_12098 v14858
  v14859.toNat
def k0_dev256 (d0 : Dev nD) : Nat :=
  let c0_i32_12110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_12101 : BitVec 32 := 14#32
  let v14866 : BitVec 32 := Scalar.addi v2 c14_i32_12101
  let c32_i32_12102 : BitVec 32 := 32#32
  let c0_i32_12103 : BitVec 32 := 0#32
  let v14867 : BitVec 1 := Scalar.cmpi .eq c32_i32_12102 c0_i32_12103
  let c1_i32_12104 : BitVec 32 := 1#32
  let v14868 : BitVec 32 := Scalar.select v14867 c1_i32_12104 c32_i32_12102
  let v14869 : BitVec 32 := Scalar.remsi v14866 v14868
  let c0_i32_12106 : BitVec 32 := 0#32
  let v14871 : BitVec 1 := Scalar.cmpi .slt v14869 c0_i32_12106
  let c0_i32_12107 : BitVec 32 := 0#32
  let v14872 : BitVec 1 := Scalar.cmpi .slt v14868 c0_i32_12107
  let v14873 : BitVec 1 := Scalar.xori v14871 v14872
  let c0_i32_12105 : BitVec 32 := 0#32
  let v14870 : BitVec 1 := Scalar.cmpi .ne v14869 c0_i32_12105
  let v14874 : BitVec 1 := Scalar.andi v14873 v14870
  let v14875 : BitVec 32 := Scalar.addi v14869 v14868
  let v14876 : BitVec 32 := Scalar.select v14874 v14875 v14869
  let c1_i32_12109 : BitVec 32 := 1#32
  let v14877 : BitVec 32 := Scalar.muli v14876 c1_i32_12109
  let v14878 : BitVec 32 := Scalar.addi c0_i32_12110 v14877
  v14878.toNat
def k0_dev257 (d0 : Dev nD) : Nat :=
  let c0_i32_12122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_12113 : BitVec 32 := 15#32
  let v14885 : BitVec 32 := Scalar.addi v2 c15_i32_12113
  let c32_i32_12114 : BitVec 32 := 32#32
  let c0_i32_12115 : BitVec 32 := 0#32
  let v14886 : BitVec 1 := Scalar.cmpi .eq c32_i32_12114 c0_i32_12115
  let c1_i32_12116 : BitVec 32 := 1#32
  let v14887 : BitVec 32 := Scalar.select v14886 c1_i32_12116 c32_i32_12114
  let v14888 : BitVec 32 := Scalar.remsi v14885 v14887
  let c0_i32_12118 : BitVec 32 := 0#32
  let v14890 : BitVec 1 := Scalar.cmpi .slt v14888 c0_i32_12118
  let c0_i32_12119 : BitVec 32 := 0#32
  let v14891 : BitVec 1 := Scalar.cmpi .slt v14887 c0_i32_12119
  let v14892 : BitVec 1 := Scalar.xori v14890 v14891
  let c0_i32_12117 : BitVec 32 := 0#32
  let v14889 : BitVec 1 := Scalar.cmpi .ne v14888 c0_i32_12117
  let v14893 : BitVec 1 := Scalar.andi v14892 v14889
  let v14894 : BitVec 32 := Scalar.addi v14888 v14887
  let v14895 : BitVec 32 := Scalar.select v14893 v14894 v14888
  let c1_i32_12121 : BitVec 32 := 1#32
  let v14896 : BitVec 32 := Scalar.muli v14895 c1_i32_12121
  let v14897 : BitVec 32 := Scalar.addi c0_i32_12122 v14896
  v14897.toNat
def k0_dev258 (d0 : Dev nD) : Nat :=
  let c0_i32_12134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_12125 : BitVec 32 := 16#32
  let v14904 : BitVec 32 := Scalar.addi v2 c16_i32_12125
  let c32_i32_12126 : BitVec 32 := 32#32
  let c0_i32_12127 : BitVec 32 := 0#32
  let v14905 : BitVec 1 := Scalar.cmpi .eq c32_i32_12126 c0_i32_12127
  let c1_i32_12128 : BitVec 32 := 1#32
  let v14906 : BitVec 32 := Scalar.select v14905 c1_i32_12128 c32_i32_12126
  let v14907 : BitVec 32 := Scalar.remsi v14904 v14906
  let c0_i32_12130 : BitVec 32 := 0#32
  let v14909 : BitVec 1 := Scalar.cmpi .slt v14907 c0_i32_12130
  let c0_i32_12131 : BitVec 32 := 0#32
  let v14910 : BitVec 1 := Scalar.cmpi .slt v14906 c0_i32_12131
  let v14911 : BitVec 1 := Scalar.xori v14909 v14910
  let c0_i32_12129 : BitVec 32 := 0#32
  let v14908 : BitVec 1 := Scalar.cmpi .ne v14907 c0_i32_12129
  let v14912 : BitVec 1 := Scalar.andi v14911 v14908
  let v14913 : BitVec 32 := Scalar.addi v14907 v14906
  let v14914 : BitVec 32 := Scalar.select v14912 v14913 v14907
  let c1_i32_12133 : BitVec 32 := 1#32
  let v14915 : BitVec 32 := Scalar.muli v14914 c1_i32_12133
  let v14916 : BitVec 32 := Scalar.addi c0_i32_12134 v14915
  v14916.toNat
def k0_dev259 (d0 : Dev nD) : Nat :=
  let c0_i32_12146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_12137 : BitVec 32 := 17#32
  let v14923 : BitVec 32 := Scalar.addi v2 c17_i32_12137
  let c32_i32_12138 : BitVec 32 := 32#32
  let c0_i32_12139 : BitVec 32 := 0#32
  let v14924 : BitVec 1 := Scalar.cmpi .eq c32_i32_12138 c0_i32_12139
  let c1_i32_12140 : BitVec 32 := 1#32
  let v14925 : BitVec 32 := Scalar.select v14924 c1_i32_12140 c32_i32_12138
  let v14926 : BitVec 32 := Scalar.remsi v14923 v14925
  let c0_i32_12142 : BitVec 32 := 0#32
  let v14928 : BitVec 1 := Scalar.cmpi .slt v14926 c0_i32_12142
  let c0_i32_12143 : BitVec 32 := 0#32
  let v14929 : BitVec 1 := Scalar.cmpi .slt v14925 c0_i32_12143
  let v14930 : BitVec 1 := Scalar.xori v14928 v14929
  let c0_i32_12141 : BitVec 32 := 0#32
  let v14927 : BitVec 1 := Scalar.cmpi .ne v14926 c0_i32_12141
  let v14931 : BitVec 1 := Scalar.andi v14930 v14927
  let v14932 : BitVec 32 := Scalar.addi v14926 v14925
  let v14933 : BitVec 32 := Scalar.select v14931 v14932 v14926
  let c1_i32_12145 : BitVec 32 := 1#32
  let v14934 : BitVec 32 := Scalar.muli v14933 c1_i32_12145
  let v14935 : BitVec 32 := Scalar.addi c0_i32_12146 v14934
  v14935.toNat
def k0_dev260 (d0 : Dev nD) : Nat :=
  let c0_i32_12158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_12149 : BitVec 32 := 18#32
  let v14942 : BitVec 32 := Scalar.addi v2 c18_i32_12149
  let c32_i32_12150 : BitVec 32 := 32#32
  let c0_i32_12151 : BitVec 32 := 0#32
  let v14943 : BitVec 1 := Scalar.cmpi .eq c32_i32_12150 c0_i32_12151
  let c1_i32_12152 : BitVec 32 := 1#32
  let v14944 : BitVec 32 := Scalar.select v14943 c1_i32_12152 c32_i32_12150
  let v14945 : BitVec 32 := Scalar.remsi v14942 v14944
  let c0_i32_12154 : BitVec 32 := 0#32
  let v14947 : BitVec 1 := Scalar.cmpi .slt v14945 c0_i32_12154
  let c0_i32_12155 : BitVec 32 := 0#32
  let v14948 : BitVec 1 := Scalar.cmpi .slt v14944 c0_i32_12155
  let v14949 : BitVec 1 := Scalar.xori v14947 v14948
  let c0_i32_12153 : BitVec 32 := 0#32
  let v14946 : BitVec 1 := Scalar.cmpi .ne v14945 c0_i32_12153
  let v14950 : BitVec 1 := Scalar.andi v14949 v14946
  let v14951 : BitVec 32 := Scalar.addi v14945 v14944
  let v14952 : BitVec 32 := Scalar.select v14950 v14951 v14945
  let c1_i32_12157 : BitVec 32 := 1#32
  let v14953 : BitVec 32 := Scalar.muli v14952 c1_i32_12157
  let v14954 : BitVec 32 := Scalar.addi c0_i32_12158 v14953
  v14954.toNat
def k0_dev261 (d0 : Dev nD) : Nat :=
  let c0_i32_12170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_12161 : BitVec 32 := 19#32
  let v14961 : BitVec 32 := Scalar.addi v2 c19_i32_12161
  let c32_i32_12162 : BitVec 32 := 32#32
  let c0_i32_12163 : BitVec 32 := 0#32
  let v14962 : BitVec 1 := Scalar.cmpi .eq c32_i32_12162 c0_i32_12163
  let c1_i32_12164 : BitVec 32 := 1#32
  let v14963 : BitVec 32 := Scalar.select v14962 c1_i32_12164 c32_i32_12162
  let v14964 : BitVec 32 := Scalar.remsi v14961 v14963
  let c0_i32_12166 : BitVec 32 := 0#32
  let v14966 : BitVec 1 := Scalar.cmpi .slt v14964 c0_i32_12166
  let c0_i32_12167 : BitVec 32 := 0#32
  let v14967 : BitVec 1 := Scalar.cmpi .slt v14963 c0_i32_12167
  let v14968 : BitVec 1 := Scalar.xori v14966 v14967
  let c0_i32_12165 : BitVec 32 := 0#32
  let v14965 : BitVec 1 := Scalar.cmpi .ne v14964 c0_i32_12165
  let v14969 : BitVec 1 := Scalar.andi v14968 v14965
  let v14970 : BitVec 32 := Scalar.addi v14964 v14963
  let v14971 : BitVec 32 := Scalar.select v14969 v14970 v14964
  let c1_i32_12169 : BitVec 32 := 1#32
  let v14972 : BitVec 32 := Scalar.muli v14971 c1_i32_12169
  let v14973 : BitVec 32 := Scalar.addi c0_i32_12170 v14972
  v14973.toNat
def k0_dev262 (d0 : Dev nD) : Nat :=
  let c0_i32_12182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_12173 : BitVec 32 := 20#32
  let v14980 : BitVec 32 := Scalar.addi v2 c20_i32_12173
  let c32_i32_12174 : BitVec 32 := 32#32
  let c0_i32_12175 : BitVec 32 := 0#32
  let v14981 : BitVec 1 := Scalar.cmpi .eq c32_i32_12174 c0_i32_12175
  let c1_i32_12176 : BitVec 32 := 1#32
  let v14982 : BitVec 32 := Scalar.select v14981 c1_i32_12176 c32_i32_12174
  let v14983 : BitVec 32 := Scalar.remsi v14980 v14982
  let c0_i32_12178 : BitVec 32 := 0#32
  let v14985 : BitVec 1 := Scalar.cmpi .slt v14983 c0_i32_12178
  let c0_i32_12179 : BitVec 32 := 0#32
  let v14986 : BitVec 1 := Scalar.cmpi .slt v14982 c0_i32_12179
  let v14987 : BitVec 1 := Scalar.xori v14985 v14986
  let c0_i32_12177 : BitVec 32 := 0#32
  let v14984 : BitVec 1 := Scalar.cmpi .ne v14983 c0_i32_12177
  let v14988 : BitVec 1 := Scalar.andi v14987 v14984
  let v14989 : BitVec 32 := Scalar.addi v14983 v14982
  let v14990 : BitVec 32 := Scalar.select v14988 v14989 v14983
  let c1_i32_12181 : BitVec 32 := 1#32
  let v14991 : BitVec 32 := Scalar.muli v14990 c1_i32_12181
  let v14992 : BitVec 32 := Scalar.addi c0_i32_12182 v14991
  v14992.toNat
def k0_dev263 (d0 : Dev nD) : Nat :=
  let c0_i32_12194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_12185 : BitVec 32 := 21#32
  let v14999 : BitVec 32 := Scalar.addi v2 c21_i32_12185
  let c32_i32_12186 : BitVec 32 := 32#32
  let c0_i32_12187 : BitVec 32 := 0#32
  let v15000 : BitVec 1 := Scalar.cmpi .eq c32_i32_12186 c0_i32_12187
  let c1_i32_12188 : BitVec 32 := 1#32
  let v15001 : BitVec 32 := Scalar.select v15000 c1_i32_12188 c32_i32_12186
  let v15002 : BitVec 32 := Scalar.remsi v14999 v15001
  let c0_i32_12190 : BitVec 32 := 0#32
  let v15004 : BitVec 1 := Scalar.cmpi .slt v15002 c0_i32_12190
  let c0_i32_12191 : BitVec 32 := 0#32
  let v15005 : BitVec 1 := Scalar.cmpi .slt v15001 c0_i32_12191
  let v15006 : BitVec 1 := Scalar.xori v15004 v15005
  let c0_i32_12189 : BitVec 32 := 0#32
  let v15003 : BitVec 1 := Scalar.cmpi .ne v15002 c0_i32_12189
  let v15007 : BitVec 1 := Scalar.andi v15006 v15003
  let v15008 : BitVec 32 := Scalar.addi v15002 v15001
  let v15009 : BitVec 32 := Scalar.select v15007 v15008 v15002
  let c1_i32_12193 : BitVec 32 := 1#32
  let v15010 : BitVec 32 := Scalar.muli v15009 c1_i32_12193
  let v15011 : BitVec 32 := Scalar.addi c0_i32_12194 v15010
  v15011.toNat
def k0_dev264 (d0 : Dev nD) : Nat :=
  let c0_i32_12206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_12197 : BitVec 32 := 22#32
  let v15018 : BitVec 32 := Scalar.addi v2 c22_i32_12197
  let c32_i32_12198 : BitVec 32 := 32#32
  let c0_i32_12199 : BitVec 32 := 0#32
  let v15019 : BitVec 1 := Scalar.cmpi .eq c32_i32_12198 c0_i32_12199
  let c1_i32_12200 : BitVec 32 := 1#32
  let v15020 : BitVec 32 := Scalar.select v15019 c1_i32_12200 c32_i32_12198
  let v15021 : BitVec 32 := Scalar.remsi v15018 v15020
  let c0_i32_12202 : BitVec 32 := 0#32
  let v15023 : BitVec 1 := Scalar.cmpi .slt v15021 c0_i32_12202
  let c0_i32_12203 : BitVec 32 := 0#32
  let v15024 : BitVec 1 := Scalar.cmpi .slt v15020 c0_i32_12203
  let v15025 : BitVec 1 := Scalar.xori v15023 v15024
  let c0_i32_12201 : BitVec 32 := 0#32
  let v15022 : BitVec 1 := Scalar.cmpi .ne v15021 c0_i32_12201
  let v15026 : BitVec 1 := Scalar.andi v15025 v15022
  let v15027 : BitVec 32 := Scalar.addi v15021 v15020
  let v15028 : BitVec 32 := Scalar.select v15026 v15027 v15021
  let c1_i32_12205 : BitVec 32 := 1#32
  let v15029 : BitVec 32 := Scalar.muli v15028 c1_i32_12205
  let v15030 : BitVec 32 := Scalar.addi c0_i32_12206 v15029
  v15030.toNat
def k0_dev265 (d0 : Dev nD) : Nat :=
  let c0_i32_12218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_12209 : BitVec 32 := 23#32
  let v15037 : BitVec 32 := Scalar.addi v2 c23_i32_12209
  let c32_i32_12210 : BitVec 32 := 32#32
  let c0_i32_12211 : BitVec 32 := 0#32
  let v15038 : BitVec 1 := Scalar.cmpi .eq c32_i32_12210 c0_i32_12211
  let c1_i32_12212 : BitVec 32 := 1#32
  let v15039 : BitVec 32 := Scalar.select v15038 c1_i32_12212 c32_i32_12210
  let v15040 : BitVec 32 := Scalar.remsi v15037 v15039
  let c0_i32_12214 : BitVec 32 := 0#32
  let v15042 : BitVec 1 := Scalar.cmpi .slt v15040 c0_i32_12214
  let c0_i32_12215 : BitVec 32 := 0#32
  let v15043 : BitVec 1 := Scalar.cmpi .slt v15039 c0_i32_12215
  let v15044 : BitVec 1 := Scalar.xori v15042 v15043
  let c0_i32_12213 : BitVec 32 := 0#32
  let v15041 : BitVec 1 := Scalar.cmpi .ne v15040 c0_i32_12213
  let v15045 : BitVec 1 := Scalar.andi v15044 v15041
  let v15046 : BitVec 32 := Scalar.addi v15040 v15039
  let v15047 : BitVec 32 := Scalar.select v15045 v15046 v15040
  let c1_i32_12217 : BitVec 32 := 1#32
  let v15048 : BitVec 32 := Scalar.muli v15047 c1_i32_12217
  let v15049 : BitVec 32 := Scalar.addi c0_i32_12218 v15048
  v15049.toNat
def k0_dev266 (d0 : Dev nD) : Nat :=
  let c0_i32_12230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_12221 : BitVec 32 := 24#32
  let v15056 : BitVec 32 := Scalar.addi v2 c24_i32_12221
  let c32_i32_12222 : BitVec 32 := 32#32
  let c0_i32_12223 : BitVec 32 := 0#32
  let v15057 : BitVec 1 := Scalar.cmpi .eq c32_i32_12222 c0_i32_12223
  let c1_i32_12224 : BitVec 32 := 1#32
  let v15058 : BitVec 32 := Scalar.select v15057 c1_i32_12224 c32_i32_12222
  let v15059 : BitVec 32 := Scalar.remsi v15056 v15058
  let c0_i32_12226 : BitVec 32 := 0#32
  let v15061 : BitVec 1 := Scalar.cmpi .slt v15059 c0_i32_12226
  let c0_i32_12227 : BitVec 32 := 0#32
  let v15062 : BitVec 1 := Scalar.cmpi .slt v15058 c0_i32_12227
  let v15063 : BitVec 1 := Scalar.xori v15061 v15062
  let c0_i32_12225 : BitVec 32 := 0#32
  let v15060 : BitVec 1 := Scalar.cmpi .ne v15059 c0_i32_12225
  let v15064 : BitVec 1 := Scalar.andi v15063 v15060
  let v15065 : BitVec 32 := Scalar.addi v15059 v15058
  let v15066 : BitVec 32 := Scalar.select v15064 v15065 v15059
  let c1_i32_12229 : BitVec 32 := 1#32
  let v15067 : BitVec 32 := Scalar.muli v15066 c1_i32_12229
  let v15068 : BitVec 32 := Scalar.addi c0_i32_12230 v15067
  v15068.toNat
def k0_dev267 (d0 : Dev nD) : Nat :=
  let c0_i32_12242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_12233 : BitVec 32 := 25#32
  let v15075 : BitVec 32 := Scalar.addi v2 c25_i32_12233
  let c32_i32_12234 : BitVec 32 := 32#32
  let c0_i32_12235 : BitVec 32 := 0#32
  let v15076 : BitVec 1 := Scalar.cmpi .eq c32_i32_12234 c0_i32_12235
  let c1_i32_12236 : BitVec 32 := 1#32
  let v15077 : BitVec 32 := Scalar.select v15076 c1_i32_12236 c32_i32_12234
  let v15078 : BitVec 32 := Scalar.remsi v15075 v15077
  let c0_i32_12238 : BitVec 32 := 0#32
  let v15080 : BitVec 1 := Scalar.cmpi .slt v15078 c0_i32_12238
  let c0_i32_12239 : BitVec 32 := 0#32
  let v15081 : BitVec 1 := Scalar.cmpi .slt v15077 c0_i32_12239
  let v15082 : BitVec 1 := Scalar.xori v15080 v15081
  let c0_i32_12237 : BitVec 32 := 0#32
  let v15079 : BitVec 1 := Scalar.cmpi .ne v15078 c0_i32_12237
  let v15083 : BitVec 1 := Scalar.andi v15082 v15079
  let v15084 : BitVec 32 := Scalar.addi v15078 v15077
  let v15085 : BitVec 32 := Scalar.select v15083 v15084 v15078
  let c1_i32_12241 : BitVec 32 := 1#32
  let v15086 : BitVec 32 := Scalar.muli v15085 c1_i32_12241
  let v15087 : BitVec 32 := Scalar.addi c0_i32_12242 v15086
  v15087.toNat
def k0_dev268 (d0 : Dev nD) : Nat :=
  let c0_i32_12254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_12245 : BitVec 32 := 26#32
  let v15094 : BitVec 32 := Scalar.addi v2 c26_i32_12245
  let c32_i32_12246 : BitVec 32 := 32#32
  let c0_i32_12247 : BitVec 32 := 0#32
  let v15095 : BitVec 1 := Scalar.cmpi .eq c32_i32_12246 c0_i32_12247
  let c1_i32_12248 : BitVec 32 := 1#32
  let v15096 : BitVec 32 := Scalar.select v15095 c1_i32_12248 c32_i32_12246
  let v15097 : BitVec 32 := Scalar.remsi v15094 v15096
  let c0_i32_12250 : BitVec 32 := 0#32
  let v15099 : BitVec 1 := Scalar.cmpi .slt v15097 c0_i32_12250
  let c0_i32_12251 : BitVec 32 := 0#32
  let v15100 : BitVec 1 := Scalar.cmpi .slt v15096 c0_i32_12251
  let v15101 : BitVec 1 := Scalar.xori v15099 v15100
  let c0_i32_12249 : BitVec 32 := 0#32
  let v15098 : BitVec 1 := Scalar.cmpi .ne v15097 c0_i32_12249
  let v15102 : BitVec 1 := Scalar.andi v15101 v15098
  let v15103 : BitVec 32 := Scalar.addi v15097 v15096
  let v15104 : BitVec 32 := Scalar.select v15102 v15103 v15097
  let c1_i32_12253 : BitVec 32 := 1#32
  let v15105 : BitVec 32 := Scalar.muli v15104 c1_i32_12253
  let v15106 : BitVec 32 := Scalar.addi c0_i32_12254 v15105
  v15106.toNat
def k0_dev269 (d0 : Dev nD) : Nat :=
  let c0_i32_12266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_12257 : BitVec 32 := 27#32
  let v15113 : BitVec 32 := Scalar.addi v2 c27_i32_12257
  let c32_i32_12258 : BitVec 32 := 32#32
  let c0_i32_12259 : BitVec 32 := 0#32
  let v15114 : BitVec 1 := Scalar.cmpi .eq c32_i32_12258 c0_i32_12259
  let c1_i32_12260 : BitVec 32 := 1#32
  let v15115 : BitVec 32 := Scalar.select v15114 c1_i32_12260 c32_i32_12258
  let v15116 : BitVec 32 := Scalar.remsi v15113 v15115
  let c0_i32_12262 : BitVec 32 := 0#32
  let v15118 : BitVec 1 := Scalar.cmpi .slt v15116 c0_i32_12262
  let c0_i32_12263 : BitVec 32 := 0#32
  let v15119 : BitVec 1 := Scalar.cmpi .slt v15115 c0_i32_12263
  let v15120 : BitVec 1 := Scalar.xori v15118 v15119
  let c0_i32_12261 : BitVec 32 := 0#32
  let v15117 : BitVec 1 := Scalar.cmpi .ne v15116 c0_i32_12261
  let v15121 : BitVec 1 := Scalar.andi v15120 v15117
  let v15122 : BitVec 32 := Scalar.addi v15116 v15115
  let v15123 : BitVec 32 := Scalar.select v15121 v15122 v15116
  let c1_i32_12265 : BitVec 32 := 1#32
  let v15124 : BitVec 32 := Scalar.muli v15123 c1_i32_12265
  let v15125 : BitVec 32 := Scalar.addi c0_i32_12266 v15124
  v15125.toNat
def k0_dev270 (d0 : Dev nD) : Nat :=
  let c0_i32_12278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_12269 : BitVec 32 := 28#32
  let v15132 : BitVec 32 := Scalar.addi v2 c28_i32_12269
  let c32_i32_12270 : BitVec 32 := 32#32
  let c0_i32_12271 : BitVec 32 := 0#32
  let v15133 : BitVec 1 := Scalar.cmpi .eq c32_i32_12270 c0_i32_12271
  let c1_i32_12272 : BitVec 32 := 1#32
  let v15134 : BitVec 32 := Scalar.select v15133 c1_i32_12272 c32_i32_12270
  let v15135 : BitVec 32 := Scalar.remsi v15132 v15134
  let c0_i32_12274 : BitVec 32 := 0#32
  let v15137 : BitVec 1 := Scalar.cmpi .slt v15135 c0_i32_12274
  let c0_i32_12275 : BitVec 32 := 0#32
  let v15138 : BitVec 1 := Scalar.cmpi .slt v15134 c0_i32_12275
  let v15139 : BitVec 1 := Scalar.xori v15137 v15138
  let c0_i32_12273 : BitVec 32 := 0#32
  let v15136 : BitVec 1 := Scalar.cmpi .ne v15135 c0_i32_12273
  let v15140 : BitVec 1 := Scalar.andi v15139 v15136
  let v15141 : BitVec 32 := Scalar.addi v15135 v15134
  let v15142 : BitVec 32 := Scalar.select v15140 v15141 v15135
  let c1_i32_12277 : BitVec 32 := 1#32
  let v15143 : BitVec 32 := Scalar.muli v15142 c1_i32_12277
  let v15144 : BitVec 32 := Scalar.addi c0_i32_12278 v15143
  v15144.toNat
def k0_dev271 (d0 : Dev nD) : Nat :=
  let c0_i32_12290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_12281 : BitVec 32 := 29#32
  let v15151 : BitVec 32 := Scalar.addi v2 c29_i32_12281
  let c32_i32_12282 : BitVec 32 := 32#32
  let c0_i32_12283 : BitVec 32 := 0#32
  let v15152 : BitVec 1 := Scalar.cmpi .eq c32_i32_12282 c0_i32_12283
  let c1_i32_12284 : BitVec 32 := 1#32
  let v15153 : BitVec 32 := Scalar.select v15152 c1_i32_12284 c32_i32_12282
  let v15154 : BitVec 32 := Scalar.remsi v15151 v15153
  let c0_i32_12286 : BitVec 32 := 0#32
  let v15156 : BitVec 1 := Scalar.cmpi .slt v15154 c0_i32_12286
  let c0_i32_12287 : BitVec 32 := 0#32
  let v15157 : BitVec 1 := Scalar.cmpi .slt v15153 c0_i32_12287
  let v15158 : BitVec 1 := Scalar.xori v15156 v15157
  let c0_i32_12285 : BitVec 32 := 0#32
  let v15155 : BitVec 1 := Scalar.cmpi .ne v15154 c0_i32_12285
  let v15159 : BitVec 1 := Scalar.andi v15158 v15155
  let v15160 : BitVec 32 := Scalar.addi v15154 v15153
  let v15161 : BitVec 32 := Scalar.select v15159 v15160 v15154
  let c1_i32_12289 : BitVec 32 := 1#32
  let v15162 : BitVec 32 := Scalar.muli v15161 c1_i32_12289
  let v15163 : BitVec 32 := Scalar.addi c0_i32_12290 v15162
  v15163.toNat
def k0_dev272 (d0 : Dev nD) : Nat :=
  let c0_i32_12302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_12293 : BitVec 32 := 30#32
  let v15170 : BitVec 32 := Scalar.addi v2 c30_i32_12293
  let c32_i32_12294 : BitVec 32 := 32#32
  let c0_i32_12295 : BitVec 32 := 0#32
  let v15171 : BitVec 1 := Scalar.cmpi .eq c32_i32_12294 c0_i32_12295
  let c1_i32_12296 : BitVec 32 := 1#32
  let v15172 : BitVec 32 := Scalar.select v15171 c1_i32_12296 c32_i32_12294
  let v15173 : BitVec 32 := Scalar.remsi v15170 v15172
  let c0_i32_12298 : BitVec 32 := 0#32
  let v15175 : BitVec 1 := Scalar.cmpi .slt v15173 c0_i32_12298
  let c0_i32_12299 : BitVec 32 := 0#32
  let v15176 : BitVec 1 := Scalar.cmpi .slt v15172 c0_i32_12299
  let v15177 : BitVec 1 := Scalar.xori v15175 v15176
  let c0_i32_12297 : BitVec 32 := 0#32
  let v15174 : BitVec 1 := Scalar.cmpi .ne v15173 c0_i32_12297
  let v15178 : BitVec 1 := Scalar.andi v15177 v15174
  let v15179 : BitVec 32 := Scalar.addi v15173 v15172
  let v15180 : BitVec 32 := Scalar.select v15178 v15179 v15173
  let c1_i32_12301 : BitVec 32 := 1#32
  let v15181 : BitVec 32 := Scalar.muli v15180 c1_i32_12301
  let v15182 : BitVec 32 := Scalar.addi c0_i32_12302 v15181
  v15182.toNat
def k0_dev273 (d0 : Dev nD) : Nat :=
  let c0_i32_12314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_12305 : BitVec 32 := 31#32
  let v15189 : BitVec 32 := Scalar.addi v2 c31_i32_12305
  let c32_i32_12306 : BitVec 32 := 32#32
  let c0_i32_12307 : BitVec 32 := 0#32
  let v15190 : BitVec 1 := Scalar.cmpi .eq c32_i32_12306 c0_i32_12307
  let c1_i32_12308 : BitVec 32 := 1#32
  let v15191 : BitVec 32 := Scalar.select v15190 c1_i32_12308 c32_i32_12306
  let v15192 : BitVec 32 := Scalar.remsi v15189 v15191
  let c0_i32_12310 : BitVec 32 := 0#32
  let v15194 : BitVec 1 := Scalar.cmpi .slt v15192 c0_i32_12310
  let c0_i32_12311 : BitVec 32 := 0#32
  let v15195 : BitVec 1 := Scalar.cmpi .slt v15191 c0_i32_12311
  let v15196 : BitVec 1 := Scalar.xori v15194 v15195
  let c0_i32_12309 : BitVec 32 := 0#32
  let v15193 : BitVec 1 := Scalar.cmpi .ne v15192 c0_i32_12309
  let v15197 : BitVec 1 := Scalar.andi v15196 v15193
  let v15198 : BitVec 32 := Scalar.addi v15192 v15191
  let v15199 : BitVec 32 := Scalar.select v15197 v15198 v15192
  let c1_i32_12313 : BitVec 32 := 1#32
  let v15200 : BitVec 32 := Scalar.muli v15199 c1_i32_12313
  let v15201 : BitVec 32 := Scalar.addi c0_i32_12314 v15200
  v15201.toNat
def k0_off6 (d0 : Dev nD) (c1_i32_12441 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15332 : BitVec 32 := Scalar.addi v2 c1_i32_12441
  let c32_i32_12442 : BitVec 32 := 32#32
  let c0_i32_12443 : BitVec 32 := 0#32
  let v15333 : BitVec 1 := Scalar.cmpi .eq c32_i32_12442 c0_i32_12443
  let c1_i32_12444 : BitVec 32 := 1#32
  let v15334 : BitVec 32 := Scalar.select v15333 c1_i32_12444 c32_i32_12442
  let v15335 : BitVec 32 := Scalar.remsi v15332 v15334
  let c0_i32_12446 : BitVec 32 := 0#32
  let v15337 : BitVec 1 := Scalar.cmpi .slt v15335 c0_i32_12446
  let c0_i32_12447 : BitVec 32 := 0#32
  let v15338 : BitVec 1 := Scalar.cmpi .slt v15334 c0_i32_12447
  let v15339 : BitVec 1 := Scalar.xori v15337 v15338
  let c0_i32_12445 : BitVec 32 := 0#32
  let v15336 : BitVec 1 := Scalar.cmpi .ne v15335 c0_i32_12445
  let v15340 : BitVec 1 := Scalar.andi v15339 v15336
  let v15341 : BitVec 32 := Scalar.addi v15335 v15334
  let v15342 : BitVec 32 := Scalar.select v15340 v15341 v15335
  ![v15342.toNat]
def k0_off7 (d0 : Dev nD) (c1_i32_12441 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15332 : BitVec 32 := Scalar.addi v2 c1_i32_12441
  let c32_i32_12442 : BitVec 32 := 32#32
  let c0_i32_12443 : BitVec 32 := 0#32
  let v15333 : BitVec 1 := Scalar.cmpi .eq c32_i32_12442 c0_i32_12443
  let c1_i32_12444 : BitVec 32 := 1#32
  let v15334 : BitVec 32 := Scalar.select v15333 c1_i32_12444 c32_i32_12442
  let v15335 : BitVec 32 := Scalar.remsi v15332 v15334
  let c0_i32_12446 : BitVec 32 := 0#32
  let v15337 : BitVec 1 := Scalar.cmpi .slt v15335 c0_i32_12446
  let c0_i32_12447 : BitVec 32 := 0#32
  let v15338 : BitVec 1 := Scalar.cmpi .slt v15334 c0_i32_12447
  let v15339 : BitVec 1 := Scalar.xori v15337 v15338
  let c0_i32_12445 : BitVec 32 := 0#32
  let v15336 : BitVec 1 := Scalar.cmpi .ne v15335 c0_i32_12445
  let v15340 : BitVec 1 := Scalar.andi v15339 v15336
  let v15341 : BitVec 32 := Scalar.addi v15335 v15334
  let v15342 : BitVec 32 := Scalar.select v15340 v15341 v15335
  let c0_i32_12451 : BitVec 32 := 0#32
  let c0_i32_12452 : BitVec 32 := 0#32
  ![v15342.toNat, 0, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Devices.lean ====
/-
The devices of the ring, the word chains by which the body names them, and the rows that each round reads.
-/
module

public import proofs.«01_k».proof.Proof.Gen.KernelIdeal.Skeleton

@[expose] public section

noncomputable section

namespace Cert.Gemm

open Cert.KernelIdeal Cert.KernelIdeal.Gen
open Idealize.ShloMosaic Idealize.SL.Sem
open Idealize.ShloMosaic.TcCoe

/-! ## Devices -/

/-- The word chains that name a device, in the order in which the body computes them. -/
def devTab : List (Dev nD → ℕ) :=
  [k0_dev1, k0_dev2, k0_dev3, k0_dev4, k0_dev5, k0_dev6, k0_dev7, k0_dev8, k0_dev9, k0_dev10, k0_dev11, k0_dev12,
   k0_dev13, k0_dev14, k0_dev15, k0_dev16, k0_dev17, k0_dev18, k0_dev19, k0_dev20, k0_dev21, k0_dev22, k0_dev23,
   k0_dev24, k0_dev25, k0_dev26, k0_dev27, k0_dev28, k0_dev29, k0_dev30, k0_dev31, k0_dev32, k0_dev33, k0_dev34,
   k0_dev35, k0_dev36, k0_dev37, k0_dev38, k0_dev39, k0_dev40, k0_dev41, k0_dev42, k0_dev43, k0_dev44, k0_dev45,
   k0_dev46, k0_dev47, k0_dev48, k0_dev49, k0_dev50, k0_dev51, k0_dev52, k0_dev53, k0_dev54, k0_dev55, k0_dev56,
   k0_dev57, k0_dev58, k0_dev59, k0_dev60, k0_dev61, k0_dev62, k0_dev63, k0_dev64, k0_dev65, k0_dev66, k0_dev67,
   k0_dev68, k0_dev69, k0_dev70, k0_dev71, k0_dev72, k0_dev73, k0_dev74, k0_dev75, k0_dev76, k0_dev77, k0_dev78,
   k0_dev79, k0_dev80, k0_dev81, k0_dev82, k0_dev83, k0_dev84, k0_dev85, k0_dev86, k0_dev87, k0_dev88, k0_dev89,
   k0_dev90, k0_dev91, k0_dev92, k0_dev93, k0_dev94, k0_dev95, k0_dev96, k0_dev97, k0_dev98, k0_dev99, k0_dev100,
   k0_dev101, k0_dev102, k0_dev103, k0_dev104, k0_dev105, k0_dev106, k0_dev107, k0_dev108, k0_dev109, k0_dev110,
   k0_dev111, k0_dev112, k0_dev113, k0_dev114, k0_dev115, k0_dev116, k0_dev117, k0_dev118, k0_dev119, k0_dev120,
   k0_dev121, k0_dev122, k0_dev123, k0_dev124, k0_dev125, k0_dev126, k0_dev127, k0_dev128, k0_dev129, k0_dev130,
   k0_dev131, k0_dev132, k0_dev133, k0_dev134, k0_dev135, k0_dev136, k0_dev137, k0_dev138, k0_dev139, k0_dev140,
   k0_dev141, k0_dev142, k0_dev143, k0_dev144, k0_dev145, k0_dev146, k0_dev147, k0_dev148, k0_dev149, k0_dev150,
   k0_dev151, k0_dev152, k0_dev153, k0_dev154, k0_dev155, k0_dev156, k0_dev157, k0_dev158, k0_dev159, k0_dev160,
   k0_dev161, k0_dev162, k0_dev163, k0_dev164, k0_dev165, k0_dev166, k0_dev167, k0_dev168, k0_dev169, k0_dev170,
   k0_dev171, k0_dev172, k0_dev173, k0_dev174, k0_dev175, k0_dev176, k0_dev177, k0_dev178, k0_dev179, k0_dev180,
   k0_dev181, k0_dev182, k0_dev183, k0_dev184, k0_dev185, k0_dev186, k0_dev187, k0_dev188, k0_dev189, k0_dev190,
   k0_dev191, k0_dev192, k0_dev193, k0_dev194, k0_dev195, k0_dev196, k0_dev197, k0_dev198, k0_dev199, k0_dev200,
   k0_dev201, k0_dev202, k0_dev203, k0_dev204, k0_dev205, k0_dev206, k0_dev207, k0_dev208, k0_dev209, k0_dev210,
   k0_dev211, k0_dev212, k0_dev213, k0_dev214, k0_dev215, k0_dev216, k0_dev217, k0_dev218, k0_dev219, k0_dev220,
   k0_dev221, k0_dev222, k0_dev223, k0_dev224, k0_dev225, k0_dev226, k0_dev227, k0_dev228, k0_dev229, k0_dev230,
   k0_dev231, k0_dev232, k0_dev233, k0_dev234, k0_dev235, k0_dev236, k0_dev237, k0_dev238, k0_dev239, k0_dev240,
   k0_dev241, k0_dev242, k0_dev243, k0_dev244, k0_dev245, k0_dev246, k0_dev247, k0_dev248, k0_dev249, k0_dev250,
   k0_dev251, k0_dev252, k0_dev253, k0_dev254, k0_dev255, k0_dev256, k0_dev257, k0_dev258, k0_dev259, k0_dev260,
   k0_dev261, k0_dev262, k0_dev263, k0_dev264, k0_dev265, k0_dev266, k0_dev267, k0_dev268, k0_dev269, k0_dev270,
   k0_dev271, k0_dev272, k0_dev273]

/-- The `k`-th device of the ring, `k` counted modulo 32: a path through the 4 × 4 × 2 mesh and back. -/
def lOfK (k : ℕ) : ℕ :=
  let k := k % 32
  let x := if k < 16 then 0 else 1
  let kk := if k < 16 then k else 31 - k
  let z := kk / 4
  let y := if z % 2 = 0 then kk % 4 else 3 - kk % 4
  8 * z + 2 * y + (if y % 2 = 0 then x else 1 - x)

/-- The place in the ring of a device. -/
def kOfL (l : ℕ) : ℕ :=
  let z := l / 8
  let y := l % 8 / 2
  let x := if y % 2 = 0 then l % 2 else 1 - l % 2
  let kk := 4 * z + (if z % 2 = 0 then y else 3 - y)
  if x = 0 then kk else 31 - kk

theorem lOfK_lt (k : ℕ) : lOfK k < 32 := by
  have h : ∀ j : Fin 32, lOfK j.val < 32 := by decide +kernel
  have e : lOfK k = lOfK (k % 32) := by simp only [lOfK, Nat.mod_mod]
  rw [e]; exact h ⟨k % 32, Nat.mod_lt _ (by decide)⟩

/-- The device `n` places after `d` in the ring. -/
def fwd (n : ℕ) (d : Dev nD) : Dev nD := ⟨lOfK (kOfL d.val + n), lOfK_lt _⟩

/-- Stream `i` runs forward round the ring if `i` is even, backward if odd: the device `n` hops downstream. -/
def hop (i : Fin 4) (n : ℕ) (d : Dev nD) : Dev nD := fwd (if i.val % 2 = 0 then n else 31 * n) d

/-- The neighbour that stream `i` sends to. -/
abbrev down (i : Fin 4) (d : Dev nD) : Dev nD := hop i 1 d
/-- The neighbour that stream `i` receives from. -/
abbrev up (i : Fin 4) (d : Dev nD) : Dev nD := hop i 31 d

/-- Which device each word chain names. -/
def devSpec (n : ℕ) (d : Dev nD) : Dev nD :=
  if n = 0 then fwd 31 d else if n = 1 then fwd 1 d
  else if n < 6 then down (Fin.ofNat 4 (n - 2)) d
  else if n < 238 then
    if n % 2 = 0 then up (Fin.ofNat 4 ((n - 6) / 2)) d else down (Fin.ofNat 4 ((n - 6) / 2)) d
  else if n < 242 then down (Fin.ofNat 4 (n - 238)) d
  else ⟨(d.val + (n - 241)) % 32, Nat.mod_lt _ (by decide)⟩

theorem devTab_eq : ∀ n : Fin 273, ∀ d : Dev nD, devTab.getD n.val (fun _ => 0) d = (devSpec n.val d).val := by
  decide +kernel

/-- The device that the `n`-th word chain names. -/
def dev (n : ℕ) (d : Dev nD) : Dev nD :=
  if h : n < 273 then ⟨devTab.getD n (fun _ => 0) d, by rw [devTab_eq ⟨n, h⟩ d]; exact (devSpec n d).isLt⟩ else d

theorem dev_eq {n : ℕ} (h : n < 273) (d : Dev nD) : dev n d = devSpec n d := by
  rw [dev, dif_pos h]; exact Fin.ext (devTab_eq ⟨n, h⟩ d)

/-! ## Rows -/

/-- The word that the row of round `s` is computed from. -/
def offW (s : Fin 31) (i : Fin 4) : BitVec 32 :=
  if i.val % 2 = 0 then BitVec.ofNat 32 (1 + s.val) else BitVec.ofNat 32 (4294967295 - s.val)
theorem off1_eq : ∀ d : Dev nD, ∀ s : Fin 31, ∀ i : Fin 4,
    k0_off1 d (offW s i) = ![128 * (hop i (31 - s.val) d).val, 0] := by decide +kernel
theorem chunk_inb (c : Dev nD) : ∀ a, (![128 * c.val, 0] : Fin 2 → ℕ) a + S128x128.size a ≤ S4096x128.size a := by
  revert c; decide

end Cert.Gemm
-- ==== Proof.Program.lean ====
/-
The kernel's body as a short structured program: a prologue, 31 rounds of four streams, four closing waits, the
exchange of the local maxima and the epilogue, written over the number of the round and of the stream. The printed
body, which repeats each round's text, is this program by unfolding alone.
-/
module

public import proofs.«01_k».proof.Proof.Devices

@[expose] public section

noncomputable section

namespace Cert.Gemm

open Cert.KernelIdeal Cert.KernelIdeal.Gen
open Idealize.ShloMosaic Idealize.SL.Sem
open Idealize.ShloMosaic.TcCoe

variable {F : FTy → Type} [FloatOps F]

/-! ## Buffers and semaphores -/

abbrev xM : Memref sig .tc .vmem S4096x128 .f32 := win0_0.stage 0
abbrev wM : Memref sig .tc .vmem S128x2048 .f32 := win0_1.stage 0
abbrev oM : Memref sig .tc .vmem S128x2048 .f32 := win0_2.stage 0
/-- The send buffer of stream `i`, -/
def sM (i : Fin 4) : Memref sig .tc .vmem S2x128x512 .f32 :=
  match i with
  | 0 => Memref.whole cc0_scratch0 | 1 => Memref.whole cc0_scratch1
  | 2 => Memref.whole cc0_scratch2 | 3 => Memref.whole cc0_scratch3
/-- its receive buffer, -/
def rM (i : Fin 4) : Memref sig .tc .vmem S2x128x512 .f32 :=
  match i with
  | 0 => Memref.whole cc0_scratch4 | 1 => Memref.whole cc0_scratch5
  | 2 => Memref.whole cc0_scratch6 | 3 => Memref.whole cc0_scratch7
abbrev aM : Memref sig .tc .vmem S8x128 .f32 := Memref.whole cc0_scratch11
abbrev gM : Memref sig .tc .vmem S32x8x128 .f32 := Memref.whole cc0_scratch12

theorem slot_inb (b : Fin 2) : ∀ a, (![b.val, 0, 0] : Fin 3 → ℕ) a + S1x128x512.size a ≤ S2x128x512.size a := by
  revert b; decide
/-- Slot `b` of a double buffer, -/
abbrev slotR (b : Fin 2) : Rect S2x128x512 := Rect.unit (s := S2x128x512) ![b.val, 0, 0] S1x128x512.size (slot_inb b)
/-- the buffer there, -/
abbrev slotS (M : Memref sig .tc .vmem S2x128x512 .f32) (b : Fin 2) : Memref sig .tc .vmem S1x128x512 .f32 :=
  M.slice (slotR b) (fun _ => rfl)
/-- and as the copies name it. -/
abbrev slotM (M : Memref sig .tc .vmem S2x128x512 .f32) (b : Fin 2) : Memref sig .tc .vmem S128x512 .f32 :=
  (slotS M b).squeeze S128x512 squeezes_S1x128x512_S128x512

/-- The semaphores: of stream `i` and slot `b`, of stream `i`, and of the exchange of maxima. -/
def sendS (i : Fin 4) (b : Fin 2) : DmaSem sig := (⟨3 + 2 * i.val + b.val, by omega⟩ : Fin 82)
def recvS (i : Fin 4) (b : Fin 2) : DmaSem sig := (⟨11 + 2 * i.val + b.val, by omega⟩ : Fin 82)
def credS (i : Fin 4) : Sem sig := (⟨i.val, by omega⟩ : Fin 5)
def barS : Sem sig := (⟨4, by omega⟩ : Fin 5)
def asendS (k : Fin 31) : DmaSem sig := (⟨19 + k.val, by omega⟩ : Fin 82)
def arecvS (c : Dev nD) : DmaSem sig := (⟨50 + c.val, by have : c.val < 32 := c.isLt; omega⟩ : Fin 82)

/-- The first column of stream `i`. -/
def col (i : Fin 4) : ℕ := match i with | 0 => 0 | 1 => 1024 | 2 => 512 | 3 => 1536
theorem col_inb (i : Fin 4) : ∀ a, (![0, col i] : Fin 2 → ℕ) a + S128x512.size a ≤ S128x2048.size a := by
  revert i; decide
abbrev wR (i : Fin 4) : Rect S128x2048 := Rect.unit (s := S128x2048) ![0, col i] S128x512.size (col_inb i)

theorem off1_inb (d : Dev nD) (s : Fin 31) (i : Fin 4) : ∀ a, k0_off1 d (offW s i) a + S128x128.size a ≤ S4096x128.size a := by
  rw [off1_eq]; exact chunk_inb _
/-- The rows of the block of `x` that device `c` is to own. -/
abbrev xR (c : Dev nD) : Rect S4096x128 := Rect.unit (s := S4096x128) ![128 * c.val, 0] S128x128.size (chunk_inb c)

/-! ## Values -/

/-- The global rectified block from its four column blocks, in the order in which they are computed. -/
def yOf (p0 p1 p2 p3 : FVec F S128x512 .f32) : FVec F S128x2048 .f32 :=
  maximumf (concatenate S128x2048 1 [⟨S128x512, p0⟩, ⟨S128x512, p2⟩, ⟨S128x512, p1⟩, ⟨S128x512, p3⟩]
    concatenates_S128x512_S128x512_S128x512_S128x512_S128x2048_d1) (broadcast S128x2048 (Scalar.ofBits .f32 0x00000000#32))

/-- The block's largest element, on every lane of one tile. -/
def amaxOf (y : FVec F S128x2048 .f32) : FVec F S8x128 .f32 :=
  shapeCast S8x128 (broadcast S8x128 (extractAt ![0, 0, 0]
    (shapeCast S1x1x1 (multiReduction .maximumf [1, 2] S1 (shapeCast S1x128x2048 y shapeCasts_S128x2048_S1x128x2048)
      0xFF800000#32 reduces_S1x128x2048_S1 (.inl rfl) rfl) shapeCasts_S1_S1x1x1) inpos_S1x1x1_p0_0_0)) shapeCasts_S8x128_S8x128

/-! ## The program -/

abbrev P (F : FTy → Type) [FloatOps F] : Type 1 := Prog (TpuEff nD τ sig (Elt F) Λ₀ .tc) PUnit

/-- Wait until the message of the slot has left, -/
def waitSend (i : Fin 4) (b : Fin 2) (K : P F) : P F :=
  .op (.waitDma2 (sendS i b) (slotM (rM i) b) (slotM (sM i) b) ((View.wordExact_bits rfl).reshape _ _)
    ((View.wordExact_bits rfl).reshape _ _)) fun _ => K
/-- and until the neighbour's has come. -/
def waitRecv (i : Fin 4) (b : Fin 2) (K : P F) : P F :=
  .op (.waitDma2 (recvS i b) (slotM (sM i) b) (slotM (rM i) b) ((View.wordExact_bits rfl).reshape _ _)
    ((View.wordExact_bits rfl).reshape _ _)) fun _ => K

/-- Round `s` of stream `i`: the slot it fills and the slot it reads. -/
def slotOf (s : ℕ) : Fin 2 := ⟨s % 2, Nat.mod_lt _ (by decide)⟩

def loadX (d : Dev nD) (s : Fin 31) (i : Fin 4) (K : Vec F S128x128 .f32 → P F) : P F :=
  .op (.load xM (Rect.unit (s := S4096x128) (k0_off1 d (offW s i)) S128x128.size (off1_inb d s i)).toLoadRect
    (View.loadsAt_vmem h_S128x128)) K
def loadW (i : Fin 4) (K : Vec F S128x512 .f32 → P F) : P F :=
  .op (.load wM (wR i).toLoadRect (View.loadsAt_vmem h_S128x512)) K
def loadSlot (M : Memref sig .tc .vmem S2x128x512 .f32) (b : Fin 2) (K : Vec F S1x128x512 .f32 → P F) : P F :=
  .op (.load M (slotR b).toLoadRect (View.loadsAt_vmem h_S1x128x512)) K
def storeSlot (M : Memref sig .tc .vmem S2x128x512 .f32) (b : Fin 2) (p : FVec F S1x128x512 .f32) (K : P F) : P F :=
  .op (.store M (slotR b) p Finset.univ (View.stores_vmem_bits_univ h_S1x128x512 rfl) (.inl rfl)) fun _ => K

/-- Multiply the round's rows and add the partial sum that came in. -/
def compute (d : Dev nD) (s : Fin 31) (i : Fin 4) (K : P F) : P F :=
  loadX d s i fun x => loadW i fun w =>
    if s.val = 0 then loadSlot (sM i) (slotOf s.val) fun _ => storeSlot (sM i) (slotOf s.val) (k0_pay2 x w) K
    else loadSlot (rM i) (slotOf (s.val - 1)) fun r => loadSlot (sM i) (slotOf s.val) fun _ =>
      storeSlot (sM i) (slotOf s.val) (k0_pay6 x w r) K

/-- Tell the neighbour that sends to us that a slot is free. -/
def signalCredit (d : Dev nD) (s : Fin 31) (i : Fin 4) (K : P F) : P F :=
  if 1 ≤ s.val ∧ s.val ≤ 29 then
    .op (.semSignal (dev (6 + 2 * (4 * (s.val - 1) + i.val)) d, .tc) (credS i) (1#32 : BitVec 32).toInt) fun _ => K
  else K

/-- Wait for the neighbour that we send to to say so. -/
def waitCredit (s : Fin 31) (i : Fin 4) (K : P F) : P F :=
  if 2 ≤ s.val then .op (.semWait (credS i) (1#32 : BitVec 32).toInt) fun _ => K else K

/-- The number of the word chain that names the destination of round `s`. -/
def sendIx (s : Fin 31) (i : Fin 4) : ℕ :=
  if s.val = 0 then 2 + i.val else if s.val = 30 then 238 + i.val else 7 + 2 * (4 * (s.val - 1) + i.val)

def sendMsg (d : Dev nD) (s : Fin 31) (i : Fin 4) (K : P F) : P F :=
  .op (.enqueueDma (slotM (sM i) (slotOf s.val)) (.remote (Dev.tc (dev (sendIx s i) d)) (slotM (rM i) (slotOf s.val))
      (.dma (sendS i (slotOf s.val)))) (.dma (recvS i (slotOf s.val))) ((View.wordExact_bits rfl).reshape _ _)
      ((View.wordExact_bits rfl).reshape _ _) ⟨⟨rfl, Or.inl rfl⟩, trivial⟩) fun _ => K

def waitPrev (s : Fin 31) (i : Fin 4) (K : P F) : P F :=
  if s.val = 0 then K else waitSend i (slotOf (s.val - 1)) (waitRecv i (slotOf (s.val - 1)) K)

/-- Round `s` of stream `i`. -/
def sec (d : Dev nD) (s : Fin 31) (i : Fin 4) (K : P F) : P F :=
  waitPrev s i (compute d s i (signalCredit d s i (waitCredit s i (sendMsg d s i K))))

/-- The round and the stream of the `t`-th step. -/
def sOf (t : ℕ) : Fin 31 := ⟨t / 4 % 31, Nat.mod_lt _ (by decide)⟩
def iOf (t : ℕ) : Fin 4 := ⟨t % 4, Nat.mod_lt _ (by decide)⟩

/-- The last `n` of the 124 steps. -/
def rounds (d : Dev nD) (K : P F) : ℕ → P F
  | 0 => K
  | n + 1 => sec d (sOf (123 - n)) (iOf (123 - n)) (rounds d K n)

/-- The last message of stream `i` and the device's own rows. -/
def lastPart (d : Dev nD) (i : Fin 4) (K : FVec F S128x512 .f32 → P F) : P F :=
  waitSend i 0 (waitRecv i 0 (loadSlot (rM i) 0 fun r =>
    .op (.load xM (Rect.unit (s := S4096x128) (k0_off2 d) S128x128.size (k0_off2_inb d)).toLoadRect
      (View.loadsAt_vmem h_S128x128)) fun x => loadW i fun w => K (k0_pay168 r x w)))

/-- Row `c` of the table of maxima, at an offset equal to it. -/
abbrev rowM (o : Fin 3 → ℕ) (h : ∀ a, o a + S1x8x128.size a ≤ S32x8x128.size a) : Memref sig .tc .vmem S8x128 .f32 :=
  (gM.slice (Rect.unit (s := S32x8x128) o S1x8x128.size h) (fun _ => rfl)).squeeze S8x128 squeezes_S1x8x128_S8x128

/-- The semaphore of the maxima's receipt at an offset. -/
abbrev rowS (o : Fin 1 → ℕ) (h : ∀ a, o a + S1.size a ≤ S32.size a) : DmaSem sig :=
  ((cc0_scratch14.slice (Rect.unit (s := S32) o S1.size h)).squeeze S_ squeezes_S1_S_).sem

/-- The exchange of maxima: the last `n` of the 31 copies, -/
def amaxSends (d : Dev nD) (K : P F) : ℕ → P F
  | 0 => K
  | n + 1 =>
    .op (.enqueueDma aM (.remote (Dev.tc (dev (242 + (30 - n)) d)) (rowM (k0_off5 d) (k0_off5_inb d))
      (.dma (asendS (Fin.ofNat 31 (30 - n))))) (.dma (rowS (k0_off4 d) (k0_off4_inb d))) (Memref.isWhole_whole _).wordExact
      ((View.wordExact_bits rfl).reshape _ _) ⟨⟨rfl, Or.inl rfl⟩, trivial⟩) fun _ => amaxSends d K n
/-- of the waits for their departure, -/
def amaxSent (d : Dev nD) (K : P F) : ℕ → P F
  | 0 => K
  | n + 1 =>
    .op (.waitDma2 (asendS (Fin.ofNat 31 (30 - n))) (rowM (k0_off5 d) (k0_off5_inb d)) aM ((View.wordExact_bits rfl).reshape _ _)
      (Memref.isWhole_whole _).wordExact) fun _ => amaxSent d K n
/-- and of the waits for the others'. -/
def amaxRecvs (d : Dev nD) (K : P F) : ℕ → P F
  | 0 => K
  | n + 1 =>
    .op (.waitDma2 (rowS (k0_off6 d (BitVec.ofNat 32 (1 + (Fin.ofNat 31 (30 - n)).val))) (k0_off6_inb d (Fin.ofNat 31 (30 - n)))) aM
      (rowM (k0_off7 d (BitVec.ofNat 32 (1 + (Fin.ofNat 31 (30 - n)).val))) (k0_off7_inb d (Fin.ofNat 31 (30 - n))))
      (Memref.isWhole_whole _).wordExact ((View.wordExact_bits rfl).reshape _ _)) fun _ => amaxRecvs d K n

/-- From the rectified block to the result. -/
def epilogue (d : Dev nD) (y : FVec F S128x2048 .f32) : P F :=
  .op (.load aM (Rect.unit (s := S8x128) ![0, 0] S8x128.size inb_S8x128_S8x128_0_0).toLoadRect (View.loadsAt_vmem h_S8x128)) fun _ =>
  .op (.store aM (Rect.unit (s := S8x128) ![0, 0] S8x128.size inb_S8x128_S8x128_0_0) (amaxOf y) Finset.univ
    (View.stores_vmem_bits_univ h_S8x128 rfl) (.inl rfl)) fun _ =>
  .op (.load aM (Rect.unit (s := S8x128) ![0, 0] S8x128.size inb_S8x128_S8x128_0_0).toLoadRect (View.loadsAt_vmem h_S8x128)) fun a =>
  .op (.load gM (Rect.unit (s := S32x8x128) (k0_off3 d) S1x8x128.size (k0_off3_inb d)).toLoadRect
    (View.loadsAt_vmem h_S1x8x128)) fun _ =>
  .op (.store gM (Rect.unit (s := S32x8x128) (k0_off3 d) S1x8x128.size (k0_off3_inb d)) (k0_pay173 a) Finset.univ
    (View.stores_vmem_bits_univ h_S1x8x128 rfl) (.inl rfl)) fun _ =>
  amaxSends d (amaxSent d (amaxRecvs d
    (.op (.load gM (Rect.unit (s := S32x8x128) ![0, 0, 0] S32x8x128.size inb_S32x8x128_S32x8x128_0_0_0).toLoadRect
      (View.loadsAt_vmem h_S32x8x128)) fun g =>
    .op (.load oM (Rect.unit (s := S128x2048) ![0, 0] S128x2048.size inb_S128x2048_S128x2048_0_0).toLoadRect
      (View.loadsAt_vmem h_S128x2048)) fun _ =>
    .op (.store oM (Rect.unit (s := S128x2048) ![0, 0] S128x2048.size inb_S128x2048_S128x2048_0_0) (k0_pay1 y (k0_pay174 g))
      Finset.univ (View.stores_vmem_bits_univ h_S128x2048 rfl) (.inl rfl)) fun _ => .ret ⟨⟩) 31) 31) 31

/-- The whole body. -/
def bodyP : P F :=
  .op .deviceId fun d =>
  .op (.semSignal (dev 0 d, .tc) barS (1#32 : BitVec 32).toInt) fun _ =>
  .op (.semSignal (dev 1 d, .tc) barS (1#32 : BitVec 32).toInt) fun _ =>
  .op (.semWait barS (2#32 : BitVec 32).toInt) fun _ =>
  rounds d (lastPart d 0 fun p0 => lastPart d 1 fun p1 => lastPart d 2 fun p2 => lastPart d 3 fun p3 =>
    epilogue d (yOf p0 p1 p2 p3)) 124

end Cert.Gemm
-- ==== Proof.Views.lean ====
/-
The slots of the double buffers and the rows of the table of maxima, as the loads, the stores and the copies name them.
-/
module

public import proofs.«01_k».proof.Proof.Program
public import Idealize.ShloMosaic.Lib.Writes
public import Idealize.ShloMosaic.Lib.ViewIndex
public import Idealize.ShloMosaic.Rules.Step
public import Idealize.ShloMosaic.Lib.Release

@[expose] public section

noncomputable section

namespace Cert.Gemm

open Cert.KernelIdeal Cert.KernelIdeal.Gen
open Idealize.ShloMosaic Idealize.SL.Sem
open Idealize.ShloMosaic.TcCoe

variable {F : FTy → Type}

/-! ## Double buffers -/

section Slots
variable (M : Memref sig .tc .vmem S2x128x512 .f32) (b : Fin 2)

theorem slotM_loc (c : Dev nD) : (slotM M b).view.loc (c : Thread nD τ) = M.view.loc (c : Thread nD τ) := rfl
theorem slotM_set : (slotM M b).view.set = (M.access (slotR b)).set := View.set_reshape _ _
theorem slotM_setOn : M.view.setOn (slotR b).toLoadRect.set ⊆ (slotM M b).view.set := by
  rw [slotM_set, View.set_slice]; exact Finset.Subset.refl _
/-- What was stored in a slot is what is loaded from it. -/
theorem slot_store_load (f : M.view.ty.Contents (Elt F)) (p : S1x128x512.Idx → Elt F .f32) :
    M.view.readAt (Elt F) (slotR b).toLoadRect ((M.access (slotR b)).write (Elt F) f p Finset.univ) = p :=
  funext fun x => View.read_write_of_mem (v := M.view.slice (slotR b)) f p (Finset.mem_univ x)
/-- A copy between slots carries what the slot holds. -/
theorem slot_copy (M' : Memref sig .tc .vmem S2x128x512 .f32) (f : M.view.ty.Contents (Elt F)) (g : M'.view.ty.Contents (Elt F)) :
    M.view.readAt (Elt F) (slotR b).toLoadRect ((slotM M b).view.write (Elt F) f ((slotM M' b).view.read (Elt F) g) Finset.univ)
      = M'.view.readAt (Elt F) (slotR b).toLoadRect g := by
  funext x
  have h : S128x512.numel = (slotR b).shape.numel := by show S128x512.numel = S1x128x512.numel; decide
  obtain ⟨y, rfl⟩ := (Shape.reshapeEquiv h).surjective x
  exact View.read_write_reshape (M.view.slice (slotR b)) h f _ y
end Slots

/-! ## The table of maxima -/

theorem row_inb (c : Dev nD) : ∀ a, (![c.val, 0, 0] : Fin 3 → ℕ) a + S1x8x128.size a ≤ S32x8x128.size a := by
  have : c.val < 32 := c.isLt
  intro a; fin_cases a <;> simp <;> omega
/-- Row `c`. -/
abbrev rowR (c : Dev nD) : Rect S32x8x128 := Rect.unit (s := S32x8x128) ![c.val, 0, 0] S1x8x128.size (row_inb c)
abbrev row (c : Dev nD) : Memref sig .tc .vmem S8x128 .f32 := rowM ![c.val, 0, 0] (row_inb c)

theorem rowM_congr {o o' : Fin 3 → ℕ} (h : o = o') (p p') : rowM o p = rowM o' p' := by subst h; rfl
theorem row_set (c : Dev nD) : (row c).view.set = (gM.access (rowR c)).set := View.set_reshape _ _
theorem row_disjoint {c c' : Dev nD} (h : c ≠ c') : Disjoint (row c).view.set (row c').view.set := by
  rw [row_set, row_set]
  refine View.disjoint_slice (Finset.disjoint_left.mpr fun x hx hx' => h (Fin.ext ?_))
  obtain ⟨y, -, e⟩ := Finset.mem_map.mp ((Rect.map_emb_univ (rowR c)).symm ▸ hx)
  obtain ⟨y', -, e'⟩ := Finset.mem_map.mp ((Rect.map_emb_univ (rowR c')).symm ▸ hx')
  have h0 := congrArg (fun z : S32x8x128.Idx => (z 0).val) (e.trans e'.symm)
  have hy : (y 0).val < 1 := (y 0).isLt
  have hy' : (y' 0).val < 1 := (y' 0).isLt
  simp [Rect.emb, Rect.unit] at h0
  omega
theorem slot_disjoint (M : Memref sig .tc .vmem S2x128x512 .f32) : Disjoint (slotM M 0).view.set (slotM M 1).view.set := by
  rw [slotM_set, slotM_set]
  refine View.disjoint_slice (Finset.disjoint_left.mpr fun x hx hx' => ?_)
  obtain ⟨y, -, e⟩ := Finset.mem_map.mp ((Rect.map_emb_univ (slotR 0)).symm ▸ hx)
  obtain ⟨y', -, e'⟩ := Finset.mem_map.mp ((Rect.map_emb_univ (slotR 1)).symm ▸ hx')
  have h0 := congrArg (fun z : S2x128x512.Idx => (z 0).val) (e.trans e'.symm)
  have hy : (y 0).val < 1 := (y 0).isLt
  simp [Rect.emb, Rect.unit] at h0
  omega

/-- Every element of a double buffer lies in one of its slots, -/
theorem slot_cover (M : Memref sig .tc .vmem S2x128x512 .f32) (hM : M.view.set = Finset.univ) :
    (slotM M 0).view.set ∪ (slotM M 1).view.set = Finset.univ := by
  rw [slotM_set, slotM_set, ← hM]
  refine Finset.Subset.antisymm (Finset.union_subset (View.set_slice_subset _ _) (View.set_slice_subset _ _)) fun i hi => ?_
  obtain ⟨x, -, rfl⟩ := Finset.mem_map.mp hi
  have h0 : (x 0).val < 2 := (x 0).isLt
  have key : ∀ b : Fin 2, (x 0).val = b.val → M.view.emb x ∈ (M.access (slotR b)).set := fun b hb => by
    refine Finset.mem_map.mpr ⟨fun a => match a with | ⟨0, _⟩ => ⟨0, Nat.one_pos⟩ | ⟨1, _⟩ => x 1 | ⟨2, _⟩ => x 2, Finset.mem_univ _, ?_⟩
    show M.view.emb ((slotR b).emb _) = _
    refine congrArg _ (funext fun a => Fin.ext ?_)
    fin_cases a <;> simp [Rect.emb, Rect.unit, hb]
  rcases Nat.lt_or_ge (x 0).val 1 with h | h
  · exact Finset.mem_union_left _ (key 0 (by simp; omega))
  · exact Finset.mem_union_right _ (key 1 (by simp; omega))

theorem gM_emb_row (x : S32x8x128.Idx) : ∃ y : S8x128.Idx, (row (x 0)).view.emb y = (gM : Memref sig .tc .vmem S32x8x128 .f32).view.emb x := by
  have hn : S8x128.numel = (rowR (x 0)).shape.numel := by show S8x128.numel = S1x8x128.numel; decide
  let z : (rowR (x 0)).shape.Idx := fun a => match a with | ⟨0, _⟩ => ⟨0, Nat.one_pos⟩ | ⟨1, _⟩ => x 1 | ⟨2, _⟩ => x 2
  obtain ⟨y, hy⟩ := (Shape.reshapeEquiv hn).surjective z
  refine ⟨y, ?_⟩
  show gM.view.emb ((rowR (x 0)).emb (Shape.reshapeEquiv hn y)) = _
  rw [hy]
  refine congrArg _ (funext fun a => Fin.ext ?_)
  fin_cases a <;> simp [Rect.emb, Rect.unit, z]
/-- The elements of row `c`, as elements of the table; -/
def rowSet (c : Dev nD) : Finset (gM : Memref sig .tc .vmem S32x8x128 .f32).view.ty.Idx := (row c).view.set
/-- every element of the table lies in one of its rows. -/
theorem row_cover : Finset.univ.biUnion rowSet = Finset.univ := by
  refine Finset.eq_univ_of_forall fun i => Finset.mem_biUnion.mpr ?_
  have hi : i ∈ (gM : Memref sig .tc .vmem S32x8x128 .f32).view.set :=
    (View.set_whole (cc0_scratch12 : Ref sig .tc)).symm ▸ Finset.mem_univ i
  obtain ⟨x, -, rfl⟩ := Finset.mem_map.mp hi
  obtain ⟨y, hy⟩ := gM_emb_row x
  exact ⟨x 0, Finset.mem_univ _, hy ▸ View.emb_mem_set _ y⟩

theorem sM_set (i : Fin 4) : (sM i).view.set = Finset.univ := by fin_cases i <;> exact View.set_whole _
theorem rM_set (i : Fin 4) : (rM i).view.set = Finset.univ := by fin_cases i <;> exact View.set_whole _
theorem slotM_nonempty (M : Memref sig .tc .vmem S2x128x512 .f32) (b : Fin 2) : (slotM M b).view.set.Nonempty :=
  ⟨_, View.emb_mem_set _ (fun a => ⟨0, by fin_cases a <;> decide⟩)⟩
theorem row_nonempty (c : Dev nD) : (row c).view.set.Nonempty :=
  ⟨_, View.emb_mem_set _ (fun a => ⟨0, by fin_cases a <;> decide⟩)⟩

end Cert.Gemm
-- ==== Proof.Protocol.lean ====
/-
The protocol of the kernel's semaphores. A message leaves for the next device of its stream's ring and brings a partial
sum, together with the fact that every device it has passed has entered; a credit brings the fact that slots have been
released; the exchange of maxima brings each device's row. The schedule names, for every round of every semaphore, its
duties and what they bring; the levels order the waits.
-/
module

public import proofs.«01_k».proof.Proof.Views
public import Idealize.ShloMosaic.Lib.Rounds
public import Idealize.ShloMosaic.Lib.Release
public import Idealize.ShloMosaic.Lib.SparseCore.Stream
public import Idealize.ShloMosaic.Lib.Pipeline.Launch
public import Idealize.ShloMosaic.Lib.Pipeline.Kit
public import Idealize.ShloMosaic.Lib.Tactic

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

abbrev UR2 : Type := URounds (GSem nD τ sig) ℕ
abbrev US : Type := USlots (GSem nD τ sig)
abbrev UU : Type := UR sig nD τ × (UR2 × US)

local notation "𝕄" => MT nD τ sig ℕ (Elt F) ℕ UU ℕ

abbrev EP : Emb (UR sig nD τ) (MT nD τ sig ℕ (Elt F) ℕ UU ℕ) := embL
def ER : Emb UR2 (MT nD τ sig ℕ (Elt F) ℕ UU ℕ) := (Emb.inl : Emb UR2 (UR2 × US)).trans embR
def ES : Emb US (MT nD τ sig ℕ (Elt F) ℕ UU ℕ) := (Emb.inr : Emb US (UR2 × US)).trans embR

instance : (ER (F := F)).LandsIn (upEmb : UEmb _ 𝕄) := by unfold ER; infer_instance
instance : (ES (F := F)).LandsIn (upEmb : UEmb _ 𝕄) := by unfold ES; infer_instance

/-! ## The semaphores' roles -/

inductive Role where
  | stage | send (i : Fin 4) (b : Fin 2) | recv (i : Fin 4) (b : Fin 2) | asend (k : Fin 31) | arecv (c : Dev nD) | cred (i : Fin 4) | bar
  deriving DecidableEq

def roleOf : SemLoc sig → Role
  | .reg s => if h : (s : Fin 5).val < 4 then .cred ⟨(s : Fin 5).val, h⟩ else .bar
  | .dma s =>
    if (s : Fin 82).val < 3 then .stage
    else if h : (s : Fin 82).val < 11 then .send ⟨((s : Fin 82).val - 3) / 2, by omega⟩ ⟨((s : Fin 82).val - 3) % 2, by omega⟩
    else if h : (s : Fin 82).val < 19 then .recv ⟨((s : Fin 82).val - 11) / 2, by omega⟩ ⟨((s : Fin 82).val - 11) % 2, by omega⟩
    else if h : (s : Fin 82).val < 50 then .asend ⟨(s : Fin 82).val - 19, by omega⟩
    else .arecv ⟨(s : Fin 82).val - 50, by have h82 : (s : Fin 82).val < 82 := (s : Fin 82).isLt; show (s : Fin 82).val - 50 < 32; omega⟩

theorem role_send : ∀ i b, roleOf (.dma (sendS i b)) = .send i b := by decide
theorem role_recv : ∀ i b, roleOf (.dma (recvS i b)) = .recv i b := by decide
theorem role_cred : ∀ i, roleOf (.reg (credS i)) = .cred i := by decide
theorem role_bar : roleOf (.reg barS) = .bar := by decide
theorem role_asend : ∀ k, roleOf (.dma (asendS k)) = .asend k := by decide
theorem role_arecv : ∀ c, roleOf (.dma (arecvS c)) = .arecv c := by decide

abbrev sendC (c : Dev nD) (i : Fin 4) (b : Fin 2) : GSem nD τ sig := ((c : Thread nD τ), .dma (sendS i b))
abbrev recvC (c : Dev nD) (i : Fin 4) (b : Fin 2) : GSem nD τ sig := ((c : Thread nD τ), .dma (recvS i b))
abbrev credC (c : Dev nD) (i : Fin 4) : GSem nD τ sig := ((c : Thread nD τ), .reg (credS i))
abbrev barC (c : Dev nD) : GSem nD τ sig := ((c : Thread nD τ), .reg barS)
abbrev asendC (c : Dev nD) (k : Fin 31) : GSem nD τ sig := ((c : Thread nD τ), .dma (asendS k))
abbrev arecvC (c : Dev nD) (src : Dev nD) : GSem nD τ sig := ((c : Thread nD τ), .dma (arecvS src))

/-- The units of a message and of a row. -/
def N : ℕ := (slotM (rM 0) 0).view.dmaCredit
def Na : ℕ := (row 0).view.dmaCredit
theorem N_pos : 0 < N := View.dmaCredit_pos _ (by decide)
theorem Na_pos : 0 < Na := View.dmaCredit_pos _ (by decide)

/-! ## The ring -/

theorem up_down : ∀ i d, up i (down i d) = d := by decide
theorem down_up : ∀ i d, down i (up i d) = d := by decide
theorem fwd_back : ∀ d, fwd 1 (fwd 31 d) = d := by decide
theorem fwd_forth : ∀ d, fwd 31 (fwd 1 d) = d := by decide

/-! ## Values -/

section Values
variable (xs : Dev nD → (xM : Memref sig .tc .vmem S4096x128 .f32).view.ty.Contents (Elt F))
variable (ws : Dev nD → (wM : Memref sig .tc .vmem S128x2048 .f32).view.ty.Contents (Elt F))

/-- The rows of the block of `x` on device `d` for device `c`, -/
def xrow (d c : Dev nD) : Vec F S128x128 .f32 := (xM : Memref sig .tc .vmem S4096x128 .f32).view.readAt (Elt F) (xR c).toLoadRect (xs d)
/-- the columns of stream `i`. -/
def wcol (d : Dev nD) (i : Fin 4) : Vec F S128x512 .f32 := (wM : Memref sig .tc .vmem S128x2048 .f32).view.readAt (Elt F) (wR i).toLoadRect (ws d)

/-- The message that device `d` sends in round `s` of stream `i`: the partial sum over the devices behind it. -/
def msg : ℕ → Fin 4 → Dev nD → FVec F S1x128x512 .f32
  | 0, i, d => k0_pay2 (xrow xs d (hop i 31 d)) (wcol ws d i)
  | s + 1, i, d => k0_pay6 (xrow xs d (hop i (31 - (s + 1)) d)) (wcol ws d i) (msg s i (up i d))

/-- The column block of stream `i` that device `d` ends with, -/
def part (i : Fin 4) (d : Dev nD) : FVec F S128x512 .f32 := k0_pay168 (msg xs ws 30 i (up i d)) (xrow xs d d) (wcol ws d i)
/-- its rectified block, -/
def yv (d : Dev nD) : FVec F S128x2048 .f32 := yOf (part xs ws 0 d) (part xs ws 1 d) (part xs ws 2 d) (part xs ws 3 d)
/-- its maximum, -/
def tile (d : Dev nD) : FVec F S8x128 .f32 := amaxOf (yv xs ws d)
/-- the table of all maxima, -/
def tiles : FVec F S32x8x128 .f32 := fun x => tile xs ws (x 0) fun a => match a with | ⟨0, _⟩ => x 1 | ⟨1, _⟩ => x 2
/-- and its result. -/
def outv (d : Dev nD) : FVec F S128x2048 .f32 := k0_pay1 (yv xs ws d) (k0_pay174 (tiles xs ws))
end Values

/-! ## What the semaphores bring -/

abbrev recvSlot (c : Dev nD) (i : Fin 4) (b : Fin 2) : sProp 𝕄 := slot ((slotM (rM i) b).view.loc (c : Thread nD τ)) (slotM (rM i) b).view.set
abbrev sendSlot (c : Dev nD) (i : Fin 4) (b : Fin 2) : sProp 𝕄 := slot ((slotM (sM i) b).view.loc (c : Thread nD τ)) (slotM (sM i) b).view.set
abbrev rowSlot (c src : Dev nD) : sProp 𝕄 := slot ((row src).view.loc (c : Thread nD τ)) (row src).view.set

/-- The slot that a semaphore of receipt guards. -/
def slotAt (g : GSem nD τ sig) : sProp 𝕄 :=
  match roleOf g.2 with
  | .recv i b => recvSlot g.1.1 i b
  | .arecv src => rowSlot g.1.1 src
  | _ => iprop(emp)

/-- Device `c` has entered: all its slots have been released once. -/
def Entered (c : Dev nD) : sProp 𝕄 :=
  iprop((bigSep Finset.univ fun i : Fin 4 => bigSep Finset.univ fun b : Fin 2 => released ES (recvC c i b) 1)
    ∗ bigSep Finset.univ fun src : Dev nD => released ES (arecvC c src) 1)
/-- The `n` devices from `c` upstream have. -/
def Heard (i : Fin 4) : Dev nD → ℕ → sProp 𝕄
  | _, 0 => iprop(emp)
  | c, n + 1 => iprop(Entered c ∗ Heard i (up i c) n)

/-- Of messages `0 … m - 1`, how many use slot `b`. -/
def cnt (b m : ℕ) : ℕ := (m + 1 - b) / 2

/-- Device `x` has taken the messages before `n` of stream `i` from its slots and has released them, slot `b`: -/
def FreedB (x : Dev nD) (i : Fin 4) (n : ℕ) (b : Fin 2) : sProp 𝕄 :=
  iprop(released ES (recvC x i b) (cnt b.val n + 1) ∗ reached ER (recvC x i b) (cnt b.val n))
/-- both. -/
def Freed (x : Dev nD) (i : Fin 4) (n : ℕ) : sProp 𝕄 := iprop(FreedB x i n 0 ∗ FreedB x i n 1)

instance Entered_persistent (c : Dev nD) : BI.Persistent (Entered (F := F) c) := by unfold Entered; infer_instance
instance Entered_storable (c : Dev nD) : BI.Storable (upEmb : UEmb _ 𝕄) (Entered (F := F) c) := by unfold Entered; infer_instance
instance Heard_persistent (i : Fin 4) (c : Dev nD) (n : ℕ) : BI.Persistent (Heard (F := F) i c n) := by
  induction n generalizing c with
  | zero => unfold Heard; infer_instance
  | succ n ih => unfold Heard; have := ih (up i c); infer_instance
instance Heard_storable (i : Fin 4) (c : Dev nD) (n : ℕ) : BI.Storable (upEmb : UEmb _ 𝕄) (Heard (F := F) i c n) := by
  induction n generalizing c with
  | zero => unfold Heard; infer_instance
  | succ n ih => unfold Heard; have := ih (up i c); infer_instance
instance Freed_persistent (x : Dev nD) (i : Fin 4) (n : ℕ) : BI.Persistent (Freed (F := F) x i n) := by unfold Freed FreedB; infer_instance
instance Freed_storable (x : Dev nD) (i : Fin 4) (n : ℕ) : BI.Storable (upEmb : UEmb _ 𝕄) (Freed (F := F) x i n) := by unfold Freed FreedB; infer_instance
instance slotAt_storable (g : GSem nD τ sig) : BI.Storable (upEmb : UEmb _ 𝕄) (slotAt (F := F) g) := by
  unfold slotAt; split <;> infer_instance

section Sched
variable (xs : Dev nD → (xM : Memref sig .tc .vmem S4096x128 .f32).view.ty.Contents (Elt F))
variable (ws : Dev nD → (wM : Memref sig .tc .vmem S128x2048 .f32).view.ty.Contents (Elt F))

/-- Message `n` of stream `i`, in its slot on device `c`. -/
def msgAt (c : Dev nD) (i : Fin 4) (b : Fin 2) (n : ℕ) : sProp 𝕄 :=
  iprop(∃ f : Buf (Elt F) ((slotM (rM i) b).view.loc (c : Thread nD τ)),
    ⌜(rM i).view.readAt (Elt F) (slotR b).toLoadRect f = msg xs ws n i (up i c)⌝
      ∗ (slotM (rM i) b).view.loc (c : Thread nD τ) ↦[(slotM (rM i) b).view.set]{fullShare} f)
/-- The row of device `src`, on device `c`. -/
def rowAt (c src : Dev nD) : sProp 𝕄 :=
  iprop(∃ f : Buf (Elt F) ((row src).view.loc (c : Thread nD τ)),
    ⌜(row src).view.read (Elt F) f = tile xs ws src⌝ ∗ (row src).view.loc (c : Thread nD τ) ↦[(row src).view.set]{fullShare} f)
/-- The share `k` of the device's own maximum. -/
def tileAt (c : Dev nD) (k : Fin 31) : sProp 𝕄 :=
  (aM : Memref sig .tc .vmem S8x128 .f32).view.loc (c : Thread nD τ) ↦[(aM : Memref sig .tc .vmem S8x128 .f32).view.set]{pieceOf fullShare 31 (by decide) k}
    (show Buf (Elt F) ((aM : Memref sig .tc .vmem S8x128 .f32).view.loc (c : Thread nD τ)) from tile xs ws c)

def Rd : Rounds.Schedule (GSem nD τ sig) ℕ 𝕄 where
  duties g r := match roleOf g.2 with
    | .send _ b => if 2 * r + b.val ≤ 30 then {0} else ∅
    | .recv _ b => if 2 * r + b.val ≤ 30 then {0} else ∅
    | .cred _ => if r = 0 then Finset.Icc 1 29 else ∅
    | .bar => if r = 0 then {0, 1} else ∅
    | .asend _ => if r = 0 then {0} else ∅
    | .arecv src => if r = 0 ∧ src ≠ g.1.1 then {0} else ∅
    | .stage => ∅
  unitless _ := False
  amount g _ _ := match roleOf g.2 with
    | .send _ _ => N
    | .recv _ _ => N
    | .asend _ => Na
    | .arecv _ => Na
    | _ => 1
  payload g r d := match roleOf g.2 with
    | .send i b => sendSlot g.1.1 i b
    | .recv i b => iprop(msgAt xs ws g.1.1 i b (2 * r + b.val) ∗ Heard i (up i g.1.1) (2 * r + b.val + 1))
    | .cred i => Freed (down i g.1.1) i d
    | .bar => Entered (if d = 0 then fwd 1 g.1.1 else fwd 31 g.1.1)
    | .asend k => tileAt xs ws g.1.1 k
    | .arecv src => rowAt xs ws g.1.1 src
    | .stage => iprop(emp)
  amount_pos g _ _ _ := by
    split <;> first | exact N_pos | exact Na_pos | exact Nat.one_pos

instance Rd_storable (g : GSem nD τ sig) (r d : ℕ) : BI.Storable (upEmb : UEmb _ 𝕄) ((Rd xs ws).payload g r d) := by
  dsimp only [Rd]
  split
  · infer_instance
  · unfold msgAt; infer_instance
  · infer_instance
  · infer_instance
  · unfold tileAt; infer_instance
  · unfold rowAt; infer_instance
  · infer_instance

variable (c : Dev nD) (i : Fin 4) (b : Fin 2)

theorem duties_send (r : ℕ) : (Rd xs ws).duties (sendC c i b) r = if 2 * r + b.val ≤ 30 then {0} else ∅ := by
  dsimp only [Rd]; rw [role_send]
theorem duties_recv (r : ℕ) : (Rd xs ws).duties (recvC c i b) r = if 2 * r + b.val ≤ 30 then {0} else ∅ := by
  dsimp only [Rd]; rw [role_recv]
theorem duties_cred (r : ℕ) : (Rd xs ws).duties (credC c i) r = if r = 0 then Finset.Icc 1 29 else ∅ := by
  dsimp only [Rd]; rw [role_cred]
theorem duties_bar (r : ℕ) : (Rd xs ws).duties (barC c) r = if r = 0 then {0, 1} else ∅ := by
  dsimp only [Rd]; rw [role_bar]
theorem duties_asend (k : Fin 31) (r : ℕ) : (Rd xs ws).duties (asendC c k) r = if r = 0 then {0} else ∅ := by
  dsimp only [Rd]; rw [role_asend]
theorem duties_arecv (s : Dev nD) (r : ℕ) : (Rd xs ws).duties (arecvC c s) r = if r = 0 ∧ s ≠ c then {0} else ∅ := by
  dsimp only [Rd]; rw [role_arecv]
theorem amount_send (r d : ℕ) : (Rd xs ws).amount (sendC c i b) r d = N := by dsimp only [Rd]; rw [role_send]
theorem amount_recv (r d : ℕ) : (Rd xs ws).amount (recvC c i b) r d = N := by dsimp only [Rd]; rw [role_recv]
theorem amount_cred (r d : ℕ) : (Rd xs ws).amount (credC c i) r d = 1 := by dsimp only [Rd]; rw [role_cred]
theorem amount_bar (r d : ℕ) : (Rd xs ws).amount (barC c) r d = 1 := by dsimp only [Rd]; rw [role_bar]
theorem amount_asend (k : Fin 31) (r d : ℕ) : (Rd xs ws).amount (asendC c k) r d = Na := by dsimp only [Rd]; rw [role_asend]
theorem amount_arecv (s : Dev nD) (r d : ℕ) : (Rd xs ws).amount (arecvC c s) r d = Na := by dsimp only [Rd]; rw [role_arecv]
theorem payload_send (r d : ℕ) : (Rd xs ws).payload (sendC c i b) r d = sendSlot c i b := by dsimp only [Rd]; rw [role_send]
theorem payload_recv (r d : ℕ) : (Rd xs ws).payload (recvC c i b) r d
    = iprop(msgAt xs ws c i b (2 * r + b.val) ∗ Heard i (up i c) (2 * r + b.val + 1)) := by dsimp only [Rd]; rw [role_recv]
theorem payload_cred (r d : ℕ) : (Rd xs ws).payload (credC c i) r d = Freed (down i c) i d := by dsimp only [Rd]; rw [role_cred]
theorem payload_bar (r d : ℕ) : (Rd xs ws).payload (barC c) r d = Entered (if d = 0 then fwd 1 c else fwd 31 c) := by
  dsimp only [Rd]; rw [role_bar]
theorem payload_asend (k : Fin 31) (r d : ℕ) : (Rd xs ws).payload (asendC c k) r d = tileAt xs ws c k := by dsimp only [Rd]; rw [role_asend]
theorem payload_arecv (s : Dev nD) (r d : ℕ) : (Rd xs ws).payload (arecvC c s) r d = rowAt xs ws c s := by dsimp only [Rd]; rw [role_arecv]
theorem expect_send {r : ℕ} (h : 2 * r + b.val ≤ 30) : (Rd xs ws).expect (sendC c i b) r = N := by
  unfold Schedule.expect Schedule.amountOf; rw [duties_send, if_pos h, Finset.sum_singleton, amount_send]
theorem expect_recv {r : ℕ} (h : 2 * r + b.val ≤ 30) : (Rd xs ws).expect (recvC c i b) r = N := by
  unfold Schedule.expect Schedule.amountOf; rw [duties_recv, if_pos h, Finset.sum_singleton, amount_recv]
theorem expect_cred : (Rd xs ws).expect (credC c i) 0 = 29 := by
  unfold Schedule.expect Schedule.amountOf; rw [duties_cred, if_pos rfl]; simp only [amount_cred]; decide
theorem expect_bar : (Rd xs ws).expect (barC c) 0 = 2 := by
  unfold Schedule.expect Schedule.amountOf; rw [duties_bar, if_pos rfl]; simp only [amount_bar]; decide
theorem expect_asend (k : Fin 31) : (Rd xs ws).expect (asendC c k) 0 = Na := by
  unfold Schedule.expect Schedule.amountOf; rw [duties_asend, if_pos rfl, Finset.sum_singleton, amount_asend]
theorem expect_arecv {s : Dev nD} (h : s ≠ c) : (Rd xs ws).expect (arecvC c s) 0 = Na := by
  unfold Schedule.expect Schedule.amountOf; rw [duties_arecv, if_pos ⟨rfl, h⟩, Finset.sum_singleton, amount_arecv]
end Sched

/-! ## What a device owes, and the levels -/

def L (g : GSem nD τ sig) : Finset ℕ := if g.1.2 = .tc then Finset.range 32 else ∅
/-- Step `4 s + i` signals at an even level and sends at the next. -/
def lv (g : GSem nD τ sig) (k : ℕ) : ℕ := match roleOf g.2 with
  | .bar => 1
  | .cred i => 2 * (4 * k + i.val) + 2
  | .recv i _ => 2 * (4 * k + i.val) + 3
  | .arecv _ => 1000
  | _ => 0

theorem L_of_ne (g : GSem nD τ sig) (h : g.1.2 ≠ .tc) : L g = ∅ := if_neg h

abbrev Tallies : Type := CellTallies nD τ sig ℕ

/-- The message and the credit of round `s` of stream `i`. -/
def msgTally (s : ℕ) (i : Fin 4) (c : Dev nD) : Tallies := tallyAt (recvC (down i c) i (slotOf s)) s N
def credTally (s : ℕ) (i : Fin 4) (c : Dev nD) : Tallies := if 1 ≤ s ∧ s ≤ 29 then tallyAt (credC (up i c) i) s 1 else 0
/-- The destination of copy `k` of the maximum. -/
def amaxDst (k : ℕ) (c : Dev nD) : Dev nD := ⟨(c.val + (1 + k)) % 32, Nat.mod_lt _ (by decide)⟩
/-- The last `n` copies of the maximum; -/
def owedAmax (c : Dev nD) : ℕ → Tallies
  | 0 => 0
  | n + 1 => owedAmax c n + tallyAt (arecvC (amaxDst (30 - n) c) c) 0 Na
/-- the last `n` steps and those; -/
def owedFrom (c : Dev nD) : ℕ → Tallies
  | 0 => owedAmax c 31
  | n + 1 => owedFrom c n + msgTally (sOf (123 - n)).val (iOf (123 - n)) c + credTally (sOf (123 - n)).val (iOf (123 - n)) c
/-- and the two signals at the start. -/
def O₀ (c : Dev nD) : Tallies := owedFrom c 124 + tallyAt (barC (fwd 1 c)) 0 1 + tallyAt (barC (fwd 31 c)) 0 1

/-- All that is owed lies at level `a` or above. -/
def Above (O : Tallies) (a : ℕ) : Prop := ∀ g k, 0 < O g k → g.1.2 = .tc ∧ k < 32 ∧ a ≤ lv g k

theorem Above.mono {O : Tallies} {a a' : ℕ} (h : Above O a) (h' : a' ≤ a) : Above O a' := fun g k hg => ⟨(h g k hg).1, (h g k hg).2.1, h'.trans (h g k hg).2.2⟩
theorem Above.add {O O' : Tallies} {a : ℕ} (h : Above O a) (h' : Above O' a) : Above (O + O') a := fun g k hg => by
  rw [Pi.add_apply, Finsupp.add_apply] at hg
  rcases Nat.eq_zero_or_pos (O g k) with h0 | h0
  · exact h' g k (by omega)
  · exact h g k h0
theorem Above.zero (a : ℕ) : Above 0 a := fun g k hg => absurd hg (Nat.lt_irrefl 0)
theorem Above.tally {c : Dev nD} {sm : SemLoc sig} {k n a : ℕ} (hk : k < 32) (h : a ≤ lv ((c : Thread nD τ), sm) k) :
    Above (tallyAt ((c : Thread nD τ), sm) k n) a := fun g k' hg => by
  rw [tallyAt_apply] at hg
  by_cases h' : g = ((c : Thread nD τ), sm) ∧ k' = k
  · obtain ⟨rfl, rfl⟩ := h'; exact ⟨rfl, hk, h⟩
  · rw [if_neg h'] at hg; exact absurd hg (Nat.lt_irrefl 0)

theorem lv_cred (c : Dev nD) (i : Fin 4) (k : ℕ) : lv (credC c i) k = 2 * (4 * k + i.val) + 2 := by unfold lv; rw [role_cred]
theorem lv_recv (c : Dev nD) (i : Fin 4) (b : Fin 2) (k : ℕ) : lv (recvC c i b) k = 2 * (4 * k + i.val) + 3 := by unfold lv; rw [role_recv]
theorem lv_send (c : Dev nD) (i : Fin 4) (b : Fin 2) (k : ℕ) : lv (sendC c i b) k = 0 := by unfold lv; rw [role_send]
theorem lv_bar (c : Dev nD) (k : ℕ) : lv (barC c) k = 1 := by unfold lv; rw [role_bar]
theorem lv_arecv (c s : Dev nD) (k : ℕ) : lv (arecvC c s) k = 1000 := by unfold lv; rw [role_arecv]

theorem above_amax (c : Dev nD) : ∀ n, Above (owedAmax c n) 1000
  | 0 => Above.zero _
  | n + 1 => (above_amax c n).add (Above.tally (by decide) (by rw [lv_arecv]))
theorem above_msg (s : ℕ) (i : Fin 4) (c : Dev nD) (hs : s < 31) : Above (msgTally s i c) (2 * (4 * s + i.val) + 3) :=
  Above.tally (by omega) (by rw [lv_recv])
theorem above_cred (s : ℕ) (i : Fin 4) (c : Dev nD) : Above (credTally s i c) (2 * (4 * s + i.val) + 2) := by
  unfold credTally; split
  · exact Above.tally (by omega) (by rw [lv_cred])
  · exact Above.zero _
theorem step_split {n : ℕ} (h : n < 124) : 4 * (sOf (123 - n)).val + (iOf (123 - n)).val = 123 - n := by
  show 4 * ((123 - n) / 4 % 31) + (123 - n) % 4 = _; omega
theorem above_from (c : Dev nD) : ∀ n, n ≤ 124 → Above (owedFrom c n) (2 * (124 - n) + 2)
  | 0, _ => (above_amax c 31).mono (by decide)
  | n + 1, h => by
    have e := step_split (n := n) (by omega)
    refine Above.add (Above.add ((above_from c n (by omega)).mono (by omega)) ((above_msg _ _ c (sOf _).isLt).mono ?_)) ((above_cred _ _ c).mono ?_) <;> omega
theorem above_start (c : Dev nD) : Above (O₀ c) 1 :=
  (((above_from c 124 le_rfl).mono (by decide)).add (Above.tally (by decide) (by rw [lv_bar]))).add (Above.tally (by decide) (by rw [lv_bar]))

/-- A wait below everything owed. -/
theorem mayWait {c : Dev nD} {sm : SemLoc sig} {k a : ℕ} {O : Tallies} (hO : Above O a) (hk : k < 32) (h : lv ((c : Thread nD τ), sm) k < a) :
    (levAts L lv : sProp 𝕄) ⊢ MayWait (c : Thread nD τ) sm k O :=
  MayOwe.of_cut (L := L) (lev := lv) (a - 1)
    (fun p hp => by rw [Finset.mem_singleton.mp hp]; unfold L; rw [if_pos rfl]; exact Finset.mem_range.mpr hk)
    (fun g u hg => by unfold L; rw [if_pos (hO g u hg).1]; exact Finset.mem_range.mpr (hO g u hg).2.1)
    (fun p hp => by rw [Finset.mem_singleton.mp hp]; dsimp only; omega)
    (fun g u hg => by have := (hO g u hg).2.2; omega)

end Cert.Gemm
-- ==== Proof.Steps.lean ====
/-
The pieces of a round, each with what it needs and what it leaves: the waits for a message, the product, the credit and
the send.
-/
module

public import proofs.«01_k».proof.Proof.Protocol

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

local notation "𝕄" => MT nD τ sig ℕ (Elt F) ℕ UU ℕ

/-! ## The cells -/

def semIx (k : Fin 84) : SemLoc sig :=
  if h : k.val < 79 then .dma (⟨3 + k.val, by omega⟩ : Fin 82) else .reg (⟨k.val - 79, by omega⟩ : Fin 5)
def semIx' (k : Fin 40) : SemLoc sig :=
  .dma (⟨if k.val < 8 then 11 + k.val else 42 + k.val, by split <;> omega⟩ : Fin 82)

theorem semIx_inj : Function.Injective semIx := by
  have h : ∀ k : Fin 84, (match semIx k with | .dma s => (s : Fin 82).val - 3 | .reg s => 79 + (s : Fin 5).val) = k.val := by decide
  exact fun a b e => Fin.ext (by rw [← h a, ← h b, e])
theorem semIx'_inj : Function.Injective semIx' := by
  have h : ∀ k : Fin 40, (match semIx' k with | .dma s => (if (s : Fin 82).val < 19 then (s : Fin 82).val - 11 else (s : Fin 82).val - 42) | .reg s => 0) = k.val := by decide
  exact fun a b e => Fin.ext (by rw [← h a, ← h b, e])

def kcell (x : Dev nD × Fin 84) : GSem nD τ sig := ((x.1 : Thread nD τ), semIx x.2)
def kkey (x : Dev nD × Fin 40) : GSem nD τ sig := ((x.1 : Thread nD τ), semIx' x.2)
theorem kcell_inj : Function.Injective kcell := by
  rintro ⟨c, k⟩ ⟨c', k'⟩ h
  have h1 : c = c' := congrArg (fun g : GSem nD τ sig => g.1.1) h
  have h2 : k = k' := semIx_inj (congrArg Prod.snd h)
  rw [h1, h2]
theorem kkey_inj : Function.Injective kkey := by
  rintro ⟨c, k⟩ ⟨c', k'⟩ h
  have h1 : c = c' := congrArg (fun g : GSem nD τ sig => g.1.1) h
  have h2 : k = k' := semIx'_inj (congrArg Prod.snd h)
  rw [h1, h2]
def cells : Finset (GSem nD τ sig) := Finset.univ.map ⟨kcell, kcell_inj⟩
def keys : Finset (GSem nD τ sig) := Finset.univ.map ⟨kkey, kkey_inj⟩

theorem mem_cells {c : Dev nD} {sm : SemLoc sig} (h : ∃ k, semIx k = sm) : ((c : Thread nD τ), sm) ∈ cells := by
  obtain ⟨k, rfl⟩ := h
  exact Finset.mem_map.mpr ⟨(c, k), Finset.mem_univ _, rfl⟩
theorem mem_keys {c : Dev nD} {sm : SemLoc sig} (h : ∃ k, semIx' k = sm) : ((c : Thread nD τ), sm) ∈ keys := by
  obtain ⟨k, rfl⟩ := h
  exact Finset.mem_map.mpr ⟨(c, k), Finset.mem_univ _, rfl⟩
theorem sendC_mem (c : Dev nD) (i : Fin 4) (b : Fin 2) : sendC c i b ∈ cells := mem_cells (by revert i b; decide)
theorem recvC_mem (c : Dev nD) (i : Fin 4) (b : Fin 2) : recvC c i b ∈ cells := mem_cells (by revert i b; decide)
theorem credC_mem (c : Dev nD) (i : Fin 4) : credC c i ∈ cells := mem_cells (by revert i; decide)
theorem barC_mem (c : Dev nD) : barC c ∈ cells := mem_cells (by decide)
theorem asendC_mem (c : Dev nD) (k : Fin 31) : asendC c k ∈ cells := mem_cells (by revert k; decide)
theorem arecvC_mem (c s : Dev nD) : arecvC c s ∈ cells := mem_cells (by revert s; decide)
theorem recvC_key (c : Dev nD) (i : Fin 4) (b : Fin 2) : recvC c i b ∈ keys := mem_keys (by revert i b; decide)
theorem arecvC_key (c s : Dev nD) : arecvC c s ∈ keys := mem_keys (by revert s; decide)

theorem slotAt_recv (c : Dev nD) (i : Fin 4) (b : Fin 2) : slotAt (F := F) (recvC c i b) = recvSlot c i b := by unfold slotAt; rw [role_recv]
theorem slotAt_arecv (c s : Dev nD) : slotAt (F := F) (arecvC c s) = rowSlot c s := by unfold slotAt; rw [role_arecv]

section Steps
variable (xs : Dev nD → (xM : Memref sig .tc .vmem S4096x128 .f32).view.ty.Contents (Elt F))
variable (ws : Dev nD → (wM : Memref sig .tc .vmem S128x2048 .f32).view.ty.Contents (Elt F))
variable (κ η : GSem nD τ sig → ℕ)

/-- What every device knows throughout: the invariants of all the cells and slots, and the levels. -/
def Ctx : sProp 𝕄 :=
  iprop((bigSep cells fun g => iprop(cellInv ER (Rd xs ws) (κ g) g ∗ reached ER g 0))
    ∗ (bigSep keys fun g => slotInv ES (η g) g (slotAt g)) ∗ levAts L lv)

instance Ctx_persistent : BI.Persistent (Ctx (F := F) xs ws κ η) := by unfold Ctx; infer_instance

theorem ctx_cell {g : GSem nD τ sig} (h : g ∈ cells) : Ctx (F := F) xs ws κ η ⊢ iprop(cellInv ER (Rd xs ws) (κ g) g ∗ reached ER g 0) := by
  unfold Ctx
  iintro ⟨H, -, -⟩
  iapply (show bigSep cells (fun g => iprop(cellInv ER (Rd (F := F) xs ws) (κ g) g ∗ reached ER g 0)) ⊢ _ from bigSep_elim h); iexact H
theorem ctx_key {g : GSem nD τ sig} (h : g ∈ keys) : Ctx (F := F) xs ws κ η ⊢ slotInv ES (η g) g (slotAt g) := by
  unfold Ctx
  iintro ⟨-, H, -⟩
  iapply (show bigSep keys (fun g => slotInv (ES (F := F)) (η g) g (slotAt g)) ⊢ _ from bigSep_elim h); iexact H
theorem ctx_wait {c : Dev nD} {sm : SemLoc sig} {k a : ℕ} {O : Tallies} (hO : Above O a) (hk : k < 32) (h : lv ((c : Thread nD τ), sm) k < a) :
    Ctx (F := F) xs ws κ η ⊢ MayWait (c : Thread nD τ) sm k O := by
  unfold Ctx
  iintro ⟨-, -, H⟩; iapply (mayWait hO hk h); iexact H

abbrev 𝒱₀ : Variants := Variants.none
abbrev wpc (c : Dev nD) (p : P F) (Q : PUnit → sProp 𝕄) : sProp 𝕄 := wp frame (wpE (defs₀ (F := F)) 𝒱₀ (c : Thread nD τ) none) Set.univ p Q

abbrev owesAny (c : Dev nD) (O : Tallies) : sProp 𝕄 := iprop(∃ W, owes (c : Thread nD τ) O W)

/-! ## Waiting for a message -/

theorem credit_s (i : Fin 4) (b : Fin 2) : (slotM (sM i) b).view.dmaCredit = N := by fin_cases i <;> fin_cases b <;> rfl
theorem credit_r (i : Fin 4) (b : Fin 2) : (slotM (rM i) b).view.dmaCredit = N := by fin_cases i <;> fin_cases b <;> rfl

/-- Where the device stands in the rounds of slot `b`, `m` messages past. -/
def PosB (c : Dev nD) (i : Fin 4) (m : ℕ) (b : Fin 2) : sProp 𝕄 :=
  iprop((atPos ER (sendC c i b) (cnt b.val m) ∅ 0 ∗ atPos ER (recvC c i b) (cnt b.val m) ∅ 0)
    ∗ reached ER (sendC c i b) (cnt b.val m) ∗ reached ER (recvC c i b) (cnt b.val m))
def Pos (c : Dev nD) (i : Fin 4) (m : ℕ) : sProp 𝕄 := iprop(PosB c i m 0 ∗ PosB c i m 1)

theorem cnt_same (m : ℕ) : cnt (m % 2) m = m / 2 := by unfold cnt; omega
theorem cnt_next (m : ℕ) : cnt (m % 2) (m + 1) = m / 2 + 1 := by unfold cnt; omega
theorem cnt_other (m : ℕ) {b : ℕ} (hb : b < 2) (h : b ≠ m % 2) : cnt b (m + 1) = cnt b m := by unfold cnt; omega

/-- The other slot. -/
def other (b : Fin 2) : Fin 2 := 1 - b
theorem both {Φ : Fin 2 → sProp 𝕄} (b : Fin 2) : iprop(Φ 0 ∗ Φ 1) = iprop(Φ b ∗ Φ (other b)) := by
  match b with
  | 0 => rfl
  | 1 => exact (show iprop(Φ 0 ∗ Φ 1) = iprop(Φ 1 ∗ Φ 0) from by
      have hu : iprop(Φ 0 ∗ Φ 1) ⊣⊢ iprop(Φ 1 ∗ Φ 0) := sep_comm
      exact BI.equiv_iff.mp ⟨hu.1, hu.2⟩)
theorem posB_other (c : Dev nD) (i : Fin 4) (m : ℕ) : PosB (F := F) c i m (other (slotOf m)) = PosB c i (m + 1) (other (slotOf m)) := by
  have h : (other (slotOf m)).val ≠ m % 2 := by
    have : ∀ b : Fin 2, (other b).val ≠ b.val := by decide
    exact this (slotOf m)
  unfold PosB; rw [cnt_other m (other (slotOf m)).isLt h]

theorem rest_send (c : Dev nD) (i : Fin 4) (b : Fin 2) {r : ℕ} (hr : 2 * r + b.val ≤ 30) :
    bigSep ((Rd xs ws).duties (sendC c i b) r \ ∅) (fun d => (Rd xs ws).payload (sendC c i b) r d) = sendSlot c i b := by
  rw [duties_send, if_pos hr, Finset.sdiff_empty, bigSep_singleton, payload_send]
theorem rest_recv (c : Dev nD) (i : Fin 4) (b : Fin 2) {r : ℕ} (hr : 2 * r + b.val ≤ 30) :
    bigSep ((Rd xs ws).duties (recvC c i b) r \ ∅) (fun d => (Rd xs ws).payload (recvC c i b) r d)
      = iprop(msgAt xs ws c i b (2 * r + b.val) ∗ Heard i (up i c) (2 * r + b.val + 1)) := by
  rw [duties_recv, if_pos hr, Finset.sdiff_empty, bigSep_singleton, payload_recv]

theorem wp_waitSend (c : Dev nD) (i : Fin 4) (b : Fin 2) (r a : ℕ) (hr : 2 * r + b.val ≤ 30) (O : Tallies) (hO : Above O a) (ha : 0 < a)
    (K : P F) (Q : PUnit → sProp 𝕄) :
    iprop(Ctx xs ws κ η ∗ cred (tallyAt (sendC c i b) 0 N) ∗ owesAny c O ∗ atPos ER (sendC c i b) r ∅ 0)
      ⊢ iprop(((sendSlot c i b ∗ owesAny c O ∗ atPos ER (sendC c i b) (r + 1) ∅ 0 ∗ reached ER (sendC c i b) (r + 1)) -∗ wpc c K Q)
        -∗ wpc c (waitSend i b K) Q) := by
  iintro ⟨#HC, Hc, ⟨%W, HO⟩, Hat⟩ Hk
  ihave HI := (ctx_cell xs ws κ η (sendC_mem c i b)) $$ HC
  icases HI with ⟨#HI, -⟩
  unfold waitSend wpc
  iapply (Rounds.wp_wait_rest_token (k' := N) 𝒱₀ ER (Rd xs ws) (c : Thread nD τ) none (κ := κ (sendC c i b))
      (fun K => (wpE_waitDma2_eq 𝒱₀ (c : Thread nD τ) none Set.univ K).trans (by rw [credit_s])) (Set.mem_univ _) 0 (O := O) (W := W) (R := r) (m := 0) (T := ∅)
      (by rw [Nat.zero_add, expect_send xs ws c i b hr])) $$ [Hc HO Hat]
  · isplitr; · iexact HI
    isplitl [Hc]; · iexact Hc
    isplitl [HO]; · iexact HO
    isplitr; · iapply (ctx_wait xs ws κ η hO (by decide) (by rw [lv_send]; exact ha)); iexact HC
    iexact Hat
  iintro ⟨HO, Hat, Hr, Hpay⟩
  iapply Hk
  isplitl [Hpay]
  · iapply (Entails.of_eq (rest_send xs ws c i b hr)); iexact Hpay
  isplitl [HO]; · iexists _; iexact HO
  isplitl [Hat] <;> iassumption

theorem wp_waitRecv (c : Dev nD) (i : Fin 4) (b : Fin 2) (r a : ℕ) (hr : 2 * r + b.val ≤ 30) (O : Tallies) (hO : Above O a)
    (ha : 2 * (4 * (2 * r + b.val) + i.val) + 3 < a) (K : P F) (Q : PUnit → sProp 𝕄) :
    iprop(Ctx xs ws κ η ∗ cred (tallyAt (recvC c i b) (2 * r + b.val) N) ∗ owesAny c O ∗ atPos ER (recvC c i b) r ∅ 0)
      ⊢ iprop(((msgAt xs ws c i b (2 * r + b.val) ∗ Heard i (up i c) (2 * r + b.val + 1) ∗ owesAny c O
          ∗ atPos ER (recvC c i b) (r + 1) ∅ 0 ∗ reached ER (recvC c i b) (r + 1)) -∗ wpc c K Q)
        -∗ wpc c (waitRecv i b K) Q) := by
  iintro ⟨#HC, Hc, ⟨%W, HO⟩, Hat⟩ Hk
  ihave HI := (ctx_cell xs ws κ η (recvC_mem c i b)) $$ HC
  icases HI with ⟨#HI, -⟩
  unfold waitRecv wpc
  iapply (Rounds.wp_wait_rest_token (k' := N) 𝒱₀ ER (Rd xs ws) (c : Thread nD τ) none (κ := κ (recvC c i b))
      (fun K => (wpE_waitDma2_eq 𝒱₀ (c : Thread nD τ) none Set.univ K).trans (by rw [credit_r])) (Set.mem_univ _) (2 * r + b.val) (O := O) (W := W) (R := r) (m := 0) (T := ∅)
      (by rw [Nat.zero_add, expect_recv xs ws c i b hr])) $$ [Hc HO Hat]
  · isplitr; · iexact HI
    isplitl [Hc]; · iexact Hc
    isplitl [HO]; · iexact HO
    isplitr; · iapply (ctx_wait xs ws κ η hO (by omega) (by rw [lv_recv]; exact ha)); iexact HC
    iexact Hat
  iintro ⟨HO, Hat, Hr, Hpay⟩
  ihave Hpay := (Entails.of_eq (rest_recv xs ws c i b hr)) $$ Hpay
  icases Hpay with ⟨Hm, Hh⟩
  iapply Hk
  isplitl [Hm]; · iexact Hm
  isplitl [Hh]; · iexact Hh
  isplitl [HO]; · iexists _; iexact HO
  isplitl [Hat] <;> iassumption

/-- The two waits for message `m`: its slot is free to send from again, and the neighbour's message is there. -/
theorem wp_waitMsg (c : Dev nD) (i : Fin 4) (m a : ℕ) (hm : m ≤ 30) (O : Tallies) (hO : Above O a) (ha : 2 * (4 * m + i.val) + 3 < a)
    (K : P F) (Q : PUnit → sProp 𝕄) :
    iprop(Ctx xs ws κ η ∗ cred (tallyAt (sendC c i (slotOf m)) 0 N) ∗ cred (tallyAt (recvC c i (slotOf m)) m N) ∗ owesAny c O ∗ Pos c i m)
      ⊢ iprop(((sendSlot c i (slotOf m) ∗ msgAt xs ws c i (slotOf m) m ∗ Heard i (up i c) (m + 1) ∗ owesAny c O ∗ Pos c i (m + 1)) -∗ wpc c K Q)
        -∗ wpc c (waitSend i (slotOf m) (waitRecv i (slotOf m) K)) Q) := by
  have e : 2 * (m / 2) + (slotOf m).val = m := by show 2 * (m / 2) + m % 2 = m; omega
  have hb : (slotOf m).val = m % 2 := rfl
  have hp (m' : ℕ) : Pos (F := F) c i m' = iprop(PosB c i m' (slotOf m) ∗ PosB c i m' (other (slotOf m))) := both (slotOf m)
  rw [hp m, hp (m + 1), ← posB_other]
  generalize PosB (F := F) c i m (other (slotOf m)) = R
  unfold PosB
  rw [hb, cnt_same, cnt_next]
  iintro ⟨#HC, Hcs, Hcr, HO, ⟨⟨Hs, Hr⟩, -, -⟩, Ho⟩ Hk
  iapply (wp_waitSend xs ws κ η c i (slotOf m) (m / 2) a (by omega) O hO (by omega)) $$ [Hcs HO Hs]
  · isplitr; · iexact HC
    isplitl [Hcs]; · iexact Hcs
    isplitl [HO] <;> iassumption
  iintro ⟨Hslot, HO, Hs, #Hrs⟩
  iapply (wp_waitRecv xs ws κ η c i (slotOf m) (m / 2) a (by omega) O hO (by rw [e]; exact ha)) $$ [Hcr HO Hr]
  · isplitr; · iexact HC
    rw [e]
    isplitl [Hcr]; · iexact Hcr
    isplitl [HO] <;> iassumption
  rw [e]
  iintro ⟨Hm, Hh, HO, Hr, #Hrr⟩
  iapply Hk
  isplitl [Hslot]; · iexact Hslot
  isplitl [Hm]; · iexact Hm
  isplitl [Hh]; · iexact Hh
  isplitl [HO]; · iexact HO
  isplitl [Hs Hr]
  · isplitl [Hs Hr]
    · isplitl [Hs] <;> iassumption
    isplitr <;> iassumption
  iexact Ho

end Steps

end Cert.Gemm
-- ==== Proof.Moves.lean ====
/-
The product, the credit and the send of a round.
-/
module

public import proofs.«01_k».proof.Proof.Steps

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

local notation "𝕄" => MT nD τ sig ℕ (Elt F) ℕ UU ℕ

section Moves
variable (xs : Dev nD → (xM : Memref sig .tc .vmem S4096x128 .f32).view.ty.Contents (Elt F))
variable (ws : Dev nD → (wM : Memref sig .tc .vmem S128x2048 .f32).view.ty.Contents (Elt F))
variable (κ η : GSem nD τ sig → ℕ)

/-! ## The product -/

def xPts (c : Dev nD) : sProp 𝕄 :=
  (xM : Memref sig .tc .vmem S4096x128 .f32).view.loc (c : Thread nD τ) ↦[Finset.univ]{fullShare} (xs c)
def wPts (c : Dev nD) : sProp 𝕄 :=
  (wM : Memref sig .tc .vmem S128x2048 .f32).view.loc (c : Thread nD τ) ↦[Finset.univ]{fullShare} (ws c)

/-- Message `n` of stream `i`, ready to leave. -/
def outAt (c : Dev nD) (i : Fin 4) (b : Fin 2) (n : ℕ) : sProp 𝕄 :=
  iprop(∃ f : Buf (Elt F) ((slotM (sM i) b).view.loc (c : Thread nD τ)),
    ⌜(sM i).view.readAt (Elt F) (slotR b).toLoadRect f = msg xs ws n i c⌝
      ∗ (slotM (sM i) b).view.loc (c : Thread nD τ) ↦[(slotM (sM i) b).view.set]{fullShare} f)

theorem xload (o o' : Fin 2 → ℕ) (h : o = o') (p p') (f : (xM : Memref sig .tc .vmem S4096x128 .f32).view.ty.Contents (Elt F)) :
    (xM : Memref sig .tc .vmem S4096x128 .f32).view.readAt (Elt F) (Rect.unit (s := S4096x128) o S128x128.size p).toLoadRect f
      = (xM : Memref sig .tc .vmem S4096x128 .f32).view.readAt (Elt F) (Rect.unit (s := S4096x128) o' S128x128.size p').toLoadRect f := by
  subst h; rfl

theorem wp_loadX (c : Dev nD) (s : Fin 31) (i : Fin 4) (K : Vec F S128x128 .f32 → P F) (Q : PUnit → sProp 𝕄) :
    xPts xs c ⊢ iprop((xPts xs c -∗ wpc c (K (xrow xs c (hop i (31 - s.val) c))) Q) -∗ wpc c (loadX c s i K) Q) := by
  unfold xPts loadX
  iintro Hx Hk
  iapply (wp_load 𝒱₀ (c : Thread nD τ) none Set.univ (m := xM) (Finset.subset_univ _)) $$ Hx; iintro Hx
  rw [xload _ _ (off1_eq c s i) _ (chunk_inb _)]
  iapply Hk; iexact Hx
theorem wp_loadW (c : Dev nD) (i : Fin 4) (K : Vec F S128x512 .f32 → P F) (Q : PUnit → sProp 𝕄) :
    wPts ws c ⊢ iprop((wPts ws c -∗ wpc c (K (wcol ws c i)) Q) -∗ wpc c (loadW i K) Q) := by
  unfold wPts loadW
  iintro Hx Hk
  iapply (wp_load 𝒱₀ (c : Thread nD τ) none Set.univ (m := wM) (Finset.subset_univ _)) $$ Hx; iintro Hx
  iapply Hk; iexact Hx
theorem wp_loadSlot (c : Dev nD) (M : Memref sig .tc .vmem S2x128x512 .f32) (b : Fin 2) (f : Buf (Elt F) ((slotM M b).view.loc (c : Thread nD τ)))
    (K : Vec F S1x128x512 .f32 → P F) (Q : PUnit → sProp 𝕄) :
    ((slotM M b).view.loc (c : Thread nD τ) ↦[(slotM M b).view.set]{fullShare} f)
      ⊢ iprop((((slotM M b).view.loc (c : Thread nD τ) ↦[(slotM M b).view.set]{fullShare} f) -∗ wpc c (K (M.view.readAt (Elt F) (slotR b).toLoadRect f)) Q)
        -∗ wpc c (loadSlot M b K) Q) :=
  wp_load 𝒱₀ (c : Thread nD τ) none Set.univ (m := M) (slotM_setOn M b)
theorem wp_storeSlot (c : Dev nD) (M : Memref sig .tc .vmem S2x128x512 .f32) (b : Fin 2) (f : Buf (Elt F) ((slotM M b).view.loc (c : Thread nD τ)))
    (p : FVec F S1x128x512 .f32) (K : P F) (Q : PUnit → sProp 𝕄) :
    ((slotM M b).view.loc (c : Thread nD τ) ↦[(slotM M b).view.set]{fullShare} f)
      ⊢ iprop((((slotM M b).view.loc (c : Thread nD τ) ↦[(slotM M b).view.set]{fullShare} ((M.access (slotR b)).write (Elt F) f p Finset.univ)) -∗ wpc c K Q)
        -∗ wpc c (storeSlot M b p K) Q) := by
  unfold storeSlot wpc
  have hS : (M.access (slotR b)).setOn Finset.univ ⊆ (slotM M b).view.set := fun x hx => by
    rw [View.setOn_univ] at hx; rw [slotM_set]; exact hx
  iintro H Hk
  iapply (wp_store 𝒱₀ (c : Thread nD τ) none Set.univ (m := M) (r := slotR b) (Mk := Finset.univ) (f := f) hS) $$ H
  iexact Hk

theorem out_of_store (c : Dev nD) (i : Fin 4) (b : Fin 2) (n : ℕ) (f : Buf (Elt F) ((slotM (sM i) b).view.loc (c : Thread nD τ)))
    (p : FVec F S1x128x512 .f32) (h : p = msg xs ws n i c) :
    ((slotM (sM i) b).view.loc (c : Thread nD τ) ↦[(slotM (sM i) b).view.set]{fullShare} (((sM i).access (slotR b)).write (Elt F) f p Finset.univ))
      ⊢ outAt xs ws c i b n := by
  unfold outAt
  iintro H
  iexists (((sM i).access (slotR b)).write (Elt F) f p Finset.univ)
  isplitr; · ipureintro; exact (slot_store_load (sM i) b f p).trans h
  iexact H

/-- The first round stores its product, -/
theorem wp_compute_first (c : Dev nD) (s : Fin 31) (hs : s.val = 0) (i : Fin 4) (K : P F) (Q : PUnit → sProp 𝕄) :
    iprop(xPts xs c ∗ wPts ws c ∗ sendSlot c i (slotOf s.val))
      ⊢ iprop(((xPts xs c ∗ wPts ws c ∗ outAt xs ws c i (slotOf s.val) s.val) -∗ wpc c K Q) -∗ wpc c (compute c s i K) Q) := by
  unfold compute
  simp only [if_pos hs]
  unfold sendSlot slot
  iintro ⟨Hx, Hw, ⟨%f, Hs⟩⟩ Hk
  iapply (wp_loadX xs c s i) $$ Hx; iintro Hx
  iapply (wp_loadW ws c i) $$ Hw; iintro Hw
  iapply (wp_loadSlot c (sM i) (slotOf s.val) f) $$ Hs; iintro Hs
  iapply (wp_storeSlot c (sM i) (slotOf s.val) f) $$ Hs; iintro Hs
  iapply Hk
  isplitl [Hx]; · iexact Hx
  isplitl [Hw]; · iexact Hw
  iapply (out_of_store xs ws c i (slotOf s.val) s.val f (k0_pay2 (xrow xs c (hop i (31 - s.val) c)) (wcol ws c i)) (by rw [hs]; rfl))
  iexact Hs

/-- the later ones add the message that came in. -/
theorem wp_compute_next (c : Dev nD) (s : Fin 31) (m : ℕ) (hs : s.val = m + 1) (i : Fin 4) (K : P F) (Q : PUnit → sProp 𝕄) :
    iprop(xPts xs c ∗ wPts ws c ∗ sendSlot c i (slotOf s.val) ∗ msgAt xs ws c i (slotOf m) m)
      ⊢ iprop(((xPts xs c ∗ wPts ws c ∗ outAt xs ws c i (slotOf s.val) s.val ∗ recvSlot c i (slotOf m)) -∗ wpc c K Q) -∗ wpc c (compute c s i K) Q) := by
  have hm : s.val - 1 = m := by omega
  unfold compute
  simp only [if_neg (show ¬ s.val = 0 by omega), hm]
  unfold sendSlot recvSlot slot msgAt
  iintro ⟨Hx, Hw, ⟨%f, Hs⟩, ⟨%g, %hg, Hr⟩⟩ Hk
  iapply (wp_loadX xs c s i) $$ Hx; iintro Hx
  iapply (wp_loadW ws c i) $$ Hw; iintro Hw
  iapply (wp_loadSlot c (rM i) (slotOf m) g) $$ Hr; iintro Hr
  iapply (wp_loadSlot c (sM i) (slotOf s.val) f) $$ Hs; iintro Hs
  iapply (wp_storeSlot c (sM i) (slotOf s.val) f) $$ Hs; iintro Hs
  iapply Hk
  isplitl [Hx]; · iexact Hx
  isplitl [Hw]; · iexact Hw
  isplitl [Hs]
  · iapply (out_of_store xs ws c i (slotOf s.val) s.val f _ (show k0_pay6 (xrow xs c (hop i (31 - s.val) c)) (wcol ws c i)
      ((rM i).view.readAt (Elt F) (slotR (slotOf m)).toLoadRect g) = msg xs ws s.val i c by rw [hg, hs]; rfl))
    iexact Hs
  iexists _; iexact Hr

/-! ## The credit -/

/-- The reader's count of slot `b`, `n` messages released. -/
def ReadB (c : Dev nD) (i : Fin 4) (n : ℕ) (b : Fin 2) : sProp 𝕄 :=
  iprop(readerAt ES (recvC c i b) (cnt b.val n + 1) ∗ released ES (recvC c i b) (cnt b.val n + 1))
def Read (c : Dev nD) (i : Fin 4) (n : ℕ) : sProp 𝕄 := iprop(ReadB c i n 0 ∗ ReadB c i n 1)
theorem readB_other (c : Dev nD) (i : Fin 4) (m : ℕ) : ReadB (F := F) c i m (other (slotOf m)) = ReadB c i (m + 1) (other (slotOf m)) := by
  have h : (other (slotOf m)).val ≠ m % 2 := by
    have : ∀ b : Fin 2, (other b).val ≠ b.val := by decide
    exact this (slotOf m)
  unfold ReadB; rw [cnt_other m (other (slotOf m)).isLt h]

theorem recvSlot_excl (c : Dev nD) (i : Fin 4) (b : Fin 2) : iprop(recvSlot (F := F) c i b ∗ recvSlot c i b) ⊢ False :=
  slot_slot_false (slotM_nonempty _ _)

/-- Releasing the slot of message `m`. -/
theorem release (c : Dev nD) (i : Fin 4) (m : ℕ) :
    iprop(Ctx xs ws κ η ∗ Read c i m ∗ recvSlot c i (slotOf m)) ⊢ (|={Set.univ}=> Read c i (m + 1) : sProp 𝕄) := by
  have hp (m' : ℕ) : Read (F := F) c i m' = iprop(ReadB c i m' (slotOf m) ∗ ReadB c i m' (other (slotOf m))) := both (slotOf m)
  have hb : (slotOf m).val = m % 2 := rfl
  rw [hp m, hp (m + 1), ← readB_other]
  generalize ReadB (F := F) c i m (other (slotOf m)) = R
  unfold ReadB
  rw [hb, cnt_same, cnt_next]
  iintro ⟨#HC, ⟨⟨Hr, -⟩, HR⟩, Hs⟩
  ihave HI := (ctx_key xs ws κ η (recvC_key c i (slotOf m))) $$ HC
  ihave HI := (Entails.of_eq (congrArg (fun S => slotInv (ES (F := F)) (η (recvC c i (slotOf m))) (recvC c i (slotOf m)) S) (slotAt_recv (F := F) c i (slotOf m)))) $$ HI
  imod (slot_release ES (Set.mem_univ _) (recvSlot_excl c i (slotOf m)) (m / 2 + 1)) $$ [HI Hr Hs] with ⟨Hr, Hrel⟩
  · isplitl [HI]; · iexact HI
    isplitl [Hr] <;> iassumption
  imodintro
  isplitl [Hr Hrel]
  · isplitl [Hr] <;> iassumption
  iexact HR

theorem dev_credit (d : Dev nD) (s : ℕ) (i : Fin 4) (h : 1 ≤ s ∧ s ≤ 29) : dev (6 + 2 * (4 * (s - 1) + i.val)) d = up i d := by
  rw [dev_eq (by omega)]
  have h1 : ¬ (6 + 2 * (4 * (s - 1) + i.val) = 0) := by omega
  revert s i d
  have : ∀ (d : Dev nD) (i : Fin 4), ∀ s : Fin 30, 1 ≤ s.val → devSpec (6 + 2 * (4 * (s.val - 1) + i.val)) d = up i d := by decide
  exact fun d s i h _ => this d i ⟨s, by omega⟩ h.1

/-- The credit that goes with the release, where the round sends one. -/
theorem wp_signalCredit (c : Dev nD) (s : Fin 31) (m : ℕ) (hs : s.val = m + 1) (i : Fin 4) (O : Tallies) (K : P F) (Q : PUnit → sProp 𝕄) :
    iprop(Ctx xs ws κ η ∗ Read c i (min m 29) ∗ recvSlot c i (slotOf m) ∗ Pos c i (m + 1)
        ∗ (if 1 ≤ s.val ∧ s.val ≤ 29 then dutyTok ER (credC (up i c) i) 0 s.val else emp) ∗ owesAny c (O + credTally s.val i c))
      ⊢ iprop(((Read c i (min (m + 1) 29) ∗ (if m + 1 = 30 then recvSlot c i 1 else emp) ∗ Pos c i (m + 1) ∗ owesAny c O) -∗ wpc c K Q)
        -∗ wpc c (signalCredit c s i K) Q) := by
  have h31 := s.isLt
  unfold signalCredit credTally
  by_cases h : 1 ≤ s.val ∧ s.val ≤ 29
  · simp only [if_pos h]
    rw [if_neg (show ¬ m + 1 = 30 by omega), show min m 29 = m by omega, show min (m + 1) 29 = m + 1 by omega, dev_credit c s.val i h]
    iintro ⟨#HC, Hr, Hs, Hp, Ht, ⟨%W, HO⟩⟩ Hk
    imod (release xs ws κ η c i m) $$ [Hr Hs] with Hr
    · isplitr; · iexact HC
      isplitl [Hr] <;> iassumption
    ihave HI := (ctx_cell xs ws κ η (credC_mem (up i c) i)) $$ HC
    icases HI with ⟨#HI, #Hr0⟩
    unfold Read ReadB Pos PosB
    icases Hr with ⟨⟨Ha0, #Hl0⟩, Ha1, #Hl1⟩
    icases Hp with ⟨⟨Hp0, #Hs0, #Hq0⟩, Hp1, #Hs1, #Hq1⟩
    iapply (Rounds.wp_signal 𝒱₀ ER (Rd xs ws) (c : Thread nD τ) none (dst := (up i c : Thread nD τ)) (κ := κ (credC (up i c) i)) (k' := 1) (r := 0) (d := s.val)
      (by rw [duties_cred, if_pos rfl]; exact Finset.mem_Icc.mpr h) (amount_cred xs ws (up i c) i 0 s.val) s.val O rfl) $$ [HO Ht]
    · isplitr; · iexact HI
      isplitl [HO]; · iexact HO
      isplitl [Ht]; · iexact Ht
      isplitr
      · rw [payload_cred, down_up, hs]; unfold Freed FreedB
        isplitr
        · isplitr <;> iassumption
        isplitr <;> iassumption
      iexact Hr0
    iintro HO
    iapply Hk
    isplitl [Ha0 Ha1]
    · isplitl [Ha0]
      · isplitl [Ha0]
        · iexact Ha0
        iexact Hl0
      isplitl [Ha1]
      · iexact Ha1
      iexact Hl1
    isplitr; · iempintro
    isplitl [Hp0 Hp1]
    · isplitl [Hp0]
      · isplitl [Hp0]
        · iexact Hp0
        isplitr <;> iassumption
      isplitl [Hp1]
      · iexact Hp1
      isplitr <;> iassumption
    iexists W; iexact HO
  · simp only [if_neg h]
    have hm : m = 29 := by omega
    subst hm
    rw [if_pos (show 29 + 1 = 30 from rfl)]
    iintro ⟨#HC, Hr, Hs, Hp, -, HO⟩ Hk
    iapply Hk
    isplitl [Hr]; · iexact Hr
    isplitl [Hs]; · iexact Hs
    isplitl [Hp]; · iexact Hp
    rw [add_zero]; iexact HO

/-! ## The wait for a credit -/

theorem cnt_mono (b : ℕ) {n n' : ℕ} (h : n ≤ n') : cnt b n ≤ cnt b n' := by unfold cnt; omega
theorem freed_mono (x : Dev nD) (i : Fin 4) {n n' : ℕ} (h : n ≤ n') : Freed (F := F) x i n' ⊢ Freed x i n := by
  unfold Freed FreedB
  iintro ⟨⟨#H1, #H2⟩, #H3, #H4⟩
  isplitr
  · isplitr
    · iapply (released_mono ES (Nat.add_le_add_right (cnt_mono 0 h) 1)); iexact H1
    iapply (reached_mono ER (cnt_mono 0 h)); iexact H2
  isplitr
  · iapply (released_mono ES (Nat.add_le_add_right (cnt_mono 1 h) 1)); iexact H3
  iapply (reached_mono ER (cnt_mono 1 h)); iexact H4

/-- The credits received and counted, `n` rounds past. -/
def CredSt (c : Dev nD) (i : Fin 4) (n : ℕ) : sProp 𝕄 :=
  iprop(if n = 31 then atPos ER (credC c i) 1 ∅ 0
    else ∃ T : Finset ℕ, ⌜T ⊆ Finset.Icc 1 29⌝ ∗ atPos ER (credC c i) 0 T (n - 2) ∗ bigSep T fun d => Freed (down i c) i d)

/-- Of `k` credits one is the `k`-th or a later one. -/
theorem freed_of_many (x : Dev nD) (i : Fin 4) {S : Finset ℕ} {k : ℕ} (hk : 1 ≤ k) (hS : S ⊆ Finset.Icc 1 29) (hc : k ≤ S.card) :
    bigSep S (fun d => Freed (F := F) x i d) ⊢ Freed x i k := by
  have : ∃ d ∈ S, k ≤ d := by
    by_contra hn
    simp only [not_exists, not_and, not_le] at hn
    have hsub : S ⊆ Finset.Icc 1 (k - 1) := fun d hd => Finset.mem_Icc.mpr ⟨(Finset.mem_Icc.mp (hS hd)).1, by have := hn d hd; omega⟩
    have := Finset.card_le_card hsub
    rw [Nat.card_Icc] at this; omega
  obtain ⟨d, hd, hkd⟩ := this
  exact (show bigSep S (fun d => Freed (F := F) x i d) ⊢ Freed x i d from bigSep_elim hd).trans (freed_mono x i hkd)

theorem bigSep_grow {S T : Finset ℕ} (h : T ⊆ S) (Φ : ℕ → sProp 𝕄) : iprop(bigSep T Φ ∗ bigSep (S \ T) Φ) ⊢ bigSep S Φ :=
  Entails.of_eq ((bigSep_union Finset.disjoint_sdiff).symm.trans (by rw [Finset.union_sdiff_of_subset h]))

theorem wp_waitCredit (c : Dev nD) (s : Fin 31) (hs : 1 ≤ s.val) (i : Fin 4) (O : Tallies) (hO : Above O (2 * (4 * s.val + i.val) + 2))
    (K : P F) (Q : PUnit → sProp 𝕄) :
    iprop(Ctx xs ws κ η ∗ CredSt c i s.val ∗ Freed (down i c) i (s.val - 2)
        ∗ (if 1 ≤ s.val - 1 ∧ s.val - 1 ≤ 29 then cred (tallyAt (credC c i) (s.val - 1) 1) else emp) ∗ owesAny c O)
      ⊢ iprop(((CredSt c i (s.val + 1) ∗ Freed (down i c) i (s.val - 1) ∗ owesAny c O) -∗ wpc c K Q) -∗ wpc c (waitCredit s i K) Q) := by
  have h31 := s.isLt
  unfold waitCredit
  by_cases h2 : 2 ≤ s.val
  · simp only [if_pos h2, if_pos (show 1 ≤ s.val - 1 ∧ s.val - 1 ≤ 29 by omega)]
    unfold CredSt
    rw [if_neg (show ¬ s.val = 31 by omega)]
    iintro ⟨#HC, ⟨%T, %hT, Hat, #HT⟩, #Hfr, Hc, ⟨%W, HO⟩⟩ Hk
    ihave HI := (ctx_cell xs ws κ η (credC_mem c i)) $$ HC
    icases HI with ⟨#HI, -⟩
    by_cases h30 : s.val = 30
    · rw [if_pos (show s.val + 1 = 31 by omega)]
      iapply (Rounds.wp_wait_rest_token (k' := 1) 𝒱₀ ER (Rd xs ws) (c : Thread nD τ) none (κ := κ (credC c i))
        (wpE_semWait_eq 𝒱₀ (c : Thread nD τ) none Set.univ) (Set.mem_univ _) (s.val - 1) (O := O) (W := W) (R := 0) (m := s.val - 2) (T := T)
        (by rw [expect_cred, h30])) $$ [Hc HO Hat]
      · isplitr; · iexact HI
        isplitl [Hc]; · iexact Hc
        isplitl [HO]; · iexact HO
        isplitr; · iapply (ctx_wait xs ws κ η hO (by omega) (by rw [lv_cred]; omega)); iexact HC
        iexact Hat
      iintro ⟨HO, Hat, -, Hpay⟩
      iapply Hk
      isplitl [Hat]; · iexact Hat
      isplitl [Hpay]
      · iapply (freed_of_many (down i c) i (k := s.val - 1) (by omega) (Finset.Subset.refl _) (by rw [Nat.card_Icc]; omega))
        iapply (bigSep_grow hT)
        isplitr; · iexact HT
        iapply (Entails.of_eq (show bigSep ((Rd xs ws).duties (credC c i) 0 \ T) (fun d => (Rd xs ws).payload (credC c i) 0 d)
          = bigSep (Finset.Icc 1 29 \ T) (fun d => Freed (down i c) i d) by rw [duties_cred, if_pos rfl]; exact bigSep_congr fun d _ => payload_cred xs ws c i 0 d))
        iexact Hpay
      iexists _; iexact HO
    · rw [if_neg (show ¬ s.val + 1 = 31 by omega)]
      iapply (Rounds.wp_wait (k' := 1) 𝒱₀ ER (Rd xs ws) (c : Thread nD τ) none (κ := κ (credC c i))
        (wpE_semWait_eq 𝒱₀ (c : Thread nD τ) none Set.univ) (Set.mem_univ _) (cr := Finsupp.single (s.val - 1) 1) (O := O) (W := W)
        {(SemLoc.reg (credS i), s.val - 1)} (R := 0) (m := s.val - 2) (T := T)
        (by rw [Util.total_single]) (image_single_subset (SemLoc.reg (credS i)) (s.val - 1) 1)) $$ [Hc HO Hat]
      · isplitr; · iexact HI
        isplitl [Hc]; · iexact Hc
        isplitl [HO]; · iexact HO
        isplitr; · iapply (ctx_wait xs ws κ η hO (by omega) (by rw [lv_cred]; omega)); iexact HC
        iexact Hat
      iintro %S ⟨%hS, HO, Hat, Hpay⟩
      obtain ⟨hTS, hSd, hcard⟩ := hS
      have hd : (Rd (F := F) xs ws).duties (credC c i) 0 = Finset.Icc 1 29 := by rw [duties_cred, if_pos rfl]
      rw [expect_cred, hd, Finset.card_sdiff_of_subset (hd ▸ hSd), Nat.card_Icc] at hcard
      have hSc : S ⊆ Finset.Icc 1 29 := hd ▸ hSd
      have hle := Finset.card_le_card hSc
      rw [Nat.card_Icc] at hle
      ihave #HS : bigSep S (fun d => Freed (down i c) i d) $$ [Hpay]
      · iapply (bigSep_grow hTS)
        isplitr; · iexact HT
        iapply (Entails.of_eq (show bigSep (S \ T) (fun d => (Rd xs ws).payload (credC c i) 0 d)
          = bigSep (S \ T) (fun d => Freed (down i c) i d) from bigSep_congr fun d _ => payload_cred xs ws c i 0 d))
        iexact Hpay
      iapply Hk
      isplitl [Hat]
      · iexists S
        isplitr; · ipureintro; exact hSc
        isplitl [Hat]
        · rw [show s.val + 1 - 2 = s.val - 2 + 1 by omega]; iexact Hat
        iexact HS
      isplitr
      · iapply (freed_of_many (down i c) i (k := s.val - 1) (by omega) hSc (by omega)); iexact HS
      iexists _; iexact HO
  · simp only [if_neg h2]
    have h1 : s.val = 1 := by omega
    rw [h1]
    unfold CredSt
    iintro ⟨#HC, HT, Hf, -, HO⟩ Hk
    iapply Hk
    isplitl [HT]; · iexact HT
    isplitl [Hf] <;> iassumption

end Moves

end Cert.Gemm
-- ==== Proof.Sections.lean ====
/-
One round of one stream, and all of them in turn.
-/
module

public import proofs.«01_k».proof.Proof.Moves

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

local notation "𝕄" => MT nD τ sig ℕ (Elt F) ℕ UU ℕ

section Sections
variable (xs : Dev nD → (xM : Memref sig .tc .vmem S4096x128 .f32).view.ty.Contents (Elt F))
variable (ws : Dev nD → (wM : Memref sig .tc .vmem S128x2048 .f32).view.ty.Contents (Elt F))
variable (κ η : GSem nD τ sig → ℕ)

/-! ## The send -/

/-- What it takes to send message `s` of stream `i`. -/
def SendTok (c : Dev nD) (i : Fin 4) (s : ℕ) : sProp 𝕄 :=
  iprop(dutyTok ER (sendC c i (slotOf s)) (s / 2) 0 ∗ dutyTok ER (recvC (down i c) i (slotOf s)) (s / 2) 0
    ∗ writeTok ES (recvC (down i c) i (slotOf s)) (s / 2 + 1))

theorem dev_send (d : Dev nD) (s : Fin 31) (i : Fin 4) : dev (sendIx s i) d = down i d := by
  have hs := s.isLt
  have hi := i.isLt
  rw [dev_eq (by unfold sendIx; split_ifs <;> omega)]
  clear hs hi
  revert d s i
  decide

def sendTo (d' : Dev nD) (s : Fin 31) (i : Fin 4) (K : P F) : P F :=
  .op (.enqueueDma (slotM (sM i) (slotOf s.val)) (.remote (Dev.tc d') (slotM (rM i) (slotOf s.val))
      (.dma (sendS i (slotOf s.val)))) (.dma (recvS i (slotOf s.val))) ((View.wordExact_bits rfl).reshape _ _)
      ((View.wordExact_bits rfl).reshape _ _) ⟨⟨rfl, Or.inl rfl⟩, trivial⟩) fun _ => K
theorem sendMsg_eq (d : Dev nD) (s : Fin 31) (i : Fin 4) (K : P F) : sendMsg d s i K = sendTo (down i d) s i K :=
  (show sendMsg d s i K = sendTo (dev (sendIx s i) d) s i K from rfl).trans (by rw [dev_send])

theorem heard_more (i : Fin 4) (c : Dev nD) (n : ℕ) : iprop(Entered (F := F) c ∗ Heard i (up i c) n) ⊢ Heard i c (n + 1) := Entails.of_eq rfl

/-- The state of the slot that message `s` goes to: released and its round reached. -/
theorem freedB_at (x : Dev nD) (i : Fin 4) (s : ℕ) : Freed (F := F) x i (s - 1) ⊢
    iprop(released ES (recvC x i (slotOf s)) (s / 2 + 1) ∗ reached ER (recvC x i (slotOf s)) (s / 2)) := by
  have e : cnt (slotOf s).val (s - 1) = s / 2 := by show (s - 1 + 1 - s % 2) / 2 = s / 2; omega
  have hp : Freed (F := F) x i (s - 1) = iprop(FreedB x i (s - 1) (slotOf s) ∗ FreedB x i (s - 1) (other (slotOf s))) := both (slotOf s)
  rw [hp]
  unfold FreedB
  rw [e]
  iintro ⟨H, -⟩; iexact H
theorem pos_send (c : Dev nD) (i : Fin 4) (s : ℕ) : Pos (F := F) c i s ⊢ iprop(Pos c i s ∗ reached ER (sendC c i (slotOf s)) (s / 2)) := by
  have e : cnt (slotOf s).val s = s / 2 := cnt_same s
  have hp : Pos (F := F) c i s = iprop(PosB c i s (slotOf s) ∗ PosB c i s (other (slotOf s))) := both (slotOf s)
  rw [hp]
  generalize PosB (F := F) c i s (other (slotOf s)) = R
  unfold PosB
  rw [e]
  iintro ⟨⟨H, #Hs, #Hr⟩, HR⟩
  isplitl
  · isplitl [H]
    · isplitl [H]; · iexact H
      isplitr <;> iassumption
    iexact HR
  iexact Hs

theorem wp_sendMsg (c : Dev nD) (s : Fin 31) (i : Fin 4) (O : Tallies) (K : P F) (Q : PUnit → sProp 𝕄) :
    iprop(Ctx xs ws κ η ∗ Heard i c (s.val + 1) ∗ Freed (down i c) i (s.val - 1) ∗ Pos c i s.val
        ∗ outAt xs ws c i (slotOf s.val) s.val ∗ SendTok c i s.val ∗ owesAny c (O + msgTally s.val i c))
      ⊢ iprop(((Pos c i s.val ∗ cred (tallyAt (sendC c i (slotOf s.val)) 0 N) ∗ owesAny c O) -∗ wpc c K Q) -∗ wpc c (sendMsg c s i K) Q) := by
  have e : 2 * (s.val / 2) + (slotOf s.val).val = s.val := by show 2 * (s.val / 2) + s.val % 2 = s.val; omega
  have h31 := s.isLt
  rw [sendMsg_eq]
  unfold sendTo outAt SendTok msgTally
  iintro ⟨#HC, #Hh, Hf, Hp, ⟨%f, %hf, Hs⟩, ⟨Ht1, Ht2, Hw⟩, ⟨%W, HO⟩⟩ Hk
  ihave Hf := (freedB_at (down i c) i s.val) $$ Hf
  icases Hf with ⟨#Hrel, #Hrd⟩
  ihave Hp := (pos_send c i s.val) $$ Hp
  icases Hp with ⟨Hp, #Hrs⟩
  ihave HI := (ctx_key xs ws κ η (recvC_key (down i c) i (slotOf s.val))) $$ HC
  ihave HI := (Entails.of_eq (congrArg (fun S => slotInv (ES (F := F)) (η (recvC (down i c) i (slotOf s.val))) (recvC (down i c) i (slotOf s.val)) S) (slotAt_recv (F := F) (down i c) i (slotOf s.val)))) $$ HI
  imod (slot_take ES (Set.mem_univ _) (s.val / 2 + 1)) $$ [HI Hrel Hw] with Hd
  · isplitl [HI]; · iexact HI
    isplitr <;> iassumption
  unfold recvSlot slot
  icases Hd with ⟨%g, Hd⟩
  ihave HI1 := (ctx_cell xs ws κ η (sendC_mem c i (slotOf s.val))) $$ HC
  icases HI1 with ⟨#HI1, -⟩
  ihave HI2 := (ctx_cell xs ws κ η (recvC_mem (down i c) i (slotOf s.val))) $$ HC
  icases HI2 with ⟨#HI2, -⟩
  iapply (Rounds.wp_send_pointsTo_with 𝒱₀ ER (Rd xs ws) (c : Thread nD τ) none (κ₁ := κ (sendC c i (slotOf s.val))) (κ₂ := κ (recvC (down i c) i (slotOf s.val)))
    (r₁ := s.val / 2) (r₂ := s.val / 2) (d₁ := 0) (d₂ := 0) (fs := f) (fd := g) (F := Heard i c (s.val + 1))
    (by rw [duties_send, if_pos (by omega)]; exact Finset.mem_singleton_self _)
    (by rw [duties_recv, if_pos (by omega)]; exact Finset.mem_singleton_self _)
    s.val 0 N (show (slotM (rM i) (slotOf s.val)).view.amount (SemLoc.dma (recvS i (slotOf s.val))) = N from credit_r i (slotOf s.val)) (amount_send xs ws c i (slotOf s.val) _ _) (amount_recv xs ws (down i c) i (slotOf s.val) _ _) O rfl (W := W)
    (by rw [payload_send]; unfold sendSlot slot; iintro H; iexists _; iexact H)
    (by
      rw [payload_recv, e, up_down]; unfold msgAt
      iintro ⟨H, Hh⟩
      isplitl [H]
      · iexists _
        isplitr
        · ipureintro; rw [up_down]; exact (slot_copy (rM i) (slotOf s.val) (sM i) g f).trans hf
        iexact H
      iexact Hh)) $$ [Hs Hd HO Ht1 Ht2]
  · isplitr; · iexact HI1
    isplitr; · iexact HI2
    isplitl [Hs]; · iexact Hs
    isplitl [Hd]
    · isplitl [Hd]; · iexact Hd
      iexact Hh
    isplitl [HO]; · iexact HO
    isplitl [Ht1]; · iexact Ht1
    isplitr; · iexact Hrs
    isplitl [Ht2]; · iexact Ht2
    iexact Hrd
  iintro ⟨Hc, HO⟩
  iapply Hk
  isplitl [Hp]; · iexact Hp
  isplitl [Hc]; · iexact Hc
  iexists _; iexact HO

/-! ## A round -/

def StepTok (c : Dev nD) (i : Fin 4) (s : ℕ) : sProp 𝕄 :=
  iprop(SendTok c i s ∗ if 1 ≤ s ∧ s ≤ 29 then dutyTok ER (credC (up i c) i) 0 s else emp)
def WaitTok (c : Dev nD) (i : Fin 4) (s : ℕ) : sProp 𝕄 :=
  iprop(cred (tallyAt (recvC c i (slotOf s)) s N) ∗ if 1 ≤ s ∧ s ≤ 29 then cred (tallyAt (credC c i) s 1) else emp)
/-- The slot to be filled next, and the one under way. -/
def Sl (c : Dev nD) (i : Fin 4) (n : ℕ) : sProp 𝕄 :=
  iprop(sendSlot c i (slotOf n) ∗ if n = 0 then sendSlot c i 1 else cred (tallyAt (sendC c i (slotOf (n - 1))) 0 N))

/-- Stream `i` on device `c` before round `n`. -/
def St (c : Dev nD) (i : Fin 4) (n : ℕ) : sProp 𝕄 :=
  iprop((bigSep (Finset.Ico n 31) fun s => StepTok c i s) ∗ (bigSep (Finset.Ico (n - 1) 31) fun s => WaitTok c i s)
    ∗ Pos c i (n - 1) ∗ Read c i (min (n - 1) 29) ∗ Sl c i n ∗ (if n = 31 then recvSlot c i 1 else emp)
    ∗ CredSt c i n ∗ Heard i (up i c) (n - 1) ∗ Freed (down i c) i (n - 2))

theorem bigSep_Ico {n m : ℕ} (h : n < m) (Φ : ℕ → sProp 𝕄) : bigSep (Finset.Ico n m) Φ = iprop(Φ n ∗ bigSep (Finset.Ico (n + 1) m) Φ) := by
  have e : Finset.Ico n m = insert n (Finset.Ico (n + 1) m) := by
    ext x; rw [Finset.mem_insert, Finset.mem_Ico, Finset.mem_Ico]; omega
  rw [e]
  exact bigSep_insert (by rw [Finset.mem_Ico]; omega)

theorem slotOf_add_two (n : ℕ) : slotOf (n + 2) = slotOf n := Fin.ext (Nat.add_mod_right n 2)

theorem wp_sec (c : Dev nD) (s : Fin 31) (i : Fin 4) (O : Tallies) (hO : Above O (2 * (4 * s.val + i.val) + 2)) (K : P F) (Q : PUnit → sProp 𝕄) :
    iprop(Ctx xs ws κ η ∗ Entered c ∗ xPts xs c ∗ wPts ws c ∗ St c i s.val ∗ owesAny c (O + msgTally s.val i c + credTally s.val i c))
      ⊢ iprop(((xPts xs c ∗ wPts ws c ∗ St c i (s.val + 1) ∗ owesAny c O) -∗ wpc c K Q) -∗ wpc c (sec c s i K) Q) := by
  have hs := s.isLt
  have hO' : Above (O + msgTally s.val i c) (2 * (4 * s.val + i.val) + 2) := hO.add ((above_msg s.val i c hs).mono (by omega))
  have hO'' := hO'.add (above_cred s.val i c)
  unfold sec waitPrev St
  rw [bigSep_Ico hs]
  unfold StepTok
  rcases Nat.eq_zero_or_pos s.val with h0 | h0
  · have hc : signalCredit (F := F) c s i (waitCredit s i (sendMsg c s i K)) = sendMsg c s i K := by
      unfold signalCredit waitCredit; rw [if_neg (by omega), if_neg (by omega)]
    rw [if_pos h0, hc, show credTally s.val i c = 0 by unfold credTally; rw [if_neg (by omega)], add_zero]
    unfold Sl
    rw [if_pos h0, if_neg (show ¬ s.val = 31 by omega), if_neg (show ¬ s.val + 1 = 31 by omega), if_neg (show ¬ s.val + 1 = 0 by omega), Nat.add_sub_cancel,
      show s.val + 1 - 2 = s.val - 2 by omega, show s.val - 1 = s.val by omega, if_neg (show ¬ (1 ≤ s.val ∧ s.val ≤ 29) by omega),
      show slotOf (s.val + 1) = 1 by rw [h0]; rfl,
      show CredSt (F := F) c i (s.val + 1) = CredSt c i s.val by rw [h0]; rfl]
    iintro ⟨#HC, #HE, Hx, Hw, ⟨⟨⟨Hst, -⟩, Hts⟩, Hws, Hp, Hr, ⟨Hs0, Hs1⟩, -, Hcs, #Hh, #Hf⟩, HO⟩ Hk
    iapply (wp_compute_first xs ws c s h0 i) $$ [Hx Hw Hs0]
    · isplitl [Hx]; · iexact Hx
      isplitl [Hw] <;> iassumption
    iintro ⟨Hx, Hw, Hs0⟩
    iapply (wp_sendMsg xs ws κ η c s i O) $$ [Hp Hs0 Hst HO]
    · isplitr; · iexact HC
      isplitr
      · iapply (heard_more i c s.val); isplitr <;> iassumption
      isplitr
      · rw [show s.val - 1 = s.val - 2 by omega]; iexact Hf
      isplitl [Hp]; · iexact Hp
      isplitl [Hs0]; · iexact Hs0
      isplitl [Hst] <;> iassumption
    iintro ⟨Hp, Hc, HO⟩
    iapply Hk
    isplitl [Hx]; · iexact Hx
    isplitl [Hw]; · iexact Hw
    isplitr [HO]
    · isplitl [Hts]; · iexact Hts
      isplitl [Hws]; · iexact Hws
      isplitl [Hp]; · iexact Hp
      isplitl [Hr]; · iexact Hr
      isplitl [Hs1 Hc]
      · isplitl [Hs1]; · iexact Hs1
        iexact Hc
      isplitr; · iempintro
      isplitl [Hcs]; · iexact Hcs
      isplitr <;> iassumption
    iexact HO
  · obtain ⟨m, hm⟩ : ∃ m, s.val = m + 1 := ⟨s.val - 1, by omega⟩
    have e1 : s.val - 1 = m := by omega
    have e3 : (if s.val = 30 then recvSlot (F := F) c i 1 else iprop(emp)) = if s.val + 1 = 31 then recvSlot c i 1 else iprop(emp) := by
      split_ifs <;> first | rfl | omega
    rw [if_neg (show ¬ s.val = 0 by omega), e1, bigSep_Ico (show m < 31 by omega), show m + 1 = s.val by omega]
    unfold Sl WaitTok
    rw [if_neg (show ¬ s.val = 0 by omega), if_neg (show ¬ s.val = 31 by omega), if_neg (show ¬ s.val + 1 = 0 by omega), Nat.add_sub_cancel, e1,
      show s.val + 1 - 2 = s.val - 1 by omega, show slotOf (s.val + 1) = slotOf m by rw [hm]; exact slotOf_add_two m]
    iintro ⟨#HC, #HE, Hx, Hw, ⟨⟨⟨Hst, Hct⟩, Hts⟩, ⟨⟨Hmc, Hcc⟩, Hws⟩, Hp, Hr, ⟨Hs0, Hsc⟩, -, Hcs, -, #Hf⟩, HO⟩ Hk
    iapply (wp_waitMsg xs ws κ η c i m _ (by omega) _ hO'' (by omega)) $$ [Hsc Hmc HO Hp]
    · isplitr; · iexact HC
      isplitl [Hsc]; · iexact Hsc
      isplitl [Hmc]; · iexact Hmc
      isplitl [HO] <;> iassumption
    iintro ⟨Hs1, Hm, #Hh, HO, Hp⟩
    iapply (wp_compute_next xs ws c s m hm i) $$ [Hx Hw Hs0 Hm]
    · isplitl [Hx]; · iexact Hx
      isplitl [Hw]; · iexact Hw
      isplitl [Hs0] <;> iassumption
    iintro ⟨Hx, Hw, Hs0, Hrs⟩
    iapply (wp_signalCredit xs ws κ η c s m hm i (O + msgTally s.val i c)) $$ [Hr Hrs Hp Hct HO]
    · isplitr; · iexact HC
      isplitl [Hr]; · iexact Hr
      isplitl [Hrs]; · iexact Hrs
      isplitl [Hp]; · iexact Hp
      isplitl [Hct] <;> iassumption
    rw [show m + 1 = s.val by omega]
    iintro ⟨Hr, Hrs, Hp, HO⟩
    iapply (wp_waitCredit xs ws κ η c s h0 i (O + msgTally s.val i c) hO') $$ [Hcs Hcc HO]
    · isplitr; · iexact HC
      isplitl [Hcs]; · iexact Hcs
      isplitr; · iexact Hf
      rw [e1]
      isplitl [Hcc] <;> iassumption
    rw [e1]
    iintro ⟨Hcs, #Hf', HO⟩
    iapply (wp_sendMsg xs ws κ η c s i O) $$ [Hp Hs0 Hst HO]
    · isplitr; · iexact HC
      isplitr
      · iapply (heard_more i c s.val)
        isplitr; · iexact HE
        iexact Hh
      isplitr
      · rw [e1]; iexact Hf'
      isplitl [Hp]; · iexact Hp
      isplitl [Hs0]; · iexact Hs0
      isplitl [Hst] <;> iassumption
    iintro ⟨Hp, Hc, HO⟩
    iapply Hk
    isplitl [Hx]; · iexact Hx
    isplitl [Hw]; · iexact Hw
    isplitr [HO]
    · isplitl [Hts]; · iexact Hts
      isplitl [Hws]; · iexact Hws
      isplitl [Hp]; · iexact Hp
      isplitl [Hr]; · iexact Hr
      isplitl [Hs1 Hc]
      · isplitl [Hs1]; · iexact Hs1
        iexact Hc
      isplitl [Hrs]
      · iapply (Entails.of_eq e3); iexact Hrs
      isplitl [Hcs]; · iexact Hcs
      isplitr; · iexact Hh
      iexact Hf'
    iexact HO

/-! ## All rounds -/

/-- The rounds that stream `i` has gone through after `t` steps. -/
def done (t : ℕ) (i : Fin 4) : ℕ := (t + 3 - i.val) / 4

theorem wp_rounds (c : Dev nD) (K : P F) (Q : PUnit → sProp 𝕄) : ∀ n, n ≤ 124 →
    iprop(Ctx xs ws κ η ∗ Entered c ∗ xPts xs c ∗ wPts ws c ∗ (bigSep Finset.univ fun i : Fin 4 => St c i (done (124 - n) i)) ∗ owesAny c (owedFrom c n))
      ⊢ iprop(((xPts xs c ∗ wPts ws c ∗ (bigSep Finset.univ fun i : Fin 4 => St c i 31) ∗ owesAny c (owedAmax c 31)) -∗ wpc c K Q)
        -∗ wpc c (rounds c K n) Q)
  | 0, _ => by
    have e (i : Fin 4) : done (124 - 0) i = 31 := by have := i.isLt; unfold done; omega
    simp only [e]
    unfold rounds owedFrom
    iintro ⟨-, -, Hx, Hw, Hs, HO⟩ Hk
    iapply Hk
    isplitl [Hx]; · iexact Hx
    isplitl [Hw]; · iexact Hw
    isplitl [Hs] <;> iassumption
  | n + 1, hn => by
    have hi := (iOf (123 - n)).isLt
    have hsp := step_split (n := n) (by omega)
    have e1 : done (124 - (n + 1)) (iOf (123 - n)) = (sOf (123 - n)).val := by unfold done; omega
    have e2 : done (124 - n) (iOf (123 - n)) = (sOf (123 - n)).val + 1 := by unfold done; omega
    have e3 : ∀ i ∈ Finset.univ.erase (iOf (123 - n)), St (F := F) c i (done (124 - (n + 1)) i) = St c i (done (124 - n) i) := fun i h => by
      have h1 : i.val ≠ (iOf (123 - n)).val := fun h' => Finset.ne_of_mem_erase h (Fin.ext h')
      have h2 := i.isLt
      rw [show done (124 - (n + 1)) i = done (124 - n) i by unfold done; omega]
    have ih := wp_rounds c K Q n (by omega)
    rw [bigSep_univ_at _ (iOf (123 - n)), e2] at ih
    rw [bigSep_univ_at _ (iOf (123 - n)), e1, bigSep_congr e3]
    unfold rounds owedFrom
    iintro ⟨#HC, #HE, Hx, Hw, ⟨Hs, Hr⟩, HO⟩ Hk
    iapply (wp_sec xs ws κ η c (sOf (123 - n)) (iOf (123 - n)) (owedFrom c n) ((above_from c n (by omega)).mono (by omega))) $$ [Hx Hw Hs HO]
    · isplitr; · iexact HC
      isplitr; · iexact HE
      isplitl [Hx]; · iexact Hx
      isplitl [Hw]; · iexact Hw
      isplitl [Hs] <;> iassumption
    iintro ⟨Hx, Hw, Hs, HO⟩
    iapply ih $$ [Hx Hw Hs HO Hr]
    · isplitr; · iexact HC
      isplitr; · iexact HE
      isplitl [Hx]; · iexact Hx
      isplitl [Hw]; · iexact Hw
      isplitl [Hs Hr]
      · isplitl [Hs] <;> iassumption
      iexact HO
    iexact Hk

/-- Stream `i` at the end. -/
def Fin' (c : Dev nD) (i : Fin 4) : sProp 𝕄 :=
  iprop((sendSlot c i 0 ∗ sendSlot c i 1) ∗ (recvSlot c i 0 ∗ recvSlot c i 1) ∗ Pos c i 31 ∗ Read c i 29
    ∗ atPos ER (credC c i) 1 ∅ 0 ∗ Heard i (up i c) 31)

theorem wp_lastPart (c : Dev nD) (i : Fin 4) (K : FVec F S128x512 .f32 → P F) (Q : PUnit → sProp 𝕄) :
    iprop(Ctx xs ws κ η ∗ xPts xs c ∗ wPts ws c ∗ St c i 31 ∗ owesAny c (owedAmax c 31))
      ⊢ iprop(((xPts xs c ∗ wPts ws c ∗ Fin' c i ∗ owesAny c (owedAmax c 31)) -∗ wpc c (K (part xs ws i c)) Q)
        -∗ wpc c (lastPart c i K) Q) := by
  have hi := i.isLt
  unfold St Sl
  rw [bigSep_Ico (show 31 - 1 < 31 by decide), if_pos rfl, if_neg (show ¬ 31 = 0 by decide), show slotOf 31 = 1 from rfl, show 31 - 1 = 30 from rfl, show min 30 29 = 29 from rfl]
  unfold WaitTok CredSt lastPart
  rw [if_pos rfl, show slotOf 30 = 0 from rfl]
  iintro ⟨#HC, Hx, Hw, ⟨-, ⟨⟨Hmc, -⟩, -⟩, Hp, Hr, ⟨Hs1, Hsc⟩, Hr1, Hcs, -, -⟩, HO⟩ Hk
  iapply (wp_waitMsg xs ws κ η c i 30 _ (by decide) _ (above_amax c 31) (by omega)) $$ [Hsc Hmc HO Hp]
  · isplitr; · iexact HC
    isplitl [Hsc]; · iexact Hsc
    isplitl [Hmc]; · iexact Hmc
    isplitl [HO] <;> iassumption
  iintro ⟨Hs0, Hm, Hh, HO, Hp⟩
  ihave Hm := (Entails.of_eq (show msgAt xs ws c i (slotOf 30) 30 = msgAt xs ws c i 0 30 from rfl)) $$ Hm
  ihave Hs0 := (Entails.of_eq (show sendSlot (F := F) c i (slotOf 30) = sendSlot c i 0 from rfl)) $$ Hs0
  unfold msgAt
  icases Hm with ⟨%g, %hg, Hm⟩
  iapply (wp_loadSlot c (rM i) 0 g) $$ Hm; iintro Hm
  unfold xPts
  iapply (wp_load 𝒱₀ (c : Thread nD τ) none Set.univ (m := xM) (Finset.subset_univ _)) $$ Hx; iintro Hx
  iapply (wp_loadW ws c i) $$ Hw; iintro Hw
  ihave Hk := Hk $$ [Hx Hw Hs0 Hs1 Hm Hr1 Hp Hr Hcs Hh HO]
  · isplitl [Hx]; · iexact Hx
    isplitl [Hw]; · iexact Hw
    isplitr [HO]
    · unfold Fin'
      isplitl [Hs0 Hs1]
      · isplitl [Hs0] <;> iassumption
      isplitl [Hm Hr1]
      · isplitl [Hm]
        · unfold recvSlot slot; iexists g; iexact Hm
        iexact Hr1
      isplitl [Hp]; · iexact Hp
      isplitl [Hr]; · iexact Hr
      isplitl [Hcs]; · iexact Hcs
      iexact Hh
    iexact HO
  rw [show part xs ws i c = k0_pay168 ((rM i).view.readAt (Elt F) (slotR 0).toLoadRect g)
      ((xM : Memref sig .tc .vmem S4096x128 .f32).view.readAt (Elt F) (Rect.unit (s := S4096x128) (k0_off2 c) S128x128.size (k0_off2_inb c)).toLoadRect (xs c))
      (wcol ws c i) by
    rw [show (rM i).view.readAt (Elt F) (slotR 0).toLoadRect g = msg xs ws 30 i (up i c) from hg, xload _ _ (k0_off2_eq c) _ (chunk_inb c)]; rfl]
  iexact Hk

end Sections

end Cert.Gemm
-- ==== Proof.Epilogue.lean ====
/-
The exchange of the maxima and the quantisation.
-/
module

public import proofs.«01_k».proof.Proof.Sections
public import Idealize.ShloMosaic.Lib.SparseCore.Stream

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

local notation "𝕄" => MT nD τ sig ℕ (Elt F) ℕ UU ℕ

/-! ## The operations at their closed forms -/

abbrev nth (k : ℕ) : Fin 31 := Fin.ofNat 31 k
theorem nth_val {k : ℕ} (h : k < 31) : (nth k).val = k := Nat.mod_eq_of_lt h

def amSend (d' : Dev nD) (M : Memref sig .tc .vmem S8x128 .f32) (h : M.view.WordExact) (k : Fin 31) (sm : DmaSem sig) (K : P F) : P F :=
  .op (.enqueueDma aM (.remote (Dev.tc d') M (.dma (asendS k))) (.dma sm) (Memref.isWhole_whole _).wordExact h
    ⟨⟨rfl, Or.inl rfl⟩, trivial⟩) fun _ => K
def amSent (M : Memref sig .tc .vmem S8x128 .f32) (h : M.view.WordExact) (k : Fin 31) (K : P F) : P F :=
  .op (.waitDma2 (asendS k) M aM h (Memref.isWhole_whole _).wordExact) fun _ => K
def amRecv (M : Memref sig .tc .vmem S8x128 .f32) (h : M.view.WordExact) (sm : DmaSem sig) (K : P F) : P F :=
  .op (.waitDma2 sm aM M (Memref.isWhole_whole _).wordExact h) fun _ => K

theorem rowM_we (o h) : (rowM o h).view.WordExact := (View.wordExact_bits rfl).reshape _ _

theorem ix_inb (d : Dev nD) : ∀ a, (![d.val] : Fin 1 → ℕ) a + S1.size a ≤ S32.size a := by
  have : d.val < 32 := d.isLt
  intro a; fin_cases a; simp; omega
theorem rowS_eq : ∀ d : Dev nD, rowS ![d.val] (ix_inb d) = arecvS d := by decide +kernel
theorem rowS_at {o : Fin 1 → ℕ} {d : Dev nD} (e : o = ![d.val]) (h) : rowS o h = arecvS d := by subst e; exact rowS_eq d
theorem rowM_at {o : Fin 3 → ℕ} {d : Dev nD} (e : o = ![d.val, 0, 0]) (h) : rowM o h = row d := rowM_congr e _ _

theorem off6_eq : ∀ (d : Dev nD) (k : Fin 31), k0_off6 d (BitVec.ofNat 32 (1 + k.val)) = ![(amaxDst k.val d).val] := by decide +kernel
theorem off7_eq : ∀ (d : Dev nD) (k : Fin 31), k0_off7 d (BitVec.ofNat 32 (1 + k.val)) = ![(amaxDst k.val d).val, 0, 0] := by decide +kernel
theorem dev_amax (d : Dev nD) {n : ℕ} (h : n < 31) : dev (242 + n) d = amaxDst n d := by
  rw [dev_eq (by omega)]
  refine Fin.ext ?_
  have e : devSpec (242 + n) d = ⟨(d.val + (242 + n - 241)) % 32, Nat.mod_lt _ (by decide)⟩ := by
    unfold devSpec; split_ifs <;> first | omega | rfl
  rw [e]
  show (d.val + (242 + n - 241)) % 32 = (d.val + (1 + n)) % 32
  omega

theorem amaxSends_step (d : Dev nD) (K : P F) {n : ℕ} (h : n < 31) : amaxSends d K (n + 1)
    = amSend (amaxDst (30 - n) d) (row d) (rowM_we _ _) (nth (30 - n)) (arecvS d) (amaxSends d K n) := by
  have key : ∀ (d' d'' : Dev nD) (M M' : Memref sig .tc .vmem S8x128 .f32) (sm sm' : DmaSem sig) (w w') (k : Fin 31) (K : P F),
      d' = d'' → M = M' → sm = sm' → amSend d' M w k sm K = amSend d'' M' w' k sm' K := by
    rintro d' _ M _ sm _ w w' k K rfl rfl rfl; rfl
  exact key _ _ (rowM (k0_off5 d) (k0_off5_inb d)) _ _ _ (rowM_we _ _) _ _ _ (dev_amax d (by omega)) (rowM_at (k0_off5_eq d) _) (rowS_at (k0_off4_eq d) _)
theorem amaxSent_step (d : Dev nD) (K : P F) (n : ℕ) : amaxSent d K (n + 1)
    = amSent (rowM (k0_off5 d) (k0_off5_inb d)) (rowM_we _ _) (nth (30 - n)) (amaxSent d K n) := rfl
theorem amaxRecvs_step (d : Dev nD) (K : P F) {n : ℕ} (h : n < 31) : amaxRecvs d K (n + 1)
    = amRecv (row (amaxDst (30 - n) d)) (rowM_we _ _) (arecvS (amaxDst (30 - n) d)) (amaxRecvs d K n) := by
  have key : ∀ (M M' : Memref sig .tc .vmem S8x128 .f32) (sm sm' : DmaSem sig) (w w') (K : P F),
      M = M' → sm = sm' → amRecv M w sm K = amRecv M' w' sm' K := by
    rintro M _ sm _ w w' K rfl rfl; rfl
  have hv : (nth (30 - n)).val = 30 - n := nth_val (by omega)
  have h6 := off6_eq d (nth (30 - n))
  have h7 := off7_eq d (nth (30 - n))
  rw [show (amaxDst (nth (30 - n)).val d) = amaxDst (30 - n) d by rw [hv]] at h6 h7
  exact key (rowM (k0_off7 d (BitVec.ofNat 32 (1 + (nth (30 - n)).val))) (k0_off7_inb d (nth (30 - n)))) _ _ _ (rowM_we _ _) _ _
    (rowM_at h7 _) (rowS_at h6 _)

theorem amaxDst_ne (c : Dev nD) {k : ℕ} (h : k < 31) : amaxDst k c ≠ c := fun e => by
  have h1 := congrArg Fin.val e
  have h2 : c.val < 32 := c.isLt
  change (c.val + (1 + k)) % 32 = c.val at h1
  omega

theorem heard_iter (i : Fin 4) : ∀ (n : ℕ) (x : Dev nD) (j : ℕ), j < n → Heard (F := F) i x n ⊢ Entered ((up i)^[j] x)
  | 0, _, _, h => absurd h (Nat.not_lt_zero _)
  | n + 1, x, 0, _ => by unfold Heard; iintro ⟨H, -⟩; iexact H
  | n + 1, x, j + 1, h => by
    unfold Heard
    iintro ⟨-, H⟩
    iapply (heard_iter i n (up i x) j (by omega)); iexact H
theorem amaxDst_up : ∀ (c : Dev nD) (k : Fin 31), ∃ j : Fin 31, (up 0)^[j.val] (up 0 c) = amaxDst k.val c := by decide +kernel
theorem heard_all (c : Dev nD) {k : ℕ} (h : k < 31) : Heard (F := F) 0 (up 0 c) 31 ⊢ Entered (amaxDst k c) := by
  obtain ⟨j, hj⟩ := amaxDst_up c ⟨k, h⟩
  rw [← hj]; exact heard_iter 0 31 _ j.val j.isLt

section Epi
variable (xs : Dev nD → (xM : Memref sig .tc .vmem S4096x128 .f32).view.ty.Contents (Elt F))
variable (ws : Dev nD → (wM : Memref sig .tc .vmem S128x2048 .f32).view.ty.Contents (Elt F))
variable (κ η : GSem nD τ sig → ℕ)

theorem tile_const (d : Dev nD) (y y' : S8x128.Idx) : tile xs ws d y = tile xs ws d y' := rfl
theorem pay173_at (v : FVec F S8x128 .f32) (x : S1x8x128.Idx) : ∃ y, k0_pay173 v x = v y := ⟨_, rfl⟩
theorem tiles_at (x : S32x8x128.Idx) : ∃ y, tiles xs ws x = tile xs ws (x 0) y := ⟨_, rfl⟩
theorem read_a (t : FVec F S8x128 .f32) : (aM : Memref sig .tc .vmem S8x128 .f32).view.read (Elt F) t = t := rfl
theorem store_a (d : Dev nD) (a₀ : FVec F S8x128 .f32) :
    ((aM : Memref sig .tc .vmem S8x128 .f32).access (Rect.unit (s := S8x128) ![0, 0] S8x128.size inb_S8x128_S8x128_0_0)).write (Elt F) a₀ (amaxOf (yv xs ws d)) Finset.univ
      = tile xs ws d := Memref.write_access_unit_zero_univ (Elt F) cc0_scratch11 (by decide) _ a₀ _
theorem load_a (t : FVec F S8x128 .f32) :
    (aM : Memref sig .tc .vmem S8x128 .f32).view.readAt (Elt F) (Rect.unit (s := S8x128) ![0, 0] S8x128.size inb_S8x128_S8x128_0_0).toLoadRect t = t :=
  Memref.readAt_unit_zero (Elt F) cc0_scratch11 (by decide) _ _
theorem load_g (t : FVec F S32x8x128 .f32) :
    (gM : Memref sig .tc .vmem S32x8x128 .f32).view.readAt (Elt F) (Rect.unit (s := S32x8x128) ![0, 0, 0] S32x8x128.size inb_S32x8x128_S32x8x128_0_0_0).toLoadRect t = t :=
  Memref.readAt_unit_zero (Elt F) cc0_scratch12 (by decide) _ _
theorem store_o (o₀ t : FVec F S128x2048 .f32) :
    ((oM : Memref sig .tc .vmem S128x2048 .f32).access (Rect.unit (s := S128x2048) ![0, 0] S128x2048.size inb_S128x2048_S128x2048_0_0)).write (Elt F) o₀ t Finset.univ = t :=
  Memref.write_access_unit_zero_univ (Elt F) cc0_stg2_0 (by decide) _ o₀ _
theorem out_eq (d : Dev nD) : k0_pay1 (yv xs ws d) (k0_pay174 (tiles xs ws)) = outv xs ws d := rfl

attribute [local irreducible] tile tiles outv yv

/-- Steps of one kind in turn. -/
theorem wp_each (c : Dev nD) (C : sProp 𝕄) [BI.Persistent C] (In Out : ℕ → sProp 𝕄) (Ow : ℕ → Tallies) (prog : ℕ → P F) (Q : PUnit → sProp 𝕄)
    (hstep : ∀ n < 31, iprop(C ∗ In (30 - n) ∗ owesAny c (Ow (n + 1)))
      ⊢ iprop(((Out (30 - n) ∗ owesAny c (Ow n)) -∗ wpc c (prog n) Q) -∗ wpc c (prog (n + 1)) Q)) :
    ∀ n ≤ 31, iprop(C ∗ (bigSep (Finset.Ico (31 - n) 31) In) ∗ owesAny c (Ow n))
      ⊢ iprop((((bigSep (Finset.Ico (31 - n) 31) Out) ∗ owesAny c (Ow 0)) -∗ wpc c (prog 0) Q) -∗ wpc c (prog n) Q)
  | 0, _ => by
    rw [show Finset.Ico (31 - 0) 31 = ∅ from rfl, bigSep_empty, bigSep_empty]
    iintro ⟨-, -, HO⟩ Hk
    iapply Hk
    isplitr; · iempintro
    iexact HO
  | n + 1, hn => by
    have ih := wp_each c C In Out Ow prog Q hstep n (by omega)
    rw [bigSep_Ico (show 31 - (n + 1) < 31 by omega), bigSep_Ico (show 31 - (n + 1) < 31 by omega), show 31 - (n + 1) + 1 = 31 - n by omega,
      show 31 - (n + 1) = 30 - n by omega]
    iintro ⟨#HC, ⟨Hi, Hr⟩, HO⟩ Hk
    iapply (hstep n (by omega)) $$ [Hi HO]
    · isplitr; · iexact HC
      isplitl [Hi] <;> iassumption
    iintro ⟨Ho, HO⟩
    iapply ih $$ [Hr HO]
    · isplitr; · iexact HC
      isplitl [Hr] <;> iassumption
    iintro ⟨Hr, HO⟩
    iapply Hk
    isplitl [Ho Hr]
    · isplitl [Ho] <;> iassumption
    iexact HO

/-! ## The copies -/

def AmTok (c : Dev nD) (k : ℕ) : sProp 𝕄 :=
  iprop(dutyTok ER (asendC c (nth k)) 0 0 ∗ dutyTok ER (arecvC (amaxDst k c) c) 0 0 ∗ writeTok ES (arecvC (amaxDst k c) c) 1)
def AmIn (c : Dev nD) (k : ℕ) : sProp 𝕄 := iprop(AmTok c k ∗ tileAt xs ws c (nth k))
abbrev AmCred (c : Dev nD) (k : ℕ) : sProp 𝕄 := cred (tallyAt (asendC c (nth k)) 0 Na)

theorem credit_a : (aM : Memref sig .tc .vmem S8x128 .f32).view.dmaCredit = Na := rfl
theorem credit_row (d : Dev nD) : (row d).view.dmaCredit = Na := rfl

theorem row_of_copy (c src : Dev nD) (g : Buf (Elt F) ((row src).view.loc (c : Thread nD τ))) :
    iprop(((row src).view.loc (c : Thread nD τ) ↦[(row src).view.set]{fullShare}
      ((row src).view.write (Elt F) g ((aM : Memref sig .tc .vmem S8x128 .f32).view.read (Elt F) (tile xs ws src)) Finset.univ)) ∗ emp) ⊢ rowAt xs ws c src := by
  unfold rowAt
  iintro ⟨H, -⟩
  iexists ((row src).view.write (Elt F) g ((aM : Memref sig .tc .vmem S8x128 .f32).view.read (Elt F) (tile xs ws src)) Finset.univ)
  isplitr
  · ipureintro
    exact (View.read_write_univ (v := (row src).view) g _).trans (read_a _)
  iexact H

theorem wp_amSend (c : Dev nD) (k : ℕ) (hk : k < 31) (O : Tallies) (K : P F) (Q : PUnit → sProp 𝕄) :
    iprop((Ctx xs ws κ η ∗ Heard 0 (up 0 c) 31) ∗ AmIn xs ws c k ∗ owesAny c (O + tallyAt (arecvC (amaxDst k c) c) 0 Na))
      ⊢ iprop(((AmCred c k ∗ owesAny c O) -∗ wpc c K Q) -∗ wpc c (amSend (amaxDst k c) (row c) (rowM_we _ _) (nth k) (arecvS c) K) Q) := by
  unfold amSend AmIn AmTok
  iintro ⟨⟨#HC, #Hh⟩, ⟨⟨Ht1, Ht2, Hw⟩, Hs⟩, ⟨%W, HO⟩⟩ Hk
  ihave HE := (heard_all c hk) $$ Hh
  unfold Entered
  icases HE with ⟨-, HE⟩
  ihave #Hrel := (show bigSep Finset.univ (fun src : Dev nD => (released ES (arecvC (amaxDst k c) src) 1 : sProp 𝕄)) ⊢ released ES (arecvC (amaxDst k c) c) 1
    from bigSep_elim (Finset.mem_univ c)) $$ HE
  ihave HI := (ctx_key xs ws κ η (arecvC_key (amaxDst k c) c)) $$ HC
  ihave HI := (Entails.of_eq (congrArg (fun S => slotInv (ES (F := F)) (η (arecvC (amaxDst k c) c)) (arecvC (amaxDst k c) c) S) (slotAt_arecv (F := F) (amaxDst k c) c))) $$ HI
  imod (slot_take ES (Set.mem_univ _) 1) $$ [HI Hw] with Hd
  · isplitl [HI]; · iexact HI
    isplitr; · iexact Hrel
    iexact Hw
  unfold rowSlot slot
  icases Hd with ⟨%g, Hd⟩
  ihave HI1 := (ctx_cell xs ws κ η (asendC_mem c (nth k))) $$ HC
  icases HI1 with ⟨#HI1, #Hr1⟩
  ihave HI2 := (ctx_cell xs ws κ η (arecvC_mem (amaxDst k c) c)) $$ HC
  icases HI2 with ⟨#HI2, #Hr2⟩
  unfold tileAt
  iapply (Rounds.wp_send_pointsTo_with 𝒱₀ ER (Rd xs ws) (c : Thread nD τ) none (κ₁ := κ (asendC c (nth k))) (κ₂ := κ (arecvC (amaxDst k c) c))
    (r₁ := 0) (r₂ := 0) (d₁ := 0) (d₂ := 0) (fd := g) (F := iprop(emp))
    (by rw [duties_asend, if_pos rfl]; exact Finset.mem_singleton_self _)
    (by rw [duties_arecv, if_pos ⟨rfl, (amaxDst_ne c hk).symm⟩]; exact Finset.mem_singleton_self _)
    0 0 Na (show (row c).view.amount (SemLoc.dma (arecvS c)) = Na from credit_row c) (amount_asend xs ws c (nth k) _ _) (amount_arecv xs ws (amaxDst k c) c _ _) O rfl (W := W)
    (by rw [payload_asend]; exact Entails.refl _)
    (by rw [payload_arecv]; exact row_of_copy xs ws (amaxDst k c) c g)) $$ [Hs Hd HO Ht1 Ht2]
  · isplitr; · iexact HI1
    isplitr; · iexact HI2
    isplitl [Hs]; · iexact Hs
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists _; iexact HO

theorem wp_amSent (c : Dev nD) (M : Memref sig .tc .vmem S8x128 .f32) (hM) (k : ℕ) (K : P F) (Q : PUnit → sProp 𝕄) :
    iprop(Ctx xs ws κ η ∗ (AmCred c k ∗ atPos ER (asendC c (nth k)) 0 ∅ 0) ∗ owesAny c 0)
      ⊢ iprop((((tileAt xs ws c (nth k) ∗ atPos ER (asendC c (nth k)) 1 ∅ 0) ∗ owesAny c 0) -∗ wpc c K Q) -∗ wpc c (amSent M hM (nth k) K) Q) := by
  iintro ⟨#HC, ⟨Hc, Hat⟩, ⟨%W, HO⟩⟩ Hk
  ihave HI := (ctx_cell xs ws κ η (asendC_mem c (nth k))) $$ HC
  icases HI with ⟨#HI, -⟩
  unfold amSent wpc
  iapply (Rounds.wp_wait_rest_token (k' := Na) 𝒱₀ ER (Rd xs ws) (c : Thread nD τ) none (κ := κ (asendC c (nth k)))
      (fun K => (wpE_waitDma2_eq 𝒱₀ (c : Thread nD τ) none Set.univ K).trans (by rw [credit_a])) (Set.mem_univ _) 0 (O := 0) (W := W) (R := 0) (m := 0) (T := ∅)
      (by rw [Nat.zero_add, expect_asend])) $$ [Hc HO Hat]
  · isplitr; · iexact HI
    isplitl [Hc]; · iexact Hc
    isplitl [HO]; · iexact HO
    isplitr; · iapply (ctx_wait xs ws κ η (Above.zero _) (by decide) (Nat.lt_succ_self _)); iexact HC
    iexact Hat
  iintro ⟨HO, Hat, -, Hpay⟩
  ihave Hpay := (Entails.of_eq (show bigSep ((Rd xs ws).duties (asendC c (nth k)) 0 \ ∅) (fun d => (Rd xs ws).payload (asendC c (nth k)) 0 d) = tileAt xs ws c (nth k) by
    rw [duties_asend, if_pos rfl, Finset.sdiff_empty, bigSep_singleton, payload_asend])) $$ Hpay
  iapply Hk
  isplitr [HO]
  · isplitl [Hpay] <;> iassumption
  iexists _; iexact HO

theorem wp_amRecv (c : Dev nD) (k : ℕ) (hk : k < 31) (K : P F) (Q : PUnit → sProp 𝕄) :
    iprop(Ctx xs ws κ η ∗ (cred (tallyAt (arecvC c (amaxDst k c)) 0 Na) ∗ atPos ER (arecvC c (amaxDst k c)) 0 ∅ 0) ∗ owesAny c 0)
      ⊢ iprop((((rowAt xs ws c (amaxDst k c) ∗ atPos ER (arecvC c (amaxDst k c)) 1 ∅ 0) ∗ owesAny c 0) -∗ wpc c K Q)
        -∗ wpc c (amRecv (row (amaxDst k c)) (rowM_we _ _) (arecvS (amaxDst k c)) K) Q) := by
  have hne := amaxDst_ne c hk
  iintro ⟨#HC, ⟨Hc, Hat⟩, ⟨%W, HO⟩⟩ Hk
  ihave HI := (ctx_cell xs ws κ η (arecvC_mem c (amaxDst k c))) $$ HC
  icases HI with ⟨#HI, -⟩
  unfold amRecv wpc
  iapply (Rounds.wp_wait_rest_token (k' := Na) 𝒱₀ ER (Rd xs ws) (c : Thread nD τ) none (κ := κ (arecvC c (amaxDst k c)))
      (fun K => (wpE_waitDma2_eq 𝒱₀ (c : Thread nD τ) none Set.univ K).trans (by rw [credit_row])) (Set.mem_univ _) 0 (O := 0) (W := W) (R := 0) (m := 0) (T := ∅)
      (by rw [Nat.zero_add, expect_arecv xs ws c hne])) $$ [Hc HO Hat]
  · isplitr; · iexact HI
    isplitl [Hc]; · iexact Hc
    isplitl [HO]; · iexact HO
    isplitr; · iapply (ctx_wait xs ws κ η (Above.zero _) (by decide) (Nat.lt_succ_self _)); iexact HC
    iexact Hat
  iintro ⟨HO, Hat, -, Hpay⟩
  ihave Hpay := (Entails.of_eq (show bigSep ((Rd xs ws).duties (arecvC c (amaxDst k c)) 0 \ ∅) (fun d => (Rd xs ws).payload (arecvC c (amaxDst k c)) 0 d)
      = rowAt xs ws c (amaxDst k c) by
    rw [duties_arecv, if_pos ⟨rfl, hne⟩, Finset.sdiff_empty, bigSep_singleton, payload_arecv])) $$ Hpay
  iapply Hk
  isplitr [HO]
  · isplitl [Hpay] <;> iassumption
  iexists _; iexact HO

/-! ## The table -/

theorem others (c : Dev nD) : (Finset.univ.erase c : Finset (Dev nD)) = (Finset.Ico 0 31).image fun k => amaxDst k c := by
  ext d
  rw [Finset.mem_erase, Finset.mem_image]
  have hc : c.val < 32 := c.isLt
  have hd : d.val < 32 := d.isLt
  constructor
  · rintro ⟨h, -⟩
    have hne : d.val ≠ c.val := fun e => h (Fin.ext e)
    refine ⟨(d.val + 31 - c.val) % 32, Finset.mem_Ico.mpr ⟨Nat.zero_le _, by omega⟩, Fin.ext ?_⟩
    show (c.val + (1 + (d.val + 31 - c.val) % 32)) % 32 = d.val
    omega
  · rintro ⟨k, hk, rfl⟩
    exact ⟨amaxDst_ne c (Finset.mem_Ico.mp hk).2, Finset.mem_univ _⟩
theorem amaxDst_inj (c : Dev nD) : Set.InjOn (fun k => amaxDst k c) ((Finset.Ico 0 31 : Finset ℕ) : Set ℕ) := fun k hk k' hk' e => by
  have h1 := congrArg Fin.val e
  have h2 := (Finset.mem_Ico.mp hk).2
  have h3 := (Finset.mem_Ico.mp hk').2
  change (c.val + (1 + k)) % 32 = (c.val + (1 + k')) % 32 at h1
  omega
theorem bigSep_others (c : Dev nD) (Φ : Dev nD → sProp 𝕄) :
    bigSep Finset.univ Φ = iprop(Φ c ∗ bigSep (Finset.Ico 0 31) fun k => Φ (amaxDst k c)) := by
  have e : bigSep ((Finset.Ico 0 31).image fun k => amaxDst k c) Φ = bigSep (Finset.Ico 0 31) fun k => Φ (amaxDst k c) :=
    Finset.fold_image (amaxDst_inj c)
  rw [bigSep_univ_at _ c, others, e]
theorem bigSep_nth (Φ : Fin 31 → sProp 𝕄) : bigSep Finset.univ Φ = bigSep (Finset.Ico 0 31) fun k => Φ (nth k) := by
  have e : (Finset.Ico 0 31 : Finset ℕ) = Finset.univ.map (Fin.valEmbedding : Fin 31 ↪ ℕ) := by
    ext k; rw [Fin.map_valEmbedding_univ, Finset.mem_Ico, Finset.mem_Iio]; omega
  rw [e, bigSep_map]
  exact bigSep_congr fun k _ => by rw [show nth (Fin.valEmbedding k) = k from Fin.ext (nth_val k.isLt)]

/-- The rows, once all are there, are the table of all maxima. -/
theorem rows_join (c : Dev nD) : (bigSep Finset.univ fun src : Dev nD => rowAt xs ws c src)
    ⊢ (gM : Memref sig .tc .vmem S32x8x128 .f32).view.loc (c : Thread nD τ) ↦[Finset.univ]{fullShare} (tiles xs ws) := by
  unfold rowAt
  iintro H
  ihave H := (bigSep_exists_pi Finset.univ (fun (src : Dev nD) (f : Buf (Elt F) ((row src).view.loc (c : Thread nD τ))) =>
    iprop(⌜(row src).view.read (Elt F) f = tile xs ws src⌝ ∗ (row src).view.loc (c : Thread nD τ) ↦[(row src).view.set]{fullShare} f))) $$ H
  icases H with ⟨%fs, H⟩
  ihave H := (bigSep_pure_sep _ _ _) $$ H
  icases H with ⟨%h, H⟩
  ihave H := (Entails.of_eq (show (bigSep Finset.univ fun src : Dev nD => (row src).view.loc (c : Thread nD τ) ↦[(row src).view.set]{fullShare} fs src : sProp 𝕄)
    = bigSep Finset.univ fun src : Dev nD => (gM : Memref sig .tc .vmem S32x8x128 .f32).view.loc (c : Thread nD τ) ↦[rowSet src]{fullShare} fs src from rfl)) $$ H
  ihave H := (pointsTo_biUnion_join (ℓ := (gM : Memref sig .tc .vmem S32x8x128 .f32).view.loc (c : Thread nD τ)) (q := fullShare) Finset.univ rowSet fs (fs c)
    (fun t _ t' _ h => row_disjoint h)) $$ H
  icases H with ⟨%g, %hg, H⟩
  rw [row_cover]
  rw [show (tiles xs ws : FVec F S32x8x128 .f32) = g from funext fun x => by
    obtain ⟨y, hy⟩ := gM_emb_row x
    have h1 := hg (x 0) (Finset.mem_univ _) ((row (x 0)).view.emb y) (View.emb_mem_set _ y)
    have h2 := congrFun (h (x 0) (Finset.mem_univ _)) y
    obtain ⟨z, hz⟩ := tiles_at xs ws x
    exact (hz.trans (tile_const xs ws (x 0) z y)).trans (h2.symm.trans (h1.symm.trans (congrArg g hy)))]
  iexact H

/-! ## The epilogue -/

theorem pay173_tile (c : Dev nD) (x : S1x8x128.Idx) (y : S8x128.Idx) : k0_pay173 (tile xs ws c) x = tile xs ws c y := by
  obtain ⟨y', h⟩ := pay173_at (tile xs ws c) x
  exact h.trans (tile_const xs ws c y' y)

theorem row_of_store (c : Dev nD) (g : Buf (Elt F) ((row c).view.loc (c : Thread nD τ))) :
    ((row c).view.loc (c : Thread nD τ) ↦[(row c).view.set]{fullShare} (((gM : Memref sig .tc .vmem S32x8x128 .f32).access (rowR c)).write (Elt F) g (k0_pay173 (tile xs ws c)) Finset.univ))
      ⊢ rowAt xs ws c c := by
  unfold rowAt
  iintro H
  iexists (((gM : Memref sig .tc .vmem S32x8x128 .f32).access (rowR c)).write (Elt F) g (k0_pay173 (tile xs ws c)) Finset.univ)
  isplitr
  · ipureintro
    funext y
    have hn : S8x128.numel = (rowR c).shape.numel := by show S8x128.numel = S1x8x128.numel; decide
    exact (View.read_write_of_mem (v := (gM : Memref sig .tc .vmem S32x8x128 .f32).access (rowR c)) g (k0_pay173 (tile xs ws c))
      (Finset.mem_univ (Shape.reshapeEquiv hn y))).trans (pay173_tile xs ws c _ y)
  iexact H

theorem wp_loadRow (c : Dev nD) {o : Fin 3 → ℕ} (e : o = ![c.val, 0, 0]) (h hl) (f : Buf (Elt F) ((row c).view.loc (c : Thread nD τ)))
    (K : Vec F S1x8x128 .f32 → P F) (Q : PUnit → sProp 𝕄) :
    ((row c).view.loc (c : Thread nD τ) ↦[(row c).view.set]{fullShare} f)
      ⊢ iprop((∀ v, ((row c).view.loc (c : Thread nD τ) ↦[(row c).view.set]{fullShare} f) -∗ wpc c (K v) Q)
        -∗ wpc c (.op (.load gM (Rect.unit (s := S32x8x128) o S1x8x128.size h).toLoadRect hl) K) Q) := by
  subst e
  have hS : (gM : Memref sig .tc .vmem S32x8x128 .f32).view.setOn (rowR c).toLoadRect.set ⊆ (row c).view.set := by
    rw [row_set, View.set_slice]; exact Finset.Subset.refl _
  iintro H Hk
  iapply (wp_load 𝒱₀ (c : Thread nD τ) none Set.univ (m := gM) hS) $$ H; iintro H
  ispecialize Hk $$ %_
  iapply Hk; iexact H
theorem wp_storeRow (c : Dev nD) {o : Fin 3 → ℕ} (e : o = ![c.val, 0, 0]) (h h1 h2) (f : Buf (Elt F) ((row c).view.loc (c : Thread nD τ)))
    (p : FVec F S1x8x128 .f32) (K : P F) (Q : PUnit → sProp 𝕄) :
    ((row c).view.loc (c : Thread nD τ) ↦[(row c).view.set]{fullShare} f)
      ⊢ iprop((((row c).view.loc (c : Thread nD τ) ↦[(row c).view.set]{fullShare} (((gM : Memref sig .tc .vmem S32x8x128 .f32).access (rowR c)).write (Elt F) f p Finset.univ))
          -∗ wpc c K Q)
        -∗ wpc c (.op (.store gM (Rect.unit (s := S32x8x128) o S1x8x128.size h) p Finset.univ h1 h2) fun _ => K) Q) := by
  subst e
  have hS : ((gM : Memref sig .tc .vmem S32x8x128 .f32).access (rowR c)).setOn Finset.univ ⊆ (row c).view.set := fun x hx => by
    rw [View.setOn_univ] at hx; rw [row_set]; exact hx
  iintro H Hk
  iapply (wp_store 𝒱₀ (c : Thread nD τ) none Set.univ (m := gM) (r := rowR c) (Mk := Finset.univ) (f := f) hS) $$ H
  iexact Hk

theorem zero2 : (![0, 0] : Fin 2 → ℕ) = fun _ => 0 := by decide
theorem zero3 : (![0, 0, 0] : Fin 3 → ℕ) = fun _ => 0 := by decide

abbrev aPts (c : Dev nD) (f : FVec F S8x128 .f32) : sProp 𝕄 := (aM : Memref sig .tc .vmem S8x128 .f32).view.loc (c : Thread nD τ) ↦[Finset.univ]{fullShare} f
abbrev oPts (c : Dev nD) (f : FVec F S128x2048 .f32) : sProp 𝕄 := (oM : Memref sig .tc .vmem S128x2048 .f32).view.loc (c : Thread nD τ) ↦[Finset.univ]{fullShare} f
abbrev gPts (c : Dev nD) (f : FVec F S32x8x128 .f32) : sProp 𝕄 := (gM : Memref sig .tc .vmem S32x8x128 .f32).view.loc (c : Thread nD τ) ↦[Finset.univ]{fullShare} f

def AmStart (c : Dev nD) : sProp 𝕄 :=
  iprop(writeTok ES (arecvC c c) 1 ∗ (bigSep (Finset.Ico 0 31) fun k => AmTok c k) ∗ (bigSep (Finset.Ico 0 31) fun k => atPos ER (asendC c (nth k)) 0 ∅ 0)
    ∗ (bigSep (Finset.Ico 0 31) fun k => iprop(cred (tallyAt (arecvC c (amaxDst k c)) 0 Na) ∗ atPos ER (arecvC c (amaxDst k c)) 0 ∅ 0)))
def AmEnd (c : Dev nD) : sProp 𝕄 :=
  iprop((bigSep (Finset.Ico 0 31) fun k => atPos ER (asendC c (nth k)) 1 ∅ 0) ∗ bigSep (Finset.Ico 0 31) fun k => atPos ER (arecvC c (amaxDst k c)) 1 ∅ 0)

theorem pieces (c : Dev nD) (t : FVec F S8x128 .f32) (o : ℕ) (ho : 0 < o) (I : Finset (Idx ((aM : Memref sig .tc .vmem S8x128 .f32).view.loc (c : Thread nD τ))))
    (hI : I = Finset.univ) : aPts c t = bigSep Finset.univ fun k : Fin o =>
    (aM : Memref sig .tc .vmem S8x128 .f32).view.loc (c : Thread nD τ) ↦[I]{pieceOf fullShare o ho k} t := by
  subst hI
  exact pointsTo_piecesOf _ _ ho fullShare
theorem tileAt_split (c : Dev nD) : aPts c (tile xs ws c) = bigSep (Finset.Ico 0 31) fun k => tileAt xs ws c (nth k) := by
  rw [pieces c (tile xs ws c) 31 (by decide) (aM : Memref sig .tc .vmem S8x128 .f32).view.set (View.set_whole _)]
  exact bigSep_nth (fun k => tileAt xs ws c k)

theorem wp_amaxSends (c : Dev nD) (K : P F) (Q : PUnit → sProp 𝕄) :
    iprop((Ctx xs ws κ η ∗ Heard 0 (up 0 c) 31) ∗ (bigSep (Finset.Ico 0 31) fun k => AmIn xs ws c k) ∗ owesAny c (owedAmax c 31))
      ⊢ iprop((((bigSep (Finset.Ico 0 31) fun k => AmCred c k) ∗ owesAny c 0) -∗ wpc c K Q) -∗ wpc c (amaxSends c K 31) Q) :=
  wp_each c (iprop(Ctx xs ws κ η ∗ Heard 0 (up 0 c) 31)) (fun k => AmIn xs ws c k) (fun k => AmCred c k) (owedAmax c) (amaxSends c K) Q
    (fun n hn => (amaxSends_step c K hn).symm ▸ wp_amSend xs ws κ η c (30 - n) (by omega) (owedAmax c n) (amaxSends c K n) Q) 31 (le_refl _)
theorem wp_amaxSent (c : Dev nD) (K : P F) (Q : PUnit → sProp 𝕄) :
    iprop(Ctx xs ws κ η ∗ (bigSep (Finset.Ico 0 31) fun k => iprop(AmCred c k ∗ atPos ER (asendC c (nth k)) 0 ∅ 0)) ∗ owesAny c 0)
      ⊢ iprop((((bigSep (Finset.Ico 0 31) fun k => iprop(tileAt xs ws c (nth k) ∗ atPos ER (asendC c (nth k)) 1 ∅ 0)) ∗ owesAny c 0) -∗ wpc c K Q)
        -∗ wpc c (amaxSent c K 31) Q) :=
  wp_each c (Ctx xs ws κ η) (fun k => iprop(AmCred c k ∗ atPos ER (asendC c (nth k)) 0 ∅ 0))
    (fun k => iprop(tileAt xs ws c (nth k) ∗ atPos ER (asendC c (nth k)) 1 ∅ 0)) (fun _ => 0) (amaxSent c K) Q
    (fun n hn => (amaxSent_step c K n).symm ▸ wp_amSent xs ws κ η c _ _ (30 - n) (amaxSent c K n) Q) 31 (le_refl _)
theorem wp_amaxRecvs (c : Dev nD) (K : P F) (Q : PUnit → sProp 𝕄) :
    iprop(Ctx xs ws κ η ∗ (bigSep (Finset.Ico 0 31) fun k => iprop(cred (tallyAt (arecvC c (amaxDst k c)) 0 Na) ∗ atPos ER (arecvC c (amaxDst k c)) 0 ∅ 0)) ∗ owesAny c 0)
      ⊢ iprop((((bigSep (Finset.Ico 0 31) fun k => iprop(rowAt xs ws c (amaxDst k c) ∗ atPos ER (arecvC c (amaxDst k c)) 1 ∅ 0)) ∗ owesAny c 0) -∗ wpc c K Q)
        -∗ wpc c (amaxRecvs c K 31) Q) :=
  wp_each c (Ctx xs ws κ η) (fun k => iprop(cred (tallyAt (arecvC c (amaxDst k c)) 0 Na) ∗ atPos ER (arecvC c (amaxDst k c)) 0 ∅ 0))
    (fun k => iprop(rowAt xs ws c (amaxDst k c) ∗ atPos ER (arecvC c (amaxDst k c)) 1 ∅ 0)) (fun _ => 0) (amaxRecvs c K) Q
    (fun n hn => (amaxRecvs_step c K hn).symm ▸ wp_amRecv xs ws κ η c (30 - n) (by omega) (amaxRecvs c K n) Q) 31 (le_refl _)

theorem wp_epilogue (c : Dev nD) (a₀ : FVec F S8x128 .f32) (o₀ : FVec F S128x2048 .f32) (Q : PUnit → sProp 𝕄) :
    iprop(Ctx xs ws κ η ∗ Entered c ∗ Heard 0 (up 0 c) 31 ∗ aPts c a₀ ∗ oPts c o₀ ∗ AmStart c ∗ owesAny c (owedAmax c 31))
      ⊢ iprop(((aPts c (tile xs ws c) ∗ oPts c (outv xs ws c) ∗ gPts c (tiles xs ws) ∗ AmEnd c ∗ owesAny c 0) -∗ |={Set.univ}=> Q ⟨⟩)
        -∗ wpc c (epilogue c (yv xs ws c)) Q) := by
  unfold epilogue AmStart
  iintro ⟨#HC, #HE, #Hh, Ha, Ho, ⟨Hw, Hts, Hps, Hrs⟩, HO⟩ Hk
  iapply (wp_load 𝒱₀ (c : Thread nD τ) none Set.univ (m := aM) (Finset.subset_univ _)) $$ Ha; iintro Ha
  iapply (wp_store 𝒱₀ (c : Thread nD τ) none Set.univ (m := aM) (r := Rect.unit (s := S8x128) ![0, 0] S8x128.size inb_S8x128_S8x128_0_0)
    (Mk := Finset.univ) (f := a₀) (Finset.subset_univ _)) $$ Ha; iintro Ha
  rw [store_a]
  iapply (wp_load 𝒱₀ (c : Thread nD τ) none Set.univ (m := aM) (Finset.subset_univ _)) $$ Ha; iintro Ha
  rw [load_a]
  ihave HE' := HE
  unfold Entered
  icases HE' with ⟨-, HE'⟩
  ihave #Hrel := (show bigSep Finset.univ (fun src : Dev nD => (released ES (arecvC c src) 1 : sProp 𝕄)) ⊢ released ES (arecvC c c) 1
    from bigSep_elim (Finset.mem_univ c)) $$ HE'
  ihave HI := (ctx_key xs ws κ η (arecvC_key c c)) $$ HC
  ihave HI := (Entails.of_eq (congrArg (fun S => slotInv (ES (F := F)) (η (arecvC c c)) (arecvC c c) S) (slotAt_arecv (F := F) c c))) $$ HI
  imod (slot_take ES (Set.mem_univ _) 1) $$ [HI Hw] with Hd
  · isplitl [HI]; · iexact HI
    isplitr; · iexact Hrel
    iexact Hw
  unfold rowSlot slot
  icases Hd with ⟨%g, Hd⟩
  iapply (wp_loadRow c (k0_off3_eq c) _ _ g) $$ Hd; iintro %v Hd
  iapply (wp_storeRow c (k0_off3_eq c) _ _ _ g) $$ Hd; iintro Hd
  ihave Hd := (row_of_store xs ws c g) $$ Hd
  ihave Ha := (Entails.of_eq (tileAt_split xs ws c)) $$ Ha
  ihave Hin := (Entails.of_eq (bigSep_sep' (Finset.Ico 0 31) (fun k => AmTok c k) (fun k => tileAt xs ws c (nth k))).symm) $$ [Hts Ha]
  · isplitl [Hts] <;> iassumption
  iapply (wp_amaxSends xs ws κ η c) $$ [Hin HO]
  · isplitr
    · isplitr; · iexact HC
      iexact Hh
    isplitl [Hin]; · iexact Hin
    iexact HO
  iintro ⟨Hcs, HO⟩
  ihave Hin := (Entails.of_eq (bigSep_sep' (Finset.Ico 0 31) (fun k => AmCred c k) (fun k => atPos ER (asendC c (nth k)) 0 ∅ 0)).symm) $$ [Hcs Hps]
  · isplitl [Hcs] <;> iassumption
  iapply (wp_amaxSent xs ws κ η c) $$ [Hin HO]
  · isplitr; · iexact HC
    isplitl [Hin] <;> iassumption
  iintro ⟨Hout, HO⟩
  ihave Hout := (Entails.of_eq (bigSep_sep' (Finset.Ico 0 31) (fun k => tileAt xs ws c (nth k)) (fun k => atPos ER (asendC c (nth k)) 1 ∅ 0))) $$ Hout
  icases Hout with ⟨Ha, Hps⟩
  ihave Ha := (Entails.of_eq (tileAt_split xs ws c).symm) $$ Ha
  iapply (wp_amaxRecvs xs ws κ η c) $$ [Hrs HO]
  · isplitr; · iexact HC
    isplitl [Hrs] <;> iassumption
  iintro ⟨Hout, HO⟩
  ihave Hout := (Entails.of_eq (bigSep_sep' (Finset.Ico 0 31) (fun k => rowAt xs ws c (amaxDst k c)) (fun k => atPos ER (arecvC c (amaxDst k c)) 1 ∅ 0))) $$ Hout
  icases Hout with ⟨Hrows, Hrs⟩
  ihave Hg := (Entails.of_eq (bigSep_others c (fun src => rowAt xs ws c src)).symm) $$ [Hd Hrows]
  · isplitl [Hd] <;> iassumption
  ihave Hg := (rows_join xs ws c) $$ Hg
  iapply (wp_load 𝒱₀ (c : Thread nD τ) none Set.univ (m := gM) (Finset.subset_univ _)) $$ Hg; iintro Hg
  rw [load_g]
  iapply (wp_load 𝒱₀ (c : Thread nD τ) none Set.univ (m := oM) (Finset.subset_univ _)) $$ Ho; iintro Ho
  iapply (wp_store 𝒱₀ (c : Thread nD τ) none Set.univ (m := oM) (r := Rect.unit (s := S128x2048) ![0, 0] S128x2048.size inb_S128x2048_S128x2048_0_0)
    (Mk := Finset.univ) (f := o₀) (Finset.subset_univ _)) $$ Ho; iintro Ho
  rw [store_o, out_eq]
  rw [wp_ret]
  iapply Hk
  isplitl [Ha]; · iexact Ha
  isplitl [Ho]; · iexact Ho
  isplitl [Hg]; · iexact Hg
  isplitr [HO]
  · unfold AmEnd
    isplitl [Hps] <;> iassumption
  iexact HO

end Epi

end Cert.Gemm
-- ==== Proof.Body.lean ====
/-
The whole body: the buffers divided into slots and rows, the entry, the rounds and the exchange, and every semaphore
closed at zero.
-/
module

public import proofs.«01_k».proof.Proof.Epilogue

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok released_mono slot_slot_false slot_take slot_release)

variable {F : FTy → Type} [FloatOps F]

local notation "𝕄" => MT nD τ sig ℕ (Elt F) ℕ UU ℕ

/-! ## Buffers and slots -/

/-- A buffer held whole, at some contents. -/
abbrev held (c : Dev nD) {s : Shape} (M : Memref sig .tc .vmem s .f32) : sProp 𝕄 :=
  iprop(∃ f : Buf (Elt F) (M.view.loc (c : Thread nD τ)), M.view.loc (c : Thread nD τ) ↦[Finset.univ]{fullShare} f)
abbrev slotsAt (c : Dev nD) (M : Memref sig .tc .vmem S2x128x512 .f32) (b : Fin 2) : sProp 𝕄 :=
  slot ((slotM M b).view.loc (c : Thread nD τ)) (slotM M b).view.set

theorem slots_of (c : Dev nD) (M : Memref sig .tc .vmem S2x128x512 .f32) (hM : M.view.set = Finset.univ) :
    held (F := F) c M ⊢ iprop(slotsAt c M 0 ∗ slotsAt c M 1) := by
  have h : ∀ f : Buf (Elt F) (M.view.loc (c : Thread nD τ)), (M.view.loc (c : Thread nD τ) ↦[Finset.univ]{fullShare} f : sProp 𝕄)
      ⊢ iprop((M.view.loc (c : Thread nD τ) ↦[(slotM M 0).view.set]{fullShare} f) ∗ M.view.loc (c : Thread nD τ) ↦[(slotM M 1).view.set]{fullShare} f) := fun f => by
    rw [← slot_cover M hM]; exact (pointsTo_union (slot_disjoint M)).1
  unfold held slotsAt slot
  iintro ⟨%f, H⟩
  ihave H := (h f) $$ H
  icases H with ⟨H0, H1⟩
  isplitl [H0]
  · iexists f; iexact H0
  iexists f; iexact H1
theorem slots_to (c : Dev nD) (M : Memref sig .tc .vmem S2x128x512 .f32) (hM : M.view.set = Finset.univ) :
    iprop(slotsAt c M 0 ∗ slotsAt c M 1) ⊢ held (F := F) c M := by
  have h : ∀ f g : Buf (Elt F) (M.view.loc (c : Thread nD τ)),
      iprop((M.view.loc (c : Thread nD τ) ↦[(slotM M 0).view.set]{fullShare} f) ∗ M.view.loc (c : Thread nD τ) ↦[(slotM M 1).view.set]{fullShare} g)
      ⊢ (M.view.loc (c : Thread nD τ) ↦[Finset.univ]{fullShare} ((slotM M 1).view.set.piecewise g f) : sProp 𝕄) := fun f g => by
    rw [← slot_cover M hM]; exact pointsTo_join (slot_disjoint M)
  unfold held slotsAt slot
  iintro ⟨⟨%f, H0⟩, ⟨%g, H1⟩⟩
  iexists ((slotM M 1).view.set.piecewise g f)
  iapply (h f g)
  isplitl [H0]
  · iexact H0
  iexact H1
theorem rows_of (c : Dev nD) : held (F := F) c gM ⊢ bigSep Finset.univ fun src : Dev nD => rowSlot c src := by
  have h (f : Buf (Elt F) ((gM : Memref sig .tc .vmem S32x8x128 .f32).view.loc (c : Thread nD τ))) :=
    pointsTo_biUnion (ℓ := (gM : Memref sig .tc .vmem S32x8x128 .f32).view.loc (c : Thread nD τ)) (q := fullShare) (f := f) (Ix := ℕ) (Name := ℕ) (U := UU) (Lvl := ℕ)
      Finset.univ rowSet (fun t _ t' _ h => row_disjoint h)
  have h2 (f : Buf (Elt F) ((gM : Memref sig .tc .vmem S32x8x128 .f32).view.loc (c : Thread nD τ))) (src : Dev nD) :
      ((gM : Memref sig .tc .vmem S32x8x128 .f32).view.loc (c : Thread nD τ) ↦[rowSet src]{fullShare} f : sProp 𝕄) ⊢ rowSlot c src := by
    unfold rowSlot slot
    iintro H; iexists f; iexact H
  rw [row_cover] at h
  unfold held
  iintro ⟨%f, H⟩
  ihave H := (Entails.of_eq (h f)) $$ H
  iapply (show bigSep Finset.univ (fun src : Dev nD => ((gM : Memref sig .tc .vmem S32x8x128 .f32).view.loc (c : Thread nD τ) ↦[rowSet src]{fullShare} f : sProp 𝕄))
    ⊢ bigSep Finset.univ fun src : Dev nD => rowSlot c src from bigSep_mono fun src _ => h2 f src)
  iexact H

/-- A family over streams and slots. -/
abbrev sb (Φ : Fin 4 → Fin 2 → sProp 𝕄) : sProp 𝕄 := bigSep Finset.univ fun i : Fin 4 => bigSep Finset.univ fun b : Fin 2 => Φ i b
theorem sb_two (Φ : Fin 4 → Fin 2 → sProp 𝕄) : sb Φ = bigSep Finset.univ fun i : Fin 4 => iprop(Φ i 0 ∗ Φ i 1) :=
  bigSep_congr fun i _ => bigSep_fin_two (Φ i)

/-- The scratch buffers of device `c`. -/
def Bufs (c : Dev nD) : sProp 𝕄 :=
  iprop((bigSep Finset.univ fun i : Fin 4 => held c (sM i)) ∗ (bigSep Finset.univ fun i : Fin 4 => held c (rM i)) ∗ held c aM ∗ held c gM)

section Body
variable (xs : Dev nD → (xM : Memref sig .tc .vmem S4096x128 .f32).view.ty.Contents (Elt F))
variable (ws : Dev nD → (wM : Memref sig .tc .vmem S128x2048 .f32).view.ty.Contents (Elt F))
variable (κ η : GSem nD τ sig → ℕ)

/-! ## The entry -/

theorem rowSlot_excl (c src : Dev nD) : iprop(rowSlot (F := F) c src ∗ rowSlot c src) ⊢ False :=
  slot_slot_false (row_nonempty src)

theorem release_slot (c : Dev nD) (i : Fin 4) (b : Fin 2) :
    iprop(Ctx xs ws κ η ∗ (readerAt ES (recvC c i b) 0 ∗ recvSlot c i b))
      ⊢ (|={Set.univ}=> (readerAt ES (recvC c i b) 1 ∗ released ES (recvC c i b) 1) : sProp 𝕄) := by
  iintro ⟨#HC, Hr, Hs⟩
  ihave HI := (ctx_key xs ws κ η (recvC_key c i b)) $$ HC
  ihave HI := (Entails.of_eq (congrArg (fun S => slotInv (ES (F := F)) (η (recvC c i b)) (recvC c i b) S) (slotAt_recv (F := F) c i b))) $$ HI
  iapply (slot_release ES (Set.mem_univ _) (recvSlot_excl c i b) 0)
  isplitl [HI]; · iexact HI
  isplitl [Hr] <;> iassumption
theorem release_row (c src : Dev nD) :
    iprop(Ctx xs ws κ η ∗ (readerAt ES (arecvC c src) 0 ∗ rowSlot c src))
      ⊢ (|={Set.univ}=> (readerAt ES (arecvC c src) 1 ∗ released ES (arecvC c src) 1) : sProp 𝕄) := by
  iintro ⟨#HC, Hr, Hs⟩
  ihave HI := (ctx_key xs ws κ η (arecvC_key c src)) $$ HC
  ihave HI := (Entails.of_eq (congrArg (fun S => slotInv (ES (F := F)) (η (arecvC c src)) (arecvC c src) S) (slotAt_arecv (F := F) c src))) $$ HI
  iapply (slot_release ES (Set.mem_univ _) (rowSlot_excl c src) 0)
  isplitl [HI]; · iexact HI
  isplitl [Hr] <;> iassumption

/-- Every slot and every row is released once. -/
theorem enter (c : Dev nD) :
    iprop(Ctx xs ws κ η ∗ (sb fun i b => readerAt ES (recvC c i b) 0) ∗ (bigSep Finset.univ fun src : Dev nD => readerAt ES (arecvC c src) 0)
        ∗ (sb fun i b => recvSlot c i b) ∗ bigSep Finset.univ fun src : Dev nD => rowSlot c src)
      ⊢ (|={Set.univ}=> ((sb fun i b => readerAt ES (recvC c i b) 1) ∗ Entered c) : sProp 𝕄) := by
  have h1 (i : Fin 4) : iprop(Ctx (F := F) xs ws κ η ∗ bigSep Finset.univ fun b : Fin 2 => iprop(readerAt ES (recvC c i b) 0 ∗ recvSlot c i b))
      ⊢ iprop(|={Set.univ}=> bigSep Finset.univ fun b : Fin 2 => iprop(readerAt ES (recvC c i b) 1 ∗ released ES (recvC c i b) 1)) :=
    (bigSep_with_persistent fun b _ => release_slot xs ws κ η c i b).trans (bigSep_fupd _ _)
  have h2 : iprop(Ctx (F := F) xs ws κ η ∗ sb fun i b => iprop(readerAt ES (recvC c i b) 0 ∗ recvSlot c i b))
      ⊢ iprop(|={Set.univ}=> sb fun i b => iprop(readerAt ES (recvC c i b) 1 ∗ released ES (recvC c i b) 1)) :=
    (bigSep_with_persistent fun i _ => h1 i).trans (bigSep_fupd _ _)
  have h3 : iprop(Ctx (F := F) xs ws κ η ∗ bigSep Finset.univ fun src : Dev nD => iprop(readerAt ES (arecvC c src) 0 ∗ rowSlot c src))
      ⊢ iprop(|={Set.univ}=> bigSep Finset.univ fun src : Dev nD => iprop(readerAt ES (arecvC c src) 1 ∗ released ES (arecvC c src) 1)) :=
    (bigSep_with_persistent fun src _ => release_row xs ws κ η c src).trans (bigSep_fupd _ _)
  have s2 (Φ Ψ : Fin 4 → Fin 2 → sProp 𝕄) : (sb fun i b => iprop(Φ i b ∗ Ψ i b)) = iprop(sb Φ ∗ sb Ψ) := by
    unfold sb; rw [← bigSep_sep']; exact bigSep_congr fun i _ => bigSep_sep' _ _ _
  rw [s2, s2] at h2
  rw [bigSep_sep', bigSep_sep'] at h3
  unfold Entered
  iintro ⟨#HC, Hr, Ha, Hs, Hw⟩
  imod h2 $$ [Hr Hs] with ⟨Hr, Hl⟩
  · isplitr; · iexact HC
    isplitl [Hr] <;> iassumption
  imod h3 $$ [Ha Hw] with ⟨-, Hm⟩
  · isplitr; · iexact HC
    isplitl [Ha] <;> iassumption
  imodintro
  isplitl [Hr]; · iexact Hr
  isplitl [Hl] <;> iassumption

/-- What a stream starts with. -/
def Str (c : Dev nD) (i : Fin 4) : sProp 𝕄 :=
  iprop((bigSep (Finset.Ico 0 31) fun s => StepTok c i s) ∗ (bigSep (Finset.Ico 0 31) fun s => WaitTok c i s)
    ∗ (bigSep Finset.univ fun b : Fin 2 => atPos ER (sendC c i b) 0 ∅ 0) ∗ (bigSep Finset.univ fun b : Fin 2 => atPos ER (recvC c i b) 0 ∅ 0)
    ∗ atPos ER (credC c i) 0 ∅ 0)

theorem cnt_zero (b : Fin 2) : cnt b.val 0 = 0 := by revert b; decide

theorem entered_released (c : Dev nD) (i : Fin 4) (b : Fin 2) : Entered (F := F) c ⊢ released ES (recvC c i b) 1 := by
  have h : sb (fun i b => (released ES (recvC c i b) 1 : sProp 𝕄)) ⊢ released ES (recvC c i b) 1 :=
    (bigSep_elim (Finset.mem_univ i)).trans (bigSep_elim (Finset.mem_univ b))
  unfold Entered
  iintro ⟨H, -⟩
  iapply h; iexact H
theorem freed_start (x : Dev nD) (i : Fin 4) : iprop(Ctx xs ws κ η ∗ Entered x) ⊢ Freed (F := F) x i 0 := by
  have h (b : Fin 2) : iprop(Ctx xs ws κ η ∗ Entered x) ⊢ FreedB (F := F) x i 0 b := by
    unfold FreedB
    rw [cnt_zero]
    iintro ⟨HC, HE⟩
    ihave H := (ctx_cell xs ws κ η (recvC_mem x i b)) $$ HC
    icases H with ⟨-, Hr⟩
    isplitl [HE]
    · iapply (entered_released x i b); iexact HE
    iexact Hr
  unfold Freed
  iintro ⟨#HC, #HE⟩
  isplitl
  · iapply (h 0); isplitr <;> iassumption
  iapply (h 1); isplitr <;> iassumption
theorem pos_start (c : Dev nD) (i : Fin 4) :
    iprop(Ctx xs ws κ η ∗ (bigSep Finset.univ fun b : Fin 2 => atPos ER (sendC c i b) 0 ∅ 0) ∗ (bigSep Finset.univ fun b : Fin 2 => atPos ER (recvC c i b) 0 ∅ 0))
      ⊢ Pos (F := F) c i 0 := by
  have h (b : Fin 2) : iprop(Ctx xs ws κ η ∗ atPos ER (sendC c i b) 0 ∅ 0 ∗ atPos ER (recvC c i b) 0 ∅ 0) ⊢ PosB (F := F) c i 0 b := by
    unfold PosB
    rw [cnt_zero]
    iintro ⟨#HC, Hs, Hr⟩
    ihave H := (ctx_cell xs ws κ η (sendC_mem c i b)) $$ HC
    icases H with ⟨-, H1⟩
    ihave H := (ctx_cell xs ws κ η (recvC_mem c i b)) $$ HC
    icases H with ⟨-, H2⟩
    isplitl [Hs Hr]
    · isplitl [Hs] <;> iassumption
    isplitl [H1] <;> iassumption
  rw [BI.bigSep_fin_two, BI.bigSep_fin_two]
  unfold Pos
  iintro ⟨#HC, Hs, Hr⟩
  ihave Hs := (Entails.of_eq (show _ = iprop(atPos ER (sendC c i 0) 0 ∅ 0 ∗ atPos ER (sendC c i 1) 0 ∅ 0) from rfl)) $$ Hs
  ihave Hr := (Entails.of_eq (show _ = iprop(atPos ER (recvC c i 0) 0 ∅ 0 ∗ atPos ER (recvC c i 1) 0 ∅ 0) from rfl)) $$ Hr
  icases Hs with ⟨Hs0, Hs1⟩
  icases Hr with ⟨Hr0, Hr1⟩
  isplitl [Hs0 Hr0]
  · iapply (h 0); isplitr; · iexact HC
    isplitl [Hs0] <;> iassumption
  iapply (h 1); isplitr; · iexact HC
  isplitl [Hs1] <;> iassumption
theorem read_start (c : Dev nD) (i : Fin 4) :
    iprop(Entered c ∗ bigSep Finset.univ fun b : Fin 2 => readerAt ES (recvC c i b) 1) ⊢ Read (F := F) c i 0 := by
  have h (b : Fin 2) : iprop(Entered c ∗ readerAt ES (recvC c i b) 1) ⊢ ReadB (F := F) c i 0 b := by
    unfold ReadB
    rw [cnt_zero]
    iintro ⟨HE, Hr⟩
    isplitl [Hr]; · iexact Hr
    iapply (entered_released c i b); iexact HE
  rw [BI.bigSep_fin_two]
  unfold Read
  iintro ⟨#HE, Hr⟩
  ihave Hr := (Entails.of_eq (show _ = iprop(readerAt ES (recvC c i 0) 1 ∗ readerAt ES (recvC c i 1) 1) from rfl)) $$ Hr
  icases Hr with ⟨Hr0, Hr1⟩
  isplitl [Hr0]
  · iapply (h 0); isplitr <;> iassumption
  iapply (h 1); isplitr <;> iassumption

/-- Every stream at its first round. -/
theorem stream_start (c : Dev nD) (i : Fin 4) :
    iprop((Ctx xs ws κ η ∗ Entered c ∗ Entered (fwd 1 c) ∗ Entered (fwd 31 c))
        ∗ Str c i ∗ (bigSep Finset.univ fun b : Fin 2 => readerAt ES (recvC c i b) 1) ∗ sendSlot c i 0 ∗ sendSlot c i 1) ⊢ St (F := F) c i 0 := by
  have hd : iprop(Entered (F := F) (fwd 1 c) ∗ Entered (fwd 31 c)) ⊢ Entered (down i c) := by
    iintro ⟨H1, H31⟩
    unfold down hop
    split
    · iexact H1
    · iexact H31
  unfold Str St Sl CredSt
  rw [if_pos (show 0 = 0 from rfl), if_neg (show ¬ 0 = 31 by decide), if_neg (show ¬ 0 = 31 by decide), show 0 - 1 = 0 from rfl,
    show min 0 29 = 0 from rfl, show slotOf 0 = 0 from rfl]
  iintro ⟨⟨#HC, #HE, #H1, #H31⟩, ⟨Hst, Hwt, Hps, Hpr, Hcr⟩, Hrd, Hs0, Hs1⟩
  isplitl [Hst]; · iexact Hst
  isplitl [Hwt]; · iexact Hwt
  isplitl [Hps Hpr]
  · iapply (pos_start xs ws κ η c i); isplitr; · iexact HC
    isplitl [Hps] <;> iassumption
  isplitl [Hrd]
  · iapply (read_start c i); isplitr; · iexact HE
    iexact Hrd
  isplitl [Hs0 Hs1]
  · isplitl [Hs0] <;> iassumption
  isplitr; · iempintro
  isplitl [Hcr]
  · iexists (∅ : Finset ℕ)
    isplitr; · ipureintro; exact Finset.empty_subset _
    isplitl [Hcr]; · iexact Hcr
    rw [bigSep_empty]; iempintro
  isplitr; · unfold Heard; iempintro
  iapply (freed_start xs ws κ η (down i c) i); isplitr; · iexact HC
  iapply hd; isplitr <;> iassumption

/-! ## The exit -/

theorem close (g : GSem nD τ sig) (hg : g ∈ cells) {R : ℕ} (hR : ∀ r, R ≤ r → (Rd (F := F) xs ws).duties g r = ∅) :
    iprop(Ctx xs ws κ η ∗ atPos ER g R ∅ 0) ⊢ (|={Set.univ}=> semVal g 0 : sProp 𝕄) := by
  iintro ⟨HC, Hp⟩
  ihave H := (ctx_cell xs ws κ η hg) $$ HC
  icases H with ⟨HI, -⟩
  iapply (Rounds.cell_close ER (Rd xs ws) (Set.mem_univ (κ g)) (fun h => h) hR)
  isplitl [HI] <;> iassumption
/-- A family of cells closed together. -/
theorem close_all {I : Type} [DecidableEq I] (S : Finset I) (g : I → GSem nD τ sig) (hg : ∀ i, g i ∈ cells) (R : I → ℕ)
    (hR : ∀ i ∈ S, ∀ r, R i ≤ r → (Rd (F := F) xs ws).duties (g i) r = ∅) :
    iprop(Ctx xs ws κ η ∗ bigSep S fun i => atPos ER (g i) (R i) ∅ 0) ⊢ (|={Set.univ}=> bigSep S fun i => semVal (g i) 0 : sProp 𝕄) :=
  (bigSep_with_persistent fun i hi => close xs ws κ η (g i) (hg i) (hR i hi)).trans (bigSep_fupd _ _)

/-- Every semaphore of device `c` at zero. -/
def Closed (c : Dev nD) : sProp 𝕄 :=
  iprop((sb fun i b => semVal (sendC c i b) 0) ∗ (sb fun i b => semVal (recvC c i b) 0) ∗ (bigSep Finset.univ fun k : Fin 31 => semVal (asendC c k) 0)
    ∗ (bigSep Finset.univ fun s : Dev nD => semVal (arecvC c s) 0) ∗ (bigSep Finset.univ fun i : Fin 4 => semVal (credC c i) 0) ∗ semVal (barC c) 0)

theorem last_cnt (b : Fin 2) (r : ℕ) (h : cnt b.val 31 ≤ r) : ¬ 2 * r + b.val ≤ 30 := by unfold cnt at h; have := b.isLt; omega

theorem close_stream (c : Dev nD) (i : Fin 4) :
    iprop(Ctx xs ws κ η ∗ Pos c i 31 ∗ atPos ER (credC c i) 1 ∅ 0)
      ⊢ (|={Set.univ}=> (((semVal (sendC c i 0) 0 ∗ semVal (sendC c i 1) 0) ∗ (semVal (recvC c i 0) 0 ∗ semVal (recvC c i 1) 0)) ∗ semVal (credC c i) 0) : sProp 𝕄) := by
  unfold Pos PosB
  iintro ⟨#HC, ⟨⟨⟨Hs0, Hr0⟩, -⟩, ⟨Hs1, Hr1⟩, -⟩, Hc⟩
  imod (close xs ws κ η (sendC c i 0) (sendC_mem c i 0) fun r h => by rw [duties_send, if_neg (last_cnt 0 r h)]) $$ [Hs0] with Hs0
  · isplitr <;> iassumption
  imod (close xs ws κ η (sendC c i 1) (sendC_mem c i 1) fun r h => by rw [duties_send, if_neg (last_cnt 1 r h)]) $$ [Hs1] with Hs1
  · isplitr <;> iassumption
  imod (close xs ws κ η (recvC c i 0) (recvC_mem c i 0) fun r h => by rw [duties_recv, if_neg (last_cnt 0 r h)]) $$ [Hr0] with Hr0
  · isplitr <;> iassumption
  imod (close xs ws κ η (recvC c i 1) (recvC_mem c i 1) fun r h => by rw [duties_recv, if_neg (last_cnt 1 r h)]) $$ [Hr1] with Hr1
  · isplitr <;> iassumption
  imod (close xs ws κ η (credC c i) (credC_mem c i) (R := 1) fun r h => by rw [duties_cred, if_neg (show ¬ r = 0 by omega)]) $$ [Hc] with Hc
  · isplitr <;> iassumption
  imodintro
  isplitr [Hc]
  · isplitl [Hs0 Hs1]
    · isplitl [Hs0] <;> iassumption
    isplitl [Hr0] <;> iassumption
  iexact Hc

theorem close_am (c : Dev nD) :
    iprop(Ctx xs ws κ η ∗ AmEnd c ∗ atPos ER (arecvC c c) 0 ∅ 0 ∗ atPos ER (barC c) 1 ∅ 0)
      ⊢ (|={Set.univ}=> ((bigSep Finset.univ fun k : Fin 31 => semVal (asendC c k) 0) ∗ (bigSep Finset.univ fun s : Dev nD => semVal (arecvC c s) 0)
        ∗ semVal (barC c) 0) : sProp 𝕄) := by
  rw [bigSep_nth, bigSep_others c]
  unfold AmEnd
  iintro ⟨#HC, ⟨Ha, Hr⟩, Ho, Hb⟩
  imod (close_all xs ws κ η (Finset.Ico 0 31) (fun k => asendC c (nth k)) (fun k => asendC_mem c _) (fun _ => 1)
    fun k _ r h => by rw [duties_asend, if_neg (by omega)]) $$ [Ha] with Ha
  · isplitr <;> iassumption
  imod (close_all xs ws κ η (Finset.Ico 0 31) (fun k => arecvC c (amaxDst k c)) (fun k => arecvC_mem c _) (fun _ => 1)
    fun k _ r h => by rw [duties_arecv, if_neg (by omega)]) $$ [Hr] with Hr
  · isplitr <;> iassumption
  imod (close xs ws κ η (arecvC c c) (arecvC_mem c c) fun r h => by rw [duties_arecv, if_neg fun h => h.2 rfl]) $$ [Ho] with Ho
  · isplitr <;> iassumption
  imod (close xs ws κ η (barC c) (barC_mem c) (R := 1) fun r h => by rw [duties_bar, if_neg (show ¬ r = 0 by omega)]) $$ [Hb] with Hb
  · isplitr <;> iassumption
  imodintro
  isplitl [Ha]; · iexact Ha
  isplitr [Hb]
  · isplitl [Ho] <;> iassumption
  iexact Hb

/-- What a stream ends with: its slots, its semaphores closed, and who has entered. -/
theorem stream_end (c : Dev nD) (i : Fin 4) :
    iprop(Ctx xs ws κ η ∗ Fin' c i)
      ⊢ (|={Set.univ}=> (held c (sM i) ∗ held c (rM i) ∗ (bigSep Finset.univ fun b : Fin 2 => semVal (sendC c i b) 0)
        ∗ (bigSep Finset.univ fun b : Fin 2 => semVal (recvC c i b) 0) ∗ semVal (credC c i) 0) : sProp 𝕄) := by
  rw [show (bigSep Finset.univ fun b : Fin 2 => (semVal (sendC c i b) 0 : sProp 𝕄)) = iprop(semVal (sendC c i 0) 0 ∗ semVal (sendC c i 1) 0) from BI.bigSep_fin_two _,
    show (bigSep Finset.univ fun b : Fin 2 => (semVal (recvC c i b) 0 : sProp 𝕄)) = iprop(semVal (recvC c i 0) 0 ∗ semVal (recvC c i 1) 0) from BI.bigSep_fin_two _]
  unfold Fin'
  iintro ⟨#HC, Hs, Hr, Hp, -, Hc, -⟩
  imod (close_stream xs ws κ η c i) $$ [Hp Hc] with ⟨⟨Hvs, Hvr⟩, Hvc⟩
  · isplitr; · iexact HC
    isplitl [Hp] <;> iassumption
  imodintro
  isplitl [Hs]; · iapply (slots_to c (sM i) (sM_set i)); iexact Hs
  isplitl [Hr]; · iapply (slots_to c (rM i) (rM_set i)); iexact Hr
  isplitl [Hvs]; · iexact Hvs
  isplitl [Hvr] <;> iassumption

/-! ## The body -/

/-- What device `c` starts with, beside its buffers. -/
def Start (c : Dev nD) : sProp 𝕄 :=
  iprop((bigSep Finset.univ fun i : Fin 4 => Str c i) ∗ (sb fun i b => readerAt ES (recvC c i b) 0)
    ∗ (bigSep Finset.univ fun src : Dev nD => readerAt ES (arecvC c src) 0) ∗ AmStart c ∗ atPos ER (arecvC c c) 0 ∅ 0
    ∗ atPos ER (barC c) 0 ∅ 0 ∗ dutyTok ER (barC (fwd 31 c)) 0 0 ∗ dutyTok ER (barC (fwd 1 c)) 0 1 ∗ cred (tallyAt (barC c) 0 2))

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rest_bar (c : Dev nD) : bigSep ((Rd (F := F) xs ws).duties (barC c) 0 \ ∅) (fun d => (Rd xs ws).payload (barC c) 0 d)
    = iprop(Entered (fwd 1 c) ∗ Entered (fwd 31 c)) := by
  rw [Finset.sdiff_empty, duties_bar, if_pos rfl, BI.bigSep_insert (by decide), bigSep_singleton, payload_bar, payload_bar, if_pos rfl, if_neg (by decide)]
  rfl

theorem dev_before (c : Dev nD) : dev 0 c = fwd 31 c := dev_eq (by decide) c
theorem dev_after (c : Dev nD) : dev 1 c = fwd 1 c := dev_eq (by decide) c

theorem all_slots (c : Dev nD) (M : Fin 4 → Memref sig .tc .vmem S2x128x512 .f32) (hM : ∀ i, (M i).view.set = Finset.univ) :
    (bigSep Finset.univ fun i : Fin 4 => held (F := F) c (M i)) ⊢ sb fun i b => slotsAt c (M i) b := by
  rw [sb_two]
  exact bigSep_mono fun i _ => slots_of c (M i) (hM i)

/-- Device `c` tells both neighbours that it has entered and waits for both. -/
theorem wp_enter (c : Dev nD) (K : P F) (Q : PUnit → sProp 𝕄) :
    iprop(Ctx xs ws κ η ∗ Entered c ∗ atPos ER (barC c) 0 ∅ 0 ∗ dutyTok ER (barC (fwd 31 c)) 0 0 ∗ dutyTok ER (barC (fwd 1 c)) 0 1
        ∗ cred (tallyAt (barC c) 0 2) ∗ owesAny c (O₀ c))
      ⊢ iprop(((atPos ER (barC c) 1 ∅ 0 ∗ Entered (fwd 1 c) ∗ Entered (fwd 31 c) ∗ owesAny c (owedFrom c 124)) -∗ wpc c K Q)
        -∗ wpc c (.op (.semSignal (dev 0 c, .tc) barS (1#32 : BitVec 32).toInt) fun _ =>
          .op (.semSignal (dev 1 c, .tc) barS (1#32 : BitVec 32).toInt) fun _ => .op (.semWait barS (2#32 : BitVec 32).toInt) fun _ => K) Q) := by
  rw [dev_before, dev_after]
  iintro ⟨#HC, #HE, Hp, Ht0, Ht1, Hc, ⟨%W, HO⟩⟩ Hk
  ihave HI := (ctx_cell xs ws κ η (barC_mem (fwd 31 c))) $$ HC
  icases HI with ⟨HI, Hr⟩
  iapply (Rounds.wp_signal 𝒱₀ ER (Rd xs ws) (c : Thread nD τ) none (dst := (fwd 31 c : Thread nD τ)) (κ := κ (barC (fwd 31 c))) (k' := 1) (r := 0) (d := 0)
    (by rw [duties_bar, if_pos rfl]; decide) (amount_bar xs ws (fwd 31 c) 0 0) 0 (owedFrom c 124 + tallyAt (barC (fwd 1 c)) 0 1) rfl) $$ [HO Ht0 HI Hr]
  · isplitl [HI]; · iexact HI
    isplitl [HO]; · iexact HO
    isplitl [Ht0]; · iexact Ht0
    isplitr
    · rw [payload_bar, if_pos rfl, fwd_back]; iexact HE
    iexact Hr
  iintro HO
  ihave HI := (ctx_cell xs ws κ η (barC_mem (fwd 1 c))) $$ HC
  icases HI with ⟨HI, Hr⟩
  iapply (Rounds.wp_signal 𝒱₀ ER (Rd xs ws) (c : Thread nD τ) none (dst := (fwd 1 c : Thread nD τ)) (κ := κ (barC (fwd 1 c))) (k' := 1) (r := 0) (d := 1)
    (by rw [duties_bar, if_pos rfl]; decide) (amount_bar xs ws (fwd 1 c) 0 1) 0 (owedFrom c 124) rfl) $$ [HO Ht1 HI Hr]
  · isplitl [HI]; · iexact HI
    isplitl [HO]; · iexact HO
    isplitl [Ht1]; · iexact Ht1
    isplitr
    · rw [payload_bar, if_neg (by decide), fwd_forth]; iexact HE
    iexact Hr
  iintro HO
  ihave HI := (ctx_cell xs ws κ η (barC_mem c)) $$ HC
  icases HI with ⟨HI, -⟩
  iapply (Rounds.wp_wait_rest_token (k' := 2) 𝒱₀ ER (Rd xs ws) (c : Thread nD τ) none (κ := κ (barC c))
      (wpE_semWait_eq 𝒱₀ (c : Thread nD τ) none Set.univ) (Set.mem_univ _) 0 (O := owedFrom c 124) (W := W) (R := 0) (m := 0) (T := ∅)
      (by rw [expect_bar])) $$ [Hc HO Hp HI]
  · isplitl [HI]; · iexact HI
    isplitl [Hc]; · iexact Hc
    isplitl [HO]; · iexact HO
    isplitr; · iapply (ctx_wait xs ws κ η (above_from c 124 le_rfl) (by decide) (by rw [lv_bar]; decide)); iexact HC
    iexact Hp
  iintro ⟨HO, Hp, -, Hpay⟩
  ihave Hpay := (Entails.of_eq (rest_bar xs ws c)) $$ Hpay
  icases Hpay with ⟨H1, H31⟩
  iapply Hk
  isplitl [Hp]; · iexact Hp
  isplitl [H1]; · iexact H1
  isplitl [H31]; · iexact H31
  iexists _; iexact HO

theorem fin_heard (c : Dev nD) : Fin' (F := F) c 0 ⊢ iprop(Fin' c 0 ∗ Heard 0 (up 0 c) 31) := by
  unfold Fin'
  iintro ⟨Hs, Hr, Hp, Hd, Hc, #Hh⟩
  isplitl
  · isplitl [Hs]; · iexact Hs
    isplitl [Hr]; · iexact Hr
    isplitl [Hp]; · iexact Hp
    isplitl [Hd]; · iexact Hd
    isplitl [Hc]; · iexact Hc
    iexact Hh
  iexact Hh

/-- The rounds' results, stream by stream. -/
theorem wp_lastParts (c : Dev nD) (Q : PUnit → sProp 𝕄) :
    iprop(Ctx xs ws κ η ∗ xPts xs c ∗ wPts ws c ∗ (bigSep Finset.univ fun i : Fin 4 => St c i 31) ∗ owesAny c (owedAmax c 31))
      ⊢ iprop(((xPts xs c ∗ wPts ws c ∗ (bigSep Finset.univ fun i : Fin 4 => Fin' c i) ∗ owesAny c (owedAmax c 31)) -∗ wpc c (epilogue c (yv xs ws c)) Q)
        -∗ wpc c (lastPart c 0 fun p0 => lastPart c 1 fun p1 => lastPart c 2 fun p2 => lastPart c 3 fun p3 => epilogue c (yOf p0 p1 p2 p3)) Q) := by
  rw [four, four, show yv xs ws c = yOf (part xs ws 0 c) (part xs ws 1 c) (part xs ws 2 c) (part xs ws 3 c) by unfold yv; rfl]
  iintro ⟨#HC, Hx, Hw, ⟨H0, H1, H2, H3⟩, HO⟩ Hk
  iapply (wp_lastPart xs ws κ η c 0) $$ [Hx Hw H0 HO]
  · isplitr; · iexact HC
    isplitl [Hx]; · iexact Hx
    isplitl [Hw]; · iexact Hw
    isplitl [H0] <;> iassumption
  iintro ⟨Hx, Hw, H0, HO⟩
  iapply (wp_lastPart xs ws κ η c 1) $$ [Hx Hw H1 HO]
  · isplitr; · iexact HC
    isplitl [Hx]; · iexact Hx
    isplitl [Hw]; · iexact Hw
    isplitl [H1] <;> iassumption
  iintro ⟨Hx, Hw, H1, HO⟩
  iapply (wp_lastPart xs ws κ η c 2) $$ [Hx Hw H2 HO]
  · isplitr; · iexact HC
    isplitl [Hx]; · iexact Hx
    isplitl [Hw]; · iexact Hw
    isplitl [H2] <;> iassumption
  iintro ⟨Hx, Hw, H2, HO⟩
  iapply (wp_lastPart xs ws κ η c 3) $$ [Hx Hw H3 HO]
  · isplitr; · iexact HC
    isplitl [Hx]; · iexact Hx
    isplitl [Hw]; · iexact Hw
    isplitl [H3] <;> iassumption
  iintro ⟨Hx, Hw, H3, HO⟩
  iapply Hk
  isplitl [Hx]; · iexact Hx
  isplitl [Hw]; · iexact Hw
  isplitr [HO]
  · isplitl [H0]; · iexact H0
    isplitl [H1]; · iexact H1
    isplitl [H2] <;> iassumption
  iexact HO

/-- All streams ended and all semaphores closed. -/
theorem ends (c : Dev nD) :
    iprop(Ctx xs ws κ η ∗ (bigSep Finset.univ fun i : Fin 4 => Fin' c i) ∗ AmEnd c ∗ atPos ER (arecvC c c) 0 ∅ 0 ∗ atPos ER (barC c) 1 ∅ 0)
      ⊢ (|={Set.univ}=> ((bigSep Finset.univ fun i : Fin 4 => held c (sM i)) ∗ (bigSep Finset.univ fun i : Fin 4 => held c (rM i)) ∗ Closed c) : sProp 𝕄) := by
  have h : iprop(Ctx (F := F) xs ws κ η ∗ bigSep Finset.univ fun i : Fin 4 => Fin' c i) ⊢ _ :=
    (bigSep_with_persistent fun i _ => stream_end xs ws κ η c i).trans (bigSep_fupd _ _)
  rw [bigSep_sep', bigSep_sep', bigSep_sep', bigSep_sep'] at h
  unfold Closed
  iintro ⟨#HC, Hf, Ha, Hr, Hb⟩
  imod h $$ [Hf] with ⟨Hs, Hm, Hvs, Hvr, Hvc⟩
  · isplitr <;> iassumption
  imod (close_am xs ws κ η c) $$ [Ha Hr Hb] with ⟨Hva, Hvm, Hvb⟩
  · isplitr; · iexact HC
    isplitl [Ha]; · iexact Ha
    isplitl [Hr] <;> iassumption
  imodintro
  isplitl [Hs]; · iexact Hs
  isplitl [Hm]; · iexact Hm
  isplitl [Hvs]; · iexact Hvs
  isplitl [Hvr]; · iexact Hvr
  isplitl [Hva]; · iexact Hva
  isplitl [Hvm]; · iexact Hvm
  isplitl [Hvc] <;> iassumption

theorem wp_body (c : Dev nD) (Q : PUnit → sProp 𝕄) :
    iprop(Ctx xs ws κ η ∗ Start c ∗ xPts xs c ∗ wPts ws c ∗ held c oM ∗ Bufs c ∗ owesAny c (O₀ c))
      ⊢ iprop(((xPts xs c ∗ wPts ws c ∗ oPts c (outv xs ws c) ∗ Bufs c ∗ Closed c ∗ owesAny c 0) -∗ Q ⟨⟩) -∗ wpc c (bodyP (F := F)) Q) := by
  have hst : iprop((Ctx (F := F) xs ws κ η ∗ Entered c ∗ Entered (fwd 1 c) ∗ Entered (fwd 31 c)) ∗ bigSep Finset.univ fun i : Fin 4 =>
      iprop(Str c i ∗ (bigSep Finset.univ fun b : Fin 2 => readerAt ES (recvC c i b) 1) ∗ sendSlot c i 0 ∗ sendSlot c i 1))
      ⊢ bigSep Finset.univ fun i : Fin 4 => St c i 0 := bigSep_with_persistent fun i _ => stream_start xs ws κ η c i
  rw [bigSep_sep', bigSep_sep', ← sb_two fun i b => sendSlot c i b] at hst
  have hdone : (bigSep Finset.univ fun i : Fin 4 => St (F := F) c i 0) = bigSep Finset.univ fun i : Fin 4 => St c i (done (124 - 124) i) :=
    bigSep_congr fun i _ => by rw [show done (124 - 124) i = 0 by revert i; decide]
  unfold bodyP Start Bufs
  unfold wpc
  rw [wp_deviceId]
  iintro ⟨#HC, ⟨Hstr, Hrd, Hra, Ham, Hpo, Hpb, Ht0, Ht1, Hcb⟩, Hx, Hw, ⟨%o₀, Ho⟩, ⟨HsM, HrM, ⟨%a₀, Ha⟩, HgM⟩, HO⟩ Hk
  ihave HsM := (all_slots c sM sM_set) $$ HsM
  ihave HrM := (all_slots c rM rM_set) $$ HrM
  ihave HgM := (rows_of c) $$ HgM
  imod (enter xs ws κ η c) $$ [Hrd Hra HrM HgM] with ⟨Hrd, #HE⟩
  · isplitr; · iexact HC
    isplitl [Hrd]; · iexact Hrd
    isplitl [Hra]; · iexact Hra
    isplitl [HrM] <;> iassumption
  iapply (wp_enter xs ws κ η c) $$ [Hpb Ht0 Ht1 Hcb HO]
  · isplitr; · iexact HC
    isplitr; · iexact HE
    isplitl [Hpb]; · iexact Hpb
    isplitl [Ht0]; · iexact Ht0
    isplitl [Ht1]; · iexact Ht1
    isplitl [Hcb] <;> iassumption
  iintro ⟨Hpb, #HE1, #HE31, HO⟩
  ihave Hst := hst $$ [Hstr Hrd HsM]
  · isplitr
    · isplitr; · iexact HC
      isplitr; · iexact HE
      isplitr <;> iassumption
    isplitl [Hstr]; · iexact Hstr
    isplitl [Hrd] <;> iassumption
  ihave Hst := (Entails.of_eq hdone) $$ Hst
  iapply (wp_rounds xs ws κ η c _ _ 124 le_rfl) $$ [Hx Hw Hst HO]
  · isplitr; · iexact HC
    isplitr; · iexact HE
    isplitl [Hx]; · iexact Hx
    isplitl [Hw]; · iexact Hw
    isplitl [Hst] <;> iassumption
  iintro ⟨Hx, Hw, Hst, HO⟩
  iapply (wp_lastParts xs ws κ η c) $$ [Hx Hw Hst HO]
  · isplitr; · iexact HC
    isplitl [Hx]; · iexact Hx
    isplitl [Hw]; · iexact Hw
    isplitl [Hst] <;> iassumption
  iintro ⟨Hx, Hw, Hf, HO⟩
  ihave Hf := (show (bigSep Finset.univ fun i : Fin 4 => Fin' (F := F) c i) ⊢ iprop((bigSep Finset.univ fun i : Fin 4 => Fin' c i) ∗ Heard 0 (up 0 c) 31) from by
    rw [four]
    iintro ⟨H0, H1, H2, H3⟩
    ihave H0 := (fin_heard c) $$ H0
    icases H0 with ⟨H0, Hh⟩
    isplitr [Hh]
    · isplitl [H0]; · iexact H0
      isplitl [H1]; · iexact H1
      isplitl [H2] <;> iassumption
    iexact Hh) $$ Hf
  icases Hf with ⟨Hf, #Hh⟩
  iapply (wp_epilogue xs ws κ η c a₀ o₀) $$ [Ha Ho Ham HO]
  · isplitr; · iexact HC
    isplitr; · iexact HE
    isplitr; · iexact Hh
    isplitl [Ha]; · iexact Ha
    isplitl [Ho]; · iexact Ho
    isplitl [Ham] <;> iassumption
  iintro ⟨Ha, Ho, Hg, Hae, HO⟩
  imod (ends xs ws κ η c) $$ [Hf Hae Hpo Hpb] with ⟨HsM, HrM, Hcl⟩
  · isplitr; · iexact HC
    isplitl [Hf]; · iexact Hf
    isplitl [Hae]; · iexact Hae
    isplitl [Hpo] <;> iassumption
  imodintro
  iapply Hk
  isplitl [Hx]; · iexact Hx
  isplitl [Hw]; · iexact Hw
  isplitl [Ho]; · iexact Ho
  isplitl [HsM HrM Ha Hg]
  · isplitl [HsM]; · iexact HsM
    isplitl [HrM]; · iexact HrM
    isplitl [Ha]
    · iexists (tile xs ws c); iexact Ha
    iexists (tiles xs ws); iexact Hg
  isplitl [Hcl] <;> iassumption

end Body

end Cert.Gemm
-- ==== Proof.Tokens.lean ====
/-
What the launch deals out: every semaphore's place, the duty tokens and write tokens by the device that pays with them, and the
credits of what the devices owe each other.
-/
module

public import proofs.«01_k».proof.Proof.Body

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok)

variable {F : FTy → Type} [FloatOps F]

local notation "𝕄" => MT nD τ sig ℕ (Elt F) ℕ UU ℕ

/-! ## The semaphores, family by family -/

abbrev AIx : Type := (Fin 4 × Fin 2) ⊕ ((Fin 4 × Fin 2) ⊕ (Fin 31 ⊕ (Fin 32 ⊕ Fin 4)))
def aIx : AIx → Fin 83
  | .inl x => ⟨2 * x.1.val + x.2.val, by omega⟩
  | .inr (.inl x) => ⟨8 + 2 * x.1.val + x.2.val, by omega⟩
  | .inr (.inr (.inl k)) => ⟨16 + k.val, by omega⟩
  | .inr (.inr (.inr (.inl s))) => ⟨47 + s.val, by omega⟩
  | .inr (.inr (.inr (.inr i))) => ⟨79 + i.val, by omega⟩
theorem aIx_inj : Function.Injective aIx := by
  rintro (⟨i, b⟩ | ⟨i, b⟩ | k | s | i) (⟨i', b'⟩ | ⟨i', b'⟩ | k' | s' | i') h <;> have h := congrArg Fin.val h <;> simp only [aIx] at h <;>
    first
    | omega
    | (have h1 : i = i' := by omega
       have h2 : b = b' := by omega
       rw [h1, h2])
    | (have h1 : k = k' := by omega
       rw [h1])
    | (have h1 : s = s' := by omega
       rw [h1])
    | (have h1 : i = i' := by omega
       rw [h1])
def aEquiv : AIx ≃ Fin 83 :=
  Equiv.ofBijective aIx ((Fintype.bijective_iff_injective_and_card aIx).mpr ⟨aIx_inj, by decide⟩)

/-- The own semaphores of the kernel. -/
def osem (k : Fin 83) : SemLoc sig := semIx k.castSucc

theorem osem_send : ∀ i b, osem (aIx (.inl (i, b))) = .dma (sendS i b) := by decide
theorem osem_recv : ∀ i b, osem (aIx (.inr (.inl (i, b)))) = .dma (recvS i b) := by decide
theorem osem_asend : ∀ k, osem (aIx (.inr (.inr (.inl k)))) = .dma (asendS k) := by decide
theorem osem_arecv : ∀ s : Dev nD, osem (aIx (.inr (.inr (.inr (.inl s))))) = .dma (arecvS s) := by decide
theorem osem_cred : ∀ i, osem (aIx (.inr (.inr (.inr (.inr i))))) = .reg (credS i) := by decide

/-- The own semaphores' share of a family over the semaphores. -/
def Fam (Ψ : SemLoc sig → sProp 𝕄) : sProp 𝕄 :=
  iprop((sb fun i b => Ψ (.dma (sendS i b))) ∗ (sb fun i b => Ψ (.dma (recvS i b))) ∗ (bigSep Finset.univ fun k : Fin 31 => Ψ (.dma (asendS k)))
    ∗ (bigSep Finset.univ fun s : Dev nD => Ψ (.dma (arecvS s))) ∗ (bigSep Finset.univ fun i : Fin 4 => Ψ (.reg (credS i))))

theorem fam_own (Ψ : SemLoc sig → sProp 𝕄) : (bigSep Finset.univ fun k : Fin 83 => Ψ (osem k)) = Fam Ψ := by
  rw [bigSep_univ_equiv aEquiv (fun k => Ψ (osem k)), BI.bigSep_univ_sum, BI.bigSep_univ_sum, BI.bigSep_univ_sum, BI.bigSep_univ_sum,
    BI.bigSep_univ_prod, BI.bigSep_univ_prod]
  unfold Fam sb
  have h1 : ∀ i b, Ψ (osem (aEquiv (.inl (i, b)))) = Ψ (.dma (sendS i b)) := fun i b => congrArg Ψ (osem_send i b)
  have h2 : ∀ i b, Ψ (osem (aEquiv (.inr (.inl (i, b))))) = Ψ (.dma (recvS i b)) := fun i b => congrArg Ψ (osem_recv i b)
  have h3 : ∀ k, Ψ (osem (aEquiv (.inr (.inr (.inl k))))) = Ψ (.dma (asendS k)) := fun k => congrArg Ψ (osem_asend k)
  have h4 : ∀ s : Dev nD, Ψ (osem (aEquiv (.inr (.inr (.inr (.inl s)))))) = Ψ (.dma (arecvS s)) := fun s => congrArg Ψ (osem_arecv s)
  have h5 : ∀ i, Ψ (osem (aEquiv (.inr (.inr (.inr (.inr i)))))) = Ψ (.reg (credS i)) := fun i => congrArg Ψ (osem_cred i)
  simp only [h1, h2, h3, h5]
  rw [show (bigSep Finset.univ fun b : Fin 32 => Ψ (osem (aEquiv (.inr (.inr (.inr (.inl b))))))) = bigSep Finset.univ fun s : Dev nD => Ψ (.dma (arecvS s))
    from bigSep_congr fun s _ => h4 s]
  rfl

theorem fam_cells (Φ : GSem nD τ sig → sProp 𝕄) : bigSep cells Φ
    = bigSep Finset.univ fun c : Dev nD => iprop(Fam (fun sm => Φ ((c : Thread nD τ), sm)) ∗ Φ (barC c)) := by
  unfold cells
  rw [BI.bigSep_map, BI.bigSep_univ_prod]
  refine bigSep_congr fun c _ => ?_
  rw [bigSep_univ_equiv (finSumFinEquiv : Fin 83 ⊕ Fin 1 ≃ Fin 84), BI.bigSep_univ_sum, ← fam_own]
  rw [bigSep_univ_eq_bigSepL [(0 : Fin 1)] (by decide) (by decide)]
  rfl

abbrev KIx : Type := (Fin 4 × Fin 2) ⊕ Fin 32
def kIx : KIx → Fin 40
  | .inl x => ⟨2 * x.1.val + x.2.val, by omega⟩
  | .inr s => ⟨8 + s.val, by omega⟩
theorem kIx_inj : Function.Injective kIx := by
  rintro (⟨i, b⟩ | s) (⟨i', b'⟩ | s') h <;> have h := congrArg Fin.val h <;> simp only [kIx] at h <;>
    first
    | omega
    | (have h1 : i = i' := by omega
       have h2 : b = b' := by omega
       rw [h1, h2])
    | (have h1 : s = s' := by omega
       rw [h1])
def kEquiv : KIx ≃ Fin 40 :=
  Equiv.ofBijective kIx ((Fintype.bijective_iff_injective_and_card kIx).mpr ⟨kIx_inj, by decide⟩)
theorem key_recv : ∀ i b, semIx' (kIx (.inl (i, b))) = .dma (recvS i b) := by decide
theorem key_arecv : ∀ s : Dev nD, semIx' (kIx (.inr s)) = .dma (arecvS s) := by decide

theorem fam_keys (Φ : GSem nD τ sig → sProp 𝕄) : bigSep keys Φ
    = bigSep Finset.univ fun c : Dev nD => iprop((sb fun i b => Φ (recvC c i b)) ∗ bigSep Finset.univ fun s : Dev nD => Φ (arecvC c s)) := by
  unfold keys
  rw [BI.bigSep_map, BI.bigSep_univ_prod]
  refine bigSep_congr fun c _ => ?_
  rw [bigSep_univ_equiv kEquiv, BI.bigSep_univ_sum, BI.bigSep_univ_prod]
  have h1 : ∀ i b, Φ (kkey (c, kEquiv (.inl (i, b)))) = Φ (recvC c i b) := fun i b => congrArg (fun sm => Φ ((c : Thread nD τ), sm)) (key_recv i b)
  have h2 : ∀ s : Dev nD, Φ (kkey (c, kEquiv (.inr s))) = Φ (arecvC c s) := fun s => congrArg (fun sm => Φ ((c : Thread nD τ), sm)) (key_arecv s)
  have e1 : (bigSep Finset.univ fun b : Fin 32 => Φ (kkey (c, kEquiv (.inr b)))) = bigSep Finset.univ fun s : Dev nD => Φ (arecvC c s) := bigSep_congr fun s _ => h2 s
  have e2 : (bigSep Finset.univ fun i : Fin 4 => bigSep Finset.univ fun b : Fin 2 => Φ (kkey (c, kEquiv (.inl (i, b))))) = sb fun i b => Φ (recvC c i b) :=
    bigSep_congr fun i _ => bigSep_congr fun b _ => h1 i b
  exact congrArg₂ BIBase.sep e2 e1

/-! ## The tokens -/

/-- The duties that a device pays: three for every message, two for every copy of its maximum, and its two signals. -/
abbrev TIx : Type := ((Fin 4 × Fin 31) × Fin 3) ⊕ ((Fin 31 × Fin 2) ⊕ Fin 2)
def tokOf : Dev nD × TIx → GSem nD τ sig × ℕ × ℕ
  | (c, .inl ((i, s), 0)) => (sendC c i (slotOf s.val), s.val / 2, 0)
  | (c, .inl ((i, s), 1)) => (recvC (down i c) i (slotOf s.val), s.val / 2, 0)
  | (c, .inl ((i, s), 2)) => (credC (up i c) i, 0, s.val)
  | (c, .inr (.inl (k, 0))) => (asendC c k, 0, 0)
  | (c, .inr (.inl (k, 1))) => (arecvC (amaxDst k.val c) c, 0, 0)
  | (c, .inr (.inr 0)) => (barC (fwd 31 c), 0, 0)
  | (c, .inr (.inr 1)) => (barC (fwd 1 c), 0, 1)
/-- Who pays a duty, and which of its duties it is. -/
def payer (x : GSem nD τ sig × ℕ × ℕ) : Dev nD × TIx :=
  match roleOf x.1.2 with
  | .send i b => (x.1.1.1, .inl ((i, Fin.ofNat 31 (2 * x.2.1 + b.val)), 0))
  | .recv i b => (up i x.1.1.1, .inl ((i, Fin.ofNat 31 (2 * x.2.1 + b.val)), 1))
  | .cred i => (down i x.1.1.1, .inl ((i, Fin.ofNat 31 x.2.2), 2))
  | .asend k => (x.1.1.1, .inr (.inl (k, 0)))
  | .arecv src => (src, .inr (.inl (Fin.ofNat 31 ((x.1.1.1.val + 63 - src.val) % 32), 1)))
  | .bar => if x.2.2 = 0 then (fwd 1 x.1.1.1, .inr (.inr 0)) else (fwd 31 x.1.1.1, .inr (.inr 1))
  | .stage => (x.1.1.1, .inr (.inr 0))

theorem msg_ix (s : Fin 31) : Fin.ofNat 31 (2 * (s.val / 2) + (slotOf s.val).val) = s := Fin.ext (by
  have h := s.isLt
  show (2 * (s.val / 2) + s.val % 2) % 31 = s.val
  omega)
theorem fin_ix (s : Fin 31) : Fin.ofNat 31 s.val = s := Fin.ext (Nat.mod_eq_of_lt s.isLt)
theorem copy_ix (c : Dev nD) (k : Fin 31) : Fin.ofNat 31 (((amaxDst k.val c).val + 63 - c.val) % 32) = k := Fin.ext (by
  have h := k.isLt
  have hc : c.val < 32 := c.isLt
  show (((c.val + (1 + k.val)) % 32 + 63 - c.val) % 32) % 31 = k.val
  omega)

theorem payer_tok : Function.LeftInverse payer tokOf := by
  rintro ⟨c, ⟨⟨i, s⟩, j⟩ | ⟨k, j⟩ | j⟩
  · fin_cases j
    · show payer (sendC c i (slotOf s.val), s.val / 2, 0) = (c, .inl ((i, s), 0))
      dsimp only [payer]; rw [role_send]; dsimp only; rw [msg_ix]
    · show payer (recvC (down i c) i (slotOf s.val), s.val / 2, 0) = (c, .inl ((i, s), 1))
      dsimp only [payer]; rw [role_recv]; dsimp only; rw [msg_ix]
      exact congrArg (fun d => (d, _)) (up_down i c)
    · show payer (credC (up i c) i, 0, s.val) = (c, .inl ((i, s), 2))
      dsimp only [payer]; rw [role_cred]; dsimp only; rw [fin_ix]
      exact congrArg (fun d => (d, _)) (down_up i c)
  · fin_cases j
    · show payer (asendC c k, 0, 0) = (c, .inr (.inl (k, 0)))
      dsimp only [payer]; rw [role_asend]
    · show payer (arecvC (amaxDst k.val c) c, 0, 0) = (c, .inr (.inl (k, 1)))
      dsimp only [payer]; rw [role_arecv]
      exact congrArg (fun k => (c, (.inr (.inl (k, 1)) : TIx))) (copy_ix c k)
  · fin_cases j
    · show payer (barC (fwd 31 c), 0, 0) = (c, .inr (.inr 0))
      dsimp only [payer]; rw [role_bar]
      exact congrArg (fun d => (d, _)) (fwd_back c)
    · show payer (barC (fwd 1 c), 0, 1) = (c, .inr (.inr 1))
      dsimp only [payer]; rw [role_bar]
      exact congrArg (fun d => (d, _)) (fwd_forth c)

def toks : Finset (GSem nD τ sig × ℕ × ℕ) := Finset.univ.map ⟨tokOf, payer_tok.injective⟩

theorem nth_ico (Φ : Fin 31 → sProp 𝕄) (Ψ : ℕ → sProp 𝕄) (h : ∀ s : Fin 31, Φ s = Ψ s.val) :
    bigSep Finset.univ Φ = bigSep (Finset.Ico 0 31) Ψ := by
  rw [bigSep_nth]
  exact bigSep_congr fun s hs => by rw [h, nth_val (Finset.mem_Ico.mp hs).2]
theorem fin3 (Φ : Fin 3 → sProp 𝕄) : bigSep Finset.univ Φ = iprop(Φ 0 ∗ Φ 1 ∗ Φ 2) := bigSep_univ_eq_bigSepL [0, 1, 2] (by decide) (by decide) Φ
theorem fin2 (Φ : Fin 2 → sProp 𝕄) : bigSep Finset.univ Φ = iprop(Φ 0 ∗ Φ 1) := bigSep_univ_eq_bigSepL [0, 1] (by decide) (by decide) Φ

/-- The duty tokens of device `c`. -/
def Duties (c : Dev nD) : sProp 𝕄 :=
  iprop((bigSep Finset.univ fun i : Fin 4 => bigSep (Finset.Ico 0 31) fun s =>
      iprop(dutyTok ER (sendC c i (slotOf s)) (s / 2) 0 ∗ dutyTok ER (recvC (down i c) i (slotOf s)) (s / 2) 0 ∗ dutyTok ER (credC (up i c) i) 0 s))
    ∗ (bigSep (Finset.Ico 0 31) fun k => iprop(dutyTok ER (asendC c (nth k)) 0 0 ∗ dutyTok ER (arecvC (amaxDst k c) c) 0 0))
    ∗ dutyTok ER (barC (fwd 31 c)) 0 0 ∗ dutyTok ER (barC (fwd 1 c)) 0 1)

theorem toks_eq : bigSep toks (fun x => (dutyTok ER x.1 x.2.1 x.2.2 : sProp 𝕄)) = bigSep Finset.univ fun c : Dev nD => Duties c := by
  unfold toks
  rw [BI.bigSep_map, BI.bigSep_univ_prod]
  refine bigSep_congr fun c _ => ?_
  rw [BI.bigSep_univ_sum, BI.bigSep_univ_sum, BI.bigSep_univ_prod, BI.bigSep_univ_prod, BI.bigSep_univ_prod, fin2]
  unfold Duties
  refine congrArg₂ BIBase.sep ?_ (congrArg₂ BIBase.sep ?_ rfl)
  · exact bigSep_congr fun i _ => nth_ico _ _ fun s => fin3 _
  · exact nth_ico _ _ fun k => (fin2 _).trans (by rw [show nth k.val = k from fin_ix k]; rfl)

/-- The writes that a device makes into other devices' slots, and the one row it writes into its own table. -/
abbrev WIx : Type := (Fin 4 × Fin 31) ⊕ Fin 32
def wOf : Dev nD × WIx → GSem nD τ sig × ℕ
  | (c, .inl (i, s)) => (recvC (down i c) i (slotOf s.val), s.val / 2)
  | (c, .inr k) => (arecvC (amaxDst k.val c) c, 0)
def writer (x : GSem nD τ sig × ℕ) : Dev nD × WIx :=
  match roleOf x.1.2 with
  | .recv i b => (up i x.1.1.1, .inl (i, Fin.ofNat 31 (2 * x.2 + b.val)))
  | .arecv src => (src, .inr (Fin.ofNat 32 ((x.1.1.1.val + 31 - src.val) % 32)))
  | _ => (x.1.1.1, .inr 0)
theorem copy_ix' (c : Dev nD) (k : Fin 32) : Fin.ofNat 32 (((amaxDst k.val c).val + 31 - c.val) % 32) = k := Fin.ext (by
  have h := k.isLt
  have hc : c.val < 32 := c.isLt
  show (((c.val + (1 + k.val)) % 32 + 31 - c.val) % 32) % 32 = k.val
  omega)
theorem writer_tok : Function.LeftInverse writer wOf := by
  rintro ⟨c, ⟨i, s⟩ | k⟩
  · show writer (recvC (down i c) i (slotOf s.val), s.val / 2) = (c, .inl (i, s))
    dsimp only [writer]; rw [role_recv]; dsimp only; rw [msg_ix]
    exact congrArg (fun d => (d, _)) (up_down i c)
  · show writer (arecvC (amaxDst k.val c) c, 0) = (c, .inr k)
    dsimp only [writer]; rw [role_arecv]
    exact congrArg (fun k => (c, (.inr k : WIx))) (copy_ix' c k)
def wtoks : Finset (GSem nD τ sig × ℕ) := Finset.univ.map ⟨wOf, writer_tok.injective⟩
theorem wtoks_sub : wtoks ⊆ keys ×ˢ Finset.range 16 := fun x hx => by
  unfold wtoks at hx
  have hy := Finset.mem_map.mp hx
  cases hy with | intro y hy =>
  rw [← hy.2]
  obtain ⟨c, w⟩ := y
  rw [Finset.mem_product, Finset.mem_range]
  rcases w with ⟨i, s⟩ | k
  · exact ⟨recvC_key (down i c) i (slotOf s.val), show s.val / 2 < 16 by omega⟩
  · exact ⟨arecvC_key (amaxDst k.val c) c, Nat.succ_pos 15⟩

/-- The write tokens of device `c`. -/
def Writes (c : Dev nD) : sProp 𝕄 :=
  iprop((bigSep Finset.univ fun i : Fin 4 => bigSep (Finset.Ico 0 31) fun s => writeTok ES (recvC (down i c) i (slotOf s)) (s / 2 + 1))
    ∗ (bigSep (Finset.Ico 0 31) fun k => writeTok ES (arecvC (amaxDst k c) c) 1) ∗ writeTok ES (arecvC c c) 1)

theorem amaxDst_last (c : Dev nD) : amaxDst 31 c = c := Fin.ext (by
  have hc : c.val < 32 := c.isLt
  show (c.val + (1 + 31)) % 32 = c.val
  omega)

theorem wtoks_eq : bigSep wtoks (fun x => (writeTok ES x.1 (x.2 + 1) : sProp 𝕄)) = bigSep Finset.univ fun c : Dev nD => Writes c := by
  unfold wtoks
  rw [BI.bigSep_map, BI.bigSep_univ_prod]
  refine bigSep_congr fun c _ => ?_
  rw [BI.bigSep_univ_sum, BI.bigSep_univ_prod, bigSep_univ_equiv (finSumFinEquiv : Fin 31 ⊕ Fin 1 ≃ Fin 32), BI.bigSep_univ_sum,
    bigSep_univ_eq_bigSepL [(0 : Fin 1)] (by decide) (by decide)]
  unfold Writes
  refine congrArg₂ BIBase.sep ?_ (congrArg₂ BIBase.sep ?_ ?_)
  · exact bigSep_congr fun i _ => nth_ico _ _ fun s => rfl
  · exact nth_ico _ _ fun k => rfl
  · show (writeTok ES (arecvC (amaxDst 31 c) c) 1 : sProp 𝕄) = _
    rw [amaxDst_last]

/-! ## The credits -/

/-- All the copies of the maximum, -/
theorem owedAmax_sum (c : Dev nD) : owedAmax c 31 = ∑ k ∈ Finset.range 31, (tallyAt (arecvC (amaxDst k c) c) 0 Na : Tallies) := by
  have h (n : ℕ) : owedAmax c n = ∑ j ∈ Finset.range n, (tallyAt (arecvC (amaxDst (30 - j) c) c) 0 Na : Tallies) := by
    induction n with
    | zero => rfl
    | succ n ih => rw [Finset.sum_range_succ, ← ih]; rfl
  rw [h]
  refine Finset.sum_nbij' (fun j => 30 - j) (fun j => 30 - j) ?_ ?_ ?_ ?_ fun j _ => rfl
  · exact fun j hj => Finset.mem_range.mpr (by omega)
  · exact fun j hj => Finset.mem_range.mpr (by omega)
  · exact fun j hj => by have := Finset.mem_range.mp hj; show 30 - (30 - j) = j; omega
  · exact fun j hj => by have := Finset.mem_range.mp hj; show 30 - (30 - j) = j; omega
/-- all that the steps owe, -/
theorem owedFrom_sum (c : Dev nD) : owedFrom c 124
    = owedAmax c 31 + ∑ i : Fin 4, ∑ s ∈ Finset.Ico 0 31, (msgTally s i c + credTally s i c) := by
  let T (t : ℕ) : Tallies := msgTally (sOf t).val (iOf t) c + credTally (sOf t).val (iOf t) c
  have h (n : ℕ) : owedFrom c n = owedAmax c 31 + ∑ j ∈ Finset.range n, T (123 - j) := by
    induction n with
    | zero => rw [Finset.range_zero, Finset.sum_empty, add_zero]; rfl
    | succ n ih => rw [Finset.sum_range_succ, ← add_assoc, ← ih]; exact add_assoc _ _ _
  rw [h, ← Finset.sum_product']
  refine congrArg _ ?_
  refine Finset.sum_nbij' (fun j => (iOf (123 - j), (123 - j) / 4)) (fun x => 123 - (4 * x.2 + x.1.val)) ?_ ?_ ?_ ?_ ?_
  · intro j hj
    have := Finset.mem_range.mp hj
    exact Finset.mem_product.mpr ⟨Finset.mem_univ _, Finset.mem_Ico.mpr ⟨Nat.zero_le _, by show (123 - j) / 4 < 31; omega⟩⟩
  · intro x hx
    exact Finset.mem_range.mpr (by omega)
  · intro j hj
    have := Finset.mem_range.mp hj
    show 123 - (4 * ((123 - j) / 4) + (123 - j) % 4) = j
    omega
  · rintro ⟨i, s⟩ hx
    have h1 := (Finset.mem_Ico.mp (Finset.mem_product.mp hx).2).2
    have h2 := i.isLt
    change s < 31 at h1
    refine Prod.ext (Fin.ext ?_) ?_
    · show (123 - (123 - (4 * s + i.val))) % 4 = i.val; omega
    · show (123 - (123 - (4 * s + i.val))) / 4 = s; omega
  · intro j hj
    have := Finset.mem_range.mp hj
    show T (123 - j) = msgTally ((123 - j) / 4) (iOf (123 - j)) c + credTally ((123 - j) / 4) (iOf (123 - j)) c
    have e : (sOf (123 - j)).val = (123 - j) / 4 := by show (123 - j) / 4 % 31 = _; omega
    show msgTally (sOf (123 - j)).val _ c + credTally (sOf (123 - j)).val _ c = _
    rw [e]

theorem creds_step (c : Dev nD) (i : Fin 4) (s : ℕ) :
    (Pipeline.launchCred (fun d => msgTally s i d + credTally s i d) c : sProp 𝕄) ⊢ WaitTok c i s := by
  rw [Pipeline.launchCred_add (fun d => msgTally s i d) (fun d => credTally s i d) c]
  have h1 : (Pipeline.launchCred (fun d => msgTally s i d) c : sProp 𝕄) ⊢ cred (tallyAt (recvC c i (slotOf s)) s N) :=
    Pipeline.launchCred_tallyAt (.dma (recvS i (slotOf s))) (down i) (up i) (down_up i) (up_down i) s N c
  have h2 : (Pipeline.launchCred (fun d => credTally s i d) c : sProp 𝕄) ⊢ if 1 ≤ s ∧ s ≤ 29 then cred (tallyAt (credC c i) s 1) else emp := by
    by_cases h : 1 ≤ s ∧ s ≤ 29
    · rw [if_pos h, show (fun d => credTally s i d) = fun d => tallyAt (credC (up i d) i) s 1 from funext fun d => by unfold credTally; rw [if_pos h]]
      exact Pipeline.launchCred_tallyAt (.reg (credS i)) (up i) (down i) (up_down i) (down_up i) s 1 c
    · rw [if_neg h, show (fun d => credTally s i d) = fun _ => 0 from funext fun d => by unfold credTally; rw [if_neg h], Pipeline.launchCred_zero]
  unfold WaitTok
  iintro ⟨H1, H2⟩
  isplitl [H1]
  · iapply h1; iexact H1
  iapply h2; iexact H2

theorem amax_back (c : Dev nD) {k : ℕ} (h : k < 31) : amaxDst (30 - k) (amaxDst k c) = c := Fin.ext (by
  have hc : c.val < 32 := c.isLt
  show ((c.val + (1 + k)) % 32 + (1 + (30 - k))) % 32 = c.val
  omega)
theorem creds_amax (c : Dev nD) : (Pipeline.launchCred (fun d => owedAmax d 31) c : sProp 𝕄)
    ⊢ bigSep (Finset.Ico 0 31) fun k => cred (tallyAt (arecvC c (amaxDst k c)) 0 Na) := by
  have e : (fun d : Dev nD => owedAmax d 31) = fun d => ∑ k ∈ Finset.range 31, (tallyAt (arecvC (amaxDst k d) d) 0 Na : Tallies) := funext owedAmax_sum
  rw [e, Pipeline.launchCred_of_sum _ (fun d => ∑ k ∈ Finset.range 31, (tallyAt (arecvC d (amaxDst k d)) 0 Na : Tallies)) ?_ ?_ c,
    Pipeline.cred_finsetSum, Finset.range_eq_Ico]
  · rw [← Finset.sum_product', ← Finset.sum_product']
    have hmem (x : Dev nD × ℕ) (hx : x ∈ (Finset.univ : Finset (Dev nD)) ×ˢ Finset.range 31) : x.2 < 31 := Finset.mem_range.mp (Finset.mem_product.mp hx).2
    refine Finset.sum_nbij' (fun x => (amaxDst x.2 x.1, 30 - x.2)) (fun x => (amaxDst x.2 x.1, 30 - x.2)) ?_ ?_ ?_ ?_ ?_
    · exact fun x hx => Finset.mem_product.mpr ⟨Finset.mem_univ _, Finset.mem_range.mpr (by show 30 - x.2 < 31; omega)⟩
    · exact fun x hx => Finset.mem_product.mpr ⟨Finset.mem_univ _, Finset.mem_range.mpr (by show 30 - x.2 < 31; omega)⟩
    · exact fun x hx => Prod.ext (amax_back x.1 (hmem x hx)) (by have := hmem x hx; show 30 - (30 - x.2) = x.2; omega)
    · exact fun x hx => Prod.ext (amax_back x.1 (hmem x hx)) (by have := hmem x hx; show 30 - (30 - x.2) = x.2; omega)
    · exact fun x hx => by
        show (tallyAt (arecvC (amaxDst x.2 x.1) x.1) 0 Na : Tallies) = tallyAt (arecvC (amaxDst x.2 x.1) (amaxDst (30 - x.2) (amaxDst x.2 x.1))) 0 Na
        rw [amax_back x.1 (hmem x hx)]
  · intro d g hg
    by_contra hne
    refine hg ?_
    rw [Finset.sum_apply]
    refine Finset.sum_eq_zero fun k _ => Finsupp.ext fun i => ?_
    rw [tallyAt_apply, if_neg fun h => hne (congrArg Prod.fst h.1)]
    rfl

/-- Each device's credits at launch. -/
theorem creds (c : Dev nD) : (Pipeline.launchCred O₀ c : sProp 𝕄)
    ⊢ iprop((bigSep Finset.univ fun i : Fin 4 => bigSep (Finset.Ico 0 31) fun s => WaitTok c i s)
      ∗ (bigSep (Finset.Ico 0 31) fun k => cred (tallyAt (arecvC c (amaxDst k c)) 0 Na)) ∗ cred (tallyAt (barC c) 0 2)) := by
  have e : (O₀ : Dev nD → Tallies) = fun d => ((owedAmax d 31 + ∑ i : Fin 4, ∑ s ∈ Finset.Ico 0 31, (msgTally s i d + credTally s i d))
      + tallyAt (barC (fwd 1 d)) 0 1) + tallyAt (barC (fwd 31 d)) 0 1 := funext fun d => by unfold O₀; rw [owedFrom_sum]
  have e2 : iprop(cred (tallyAt (barC c) 0 1) ∗ cred (tallyAt (barC c) 0 1)) ⊢ (cred (tallyAt (barC c) 0 2) : sProp 𝕄) := by
    rw [show (2 : ℕ) = 1 + 1 from rfl, ← tallyAt_add]; exact (cred_add _ _).2
  rw [e, Pipeline.launchCred_add, Pipeline.launchCred_add, Pipeline.launchCred_add (fun d => owedAmax d 31), Pipeline.launchCred_sum]
  iintro ⟨⟨⟨Ha, Hs⟩, Hb1⟩, Hb2⟩
  isplitl [Hs]
  · iapply (show (bigSep Finset.univ fun i : Fin 4 => (Pipeline.launchCred (fun d => ∑ s ∈ Finset.Ico 0 31, (msgTally s i d + credTally s i d)) c : sProp 𝕄)) ⊢ _
      from bigSep_mono fun i _ => (Entails.of_eq (Pipeline.launchCred_sum _ _ c)).trans (bigSep_mono fun s _ => creds_step c i s))
    iexact Hs
  isplitl [Ha]
  · iapply (creds_amax c); iexact Ha
  iapply e2
  isplitl [Hb1]
  · iapply (Pipeline.launchCred_tallyAt (.reg barS) (fwd 1) (fwd 31) fwd_back fwd_forth 0 1 c); iexact Hb1
  iapply (Pipeline.launchCred_tallyAt (.reg barS) (fwd 31) (fwd 1) fwd_forth fwd_back 0 1 c); iexact Hb2

/-- What device `c` starts with, put together. -/
theorem start_intro (c : Dev nD) :
    iprop(Duties c ∗ Writes c ∗ (Fam (fun sm => atPos ER ((c : Thread nD τ), sm) 0 ∅ 0) ∗ atPos ER (barC c) 0 ∅ 0)
        ∗ ((sb fun i b => readerAt ES (recvC c i b) 0) ∗ bigSep Finset.univ fun s : Dev nD => readerAt ES (arecvC c s) 0) ∗ Pipeline.launchCred O₀ c)
      ⊢ (Start c : sProp 𝕄) := by
  have hstep : iprop((bigSep Finset.univ fun i : Fin 4 => bigSep (Finset.Ico 0 31) fun s =>
        iprop(dutyTok ER (sendC c i (slotOf s)) (s / 2) 0 ∗ dutyTok ER (recvC (down i c) i (slotOf s)) (s / 2) 0 ∗ dutyTok ER (credC (up i c) i) 0 s))
      ∗ bigSep Finset.univ fun i : Fin 4 => bigSep (Finset.Ico 0 31) fun s => writeTok ES (recvC (down i c) i (slotOf s)) (s / 2 + 1))
      ⊢ (bigSep Finset.univ fun i : Fin 4 => bigSep (Finset.Ico 0 31) fun s => StepTok c i s : sProp 𝕄) := by
    rw [← bigSep_sep']
    refine bigSep_mono fun i _ => ?_
    rw [← bigSep_sep']
    refine bigSep_mono fun s _ => ?_
    show _ ⊢ (_ : sProp 𝕄)
    unfold StepTok SendTok
    by_cases h : 1 ≤ s ∧ s ≤ 29
    · rw [if_pos h]
      iintro ⟨⟨H1, H2, H3⟩, H4⟩
      isplitr [H3]
      · isplitl [H1]; · iexact H1
        isplitl [H2] <;> iassumption
      iexact H3
    · rw [if_neg h]
      iintro ⟨⟨H1, H2, H3⟩, H4⟩
      isplitl
      · isplitl [H1]; · iexact H1
        isplitl [H2] <;> iassumption
      iempintro
  have ham : iprop((bigSep (Finset.Ico 0 31) fun k => iprop(dutyTok ER (asendC c (nth k)) 0 0 ∗ dutyTok ER (arecvC (amaxDst k c) c) 0 0))
      ∗ bigSep (Finset.Ico 0 31) fun k => writeTok ES (arecvC (amaxDst k c) c) 1) ⊢ (bigSep (Finset.Ico 0 31) fun k => AmTok c k : sProp 𝕄) := by
    rw [← bigSep_sep']
    refine bigSep_mono fun k _ => ?_
    show _ ⊢ (_ : sProp 𝕄)
    unfold AmTok
    iintro ⟨⟨H1, H2⟩, H3⟩
    isplitl [H1]; · iexact H1
    isplitl [H2] <;> iassumption
  unfold Duties Writes Fam Start AmStart
  rw [show (bigSep Finset.univ fun i : Fin 4 => (Str c i : sProp 𝕄)) = iprop((bigSep Finset.univ fun i : Fin 4 => bigSep (Finset.Ico 0 31) fun s => StepTok c i s)
      ∗ (bigSep Finset.univ fun i : Fin 4 => bigSep (Finset.Ico 0 31) fun s => WaitTok c i s)
      ∗ (sb fun i b => atPos ER (sendC c i b) 0 ∅ 0) ∗ (sb fun i b => atPos ER (recvC c i b) 0 ∅ 0)
      ∗ bigSep Finset.univ fun i : Fin 4 => atPos ER (credC c i) 0 ∅ 0) by
    unfold Str sb; rw [bigSep_sep', bigSep_sep', bigSep_sep', bigSep_sep'],
    bigSep_nth (fun k => (atPos ER (asendC c k) 0 ∅ 0 : sProp 𝕄)), bigSep_others c (fun s => (atPos ER (arecvC c s) 0 ∅ 0 : sProp 𝕄)),
    bigSep_sep' (Finset.Ico 0 31) (fun k => (cred (tallyAt (arecvC c (amaxDst k c)) 0 Na) : sProp 𝕄))]
  iintro ⟨⟨Hd, Hda, Hb0, Hb1⟩, ⟨Hw, Hwa, Hwc⟩, ⟨⟨Hps, Hpr, Hpa, ⟨Hpo, Hpq⟩, Hpc⟩, Hpb⟩, ⟨Hr, Hra⟩, Hcr⟩
  ihave Hcr := (creds c) $$ Hcr
  icases Hcr with ⟨Hcw, Hca, Hcb⟩
  ihave Hst := hstep $$ [Hd Hw]
  · isplitl [Hd] <;> iassumption
  ihave Ham := ham $$ [Hda Hwa]
  · isplitl [Hda] <;> iassumption
  isplitl [Hst Hcw Hps Hpr Hpc]
  · isplitl [Hst]; · iexact Hst
    isplitl [Hcw]; · iexact Hcw
    isplitl [Hps]; · iexact Hps
    isplitl [Hpr] <;> iassumption
  isplitl [Hr]; · iexact Hr
  isplitl [Hra]; · iexact Hra
  isplitl [Hwc Ham Hpa Hca Hpq]
  · isplitl [Hwc]; · iexact Hwc
    isplitl [Ham]; · iexact Ham
    isplitl [Hpa]; · iexact Hpa
    isplitl [Hca] <;> iassumption
  isplitl [Hpo]; · iexact Hpo
  isplitl [Hpb]; · iexact Hpb
  isplitl [Hb0]; · iexact Hb0
  isplitl [Hb1] <;> iassumption

end Cert.Gemm
-- ==== Proof.Bridge.lean ====
/-
The printed body is the structured one.
-/
module

public import proofs.«01_k».proof.Proof.Program
public import Idealize.ShloMosaic.Lib.Pipeline.Regions

@[expose] public section

noncomputable section

namespace Cert.Gemm

open Cert.KernelIdeal Cert.KernelIdeal.Gen
open Idealize.ShloMosaic Idealize.SL.Sem
open Idealize.ShloMosaic.TcCoe

variable {F : FTy → Type} [FloatOps F]

/-- The printed body, on the buffers that the kernel is called with, is the structured program. -/
theorem body_eq (x : Fin 1) : cc0_body (F := F) xM (hstage0_0 0) wM (hstage0_1 0) oM (hstage0_2 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 (Memref.whole cc0_scratch11) (Memref.isWhole_whole _)
    (Memref.whole cc0_scratch12) (Memref.isWhole_whole _) cc0_scratch13 cc0_scratch14 = bodyP (F := F) := by
  chain_rfl

end Cert.Gemm
-- ==== Proof.Launch.lean ====
/-
The launch: the proof data of the one pipeline, the body obligation, what the devices start from, and the run of the whole program.
-/
module

public import proofs.«01_k».proof.Proof.Tokens
public import proofs.«01_k».proof.Proof.Bridge
public import proofs.«01_k».proof.Proof.Gen.KernelIdeal.Launch
public import Idealize.ShloMosaic.Lib.Pipeline.Launch
public import Idealize.ShloMosaic.Lib.Pipeline.CollectiveSegs
public import Idealize.ShloMosaic.Lib.Quiescent

@[expose] public section

noncomputable section

namespace Cert.Gemm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv released readerAt writeTok initSlots)
open Idealize.ShloMosaic.Pipeline (Dat Cfg Window BodyObligation)

variable {F : FTy → Type} [FloatOps F]

local notation "𝕄" => MT nD τ sig ℕ (Elt F) ℕ UU ℕ

section Launch
variable (m : (ℓ : Loc nD τ sig) → Buf (Elt F) ℓ) (ρ : Dev nD → PrngReg)

abbrev s₀ : MemSt nD τ sig (Elt F) := ⟨m, fun _ => 0, ρ⟩

/-! ## The proof data -/

/-- Device `c`'s columns of `x`, as fetched, -/
def xIn (c : Dev nD) : (xM : Memref sig .tc .vmem S4096x128 .f32).view.ty.Contents (Elt F) :=
  (win0_0.blk (0 : Fin 1)).view.read (Elt F) (m ((c : Thread nD τ).loc main_arg0))
/-- and its rows of `w`. -/
def wIn (c : Dev nD) : (wM : Memref sig .tc .vmem S128x2048 .f32).view.ty.Contents (Elt F) :=
  (win0_1.blk (0 : Fin 1)).view.read (Elt F) (m ((c : Thread nD τ).loc main_arg1))

def Φ₀ (c : Dev nD) : sProp 𝕄 := iprop((∃ κ η : GSem nD τ sig → ℕ, Ctx (xIn m) (wIn m) κ η ∗ Start c) ∗ Bufs c)
def Φ₁ (c : Dev nD) : sProp 𝕄 := iprop(Bufs c ∗ Closed c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => wIn m c
    | ⟨2, _⟩ => outv (xIn m) (wIn m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body obligation -/

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ
    ∗ stg c cc0_stg0_0 (xIn m c) ∗ stg c cc0_stg1_0 (wIn m c) ∗ stg c cc0_stg2_0 (outv (xIn m) (wIn m) c))

theorem before_x (c : Dev nD) (d) : (dats m ρ 0 c).before (0 : Fin 3) t0_0 d = xIn m c := by
  unfold Dat.before; rw [if_pos (show (cfg0.win (0 : Fin 3)).fetch t0_0 = true from rfl)]; rfl
theorem before_w (c : Dev nD) (d) : (dats m ρ 0 c).before (1 : Fin 3) t0_0 d = wIn m c := by
  unfold Dat.before; rw [if_pos (show (cfg0.win (1 : Fin 3)).fetch t0_0 = true from rfl)]; rfl

theorem x_pts (xs) (c : Dev nD) : (xPts xs c : sProp 𝕄) = (((c : Thread nD τ).loc cc0_stg0_0) ↦{fullShare} xs c) := rfl
theorem w_pts (ws) (c : Dev nD) : (wPts ws c : sProp 𝕄) = (((c : Thread nD τ).loc cc0_stg1_0) ↦{fullShare} ws c) := rfl

set_option maxRecDepth 8000 in
theorem body_sound (c : Dev nD) : bodyPre m ρ c ⊢ wpc c (bodyP (F := F)) (fun _ => bodyPost m ρ c) := by
  unfold bodyPre Φ₀ Dat.owesAt Pipeline.owesWithin
  rw [show (dats m ρ 0 c).owed t0_0.castSucc = O₀ c from rfl]
  iintro ⟨⟨⟨%κ, %η, #HC, HS⟩, HB⟩, ⟨%W, %hW, HO⟩, ⟨%d0, %f0, %h0, Hx⟩, ⟨%d1, %f1, %h1, Hw⟩, ⟨%d2, %f2, %h2, Ho⟩⟩
  rw [before_x] at h0
  rw [before_w] at h1
  subst h0 h1
  have hb := wp_body (xIn m) (wIn m) κ η c (fun _ => bodyPost m ρ c)
  rw [x_pts, w_pts] at hb
  iapply hb $$ [HS HB HO Hx Hw Ho]
  · isplitr; · iexact HC
    isplitl [HS]; · iexact HS
    isplitl [Hx]; · iexact Hx
    isplitl [Hw]; · iexact Hw
    isplitl [Ho]; · iexists f2; iexact Ho
    isplitl [HB]; · iexact HB
    iexists W; iexact HO
  unfold bodyPost Φ₁ Dat.owesAt Pipeline.owesWithin
  rw [show (dats m ρ 0 c).owed t0_0.succ = 0 from rfl]
  iintro ⟨Hx, Hw, Ho, HB, HZ, ⟨%W', HO⟩⟩
  isplitl [HB HZ]
  · isplitl [HB] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
theorem body_obligation (c : Dev nD) : BodyObligation (dats (F := F) m ρ 0 c) (defs₀ (F := F)) 𝒱₀ 0 Set.univ := fun t => by
  rw [fin_N0 t]
  rw [bigSep_W0, bigSep_W0]
  simp only [owns_whole]
  show bodyPre m ρ c ⊢ wpc c (cc0_body (F := F) xM (hstage0_0 0) wM (hstage0_1 0) oM (hstage0_2 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 (Memref.whole cc0_scratch11) (Memref.isWhole_whole _)
    (Memref.whole cc0_scratch12) (Memref.isWhole_whole _) cc0_scratch13 cc0_scratch14) (fun _ => bodyPost m ρ c)
  rw [body_eq 0]
  exact body_sound m ρ c

/-! ## The start -/

def u₀ : UU :=
  (initOf (Pipeline.cells cfgs cellOf_inj) (Pipeline.launchToks cfgs cellOf_inj), (launchOf cells ∅ toks, initSlots keys 16))

/-- The protocol's ghost state, dealt to device 0 until the semaphores are all at hand. -/
def G (c : Dev nD) : sProp 𝕄 :=
  if c = 0 then iprop(BI.own (ER (launchOf cells ∅ toks)) ∗ BI.own (ES (initSlots keys 16))) else iprop(emp)

theorem deal : iprop(BI.own (ER (launchOf cells ∅ toks)) ∗ BI.own (ES (initSlots keys 16))) ⊢ (bigSep Finset.univ fun c : Dev nD => G c : sProp 𝕄) := by
  rw [bigSep_univ_at _ (0 : Dev nD)]
  have h : (bigSep (Finset.univ.erase (0 : Dev nD)) fun c => (G c : sProp 𝕄)) = iprop(emp) := by
    rw [bigSep_congr (Ψ := fun _ => iprop(emp)) (fun (c : Dev nD) hc => show G c = _ by unfold G; rw [if_neg (Finset.ne_of_mem_erase hc)])]
    exact BI.bigSep_emp_const _
  rw [h]
  unfold G
  rw [if_pos rfl]
  iintro H
  isplitl; · iexact H
  iempintro

/-- The invariants of all the cells and slots. -/
def Known (κ η : GSem nD τ sig → ℕ) : sProp 𝕄 :=
  iprop((bigSep cells fun g => iprop(cellInv ER (Rd (xIn m) (wIn m)) (κ g) g ∗ reached ER g 0)) ∗ (bigSep keys fun g => slotInv ES (η g) g (slotAt g)))
instance Known_persistent (κ η : GSem nD τ sig → ℕ) : BI.Persistent (Known m κ η) := by unfold Known; infer_instance
/-- What device `c` alone holds. -/
def Mine (c : Dev nD) : sProp 𝕄 :=
  iprop(Duties c ∗ Writes c ∗ (Fam (fun sm => atPos ER ((c : Thread nD τ), sm) 0 ∅ 0) ∗ atPos ER (barC c) 0 ∅ 0)
    ∗ ((sb fun i b => readerAt ES (recvC c i b) 0) ∗ bigSep Finset.univ fun s : Dev nD => readerAt ES (arecvC c s) 0))
def G' (c : Dev nD) : sProp 𝕄 := iprop(∃ κ η : GSem nD τ sig → ℕ, Known m κ η ∗ Mine c)

theorem unscoped_eq (c : Dev nD) : (unscopedSems0 c : sProp 𝕄) = semVal (barC c) 0 := by
  unfold unscopedSems0; rw [bigSep_eq_bigSepL_of_eq [SemLoc.reg barS] (by decide) (by decide)]; rfl
theorem own_eq (c : Dev nD) : (Pipeline.ownSems0 (Ix := ℕ) (Name := ℕ) (U := UU) (Lvl := ℕ) (Val := Elt F) (τ := τ) osem c : sProp 𝕄)
    = Fam fun sm => semVal ((c : Thread nD τ), sm) 0 := fam_own fun sm => semVal ((c : Thread nD τ), sm) 0

theorem sems_eq : (bigSep Finset.univ fun c : Dev nD => iprop(Pipeline.ownSems0 (Ix := ℕ) (Name := ℕ) (U := UU) (Lvl := ℕ) (Val := Elt F) (τ := τ) osem c
      ∗ unscopedSems0 c) : sProp 𝕄) = bigSep cells fun g => semVal g 0 := by
  rw [fam_cells]
  exact bigSep_congr fun c _ => by rw [own_eq, unscoped_eq]

theorem mine_eq : iprop((bigSep toks fun x => dutyTok ER x.1 x.2.1 x.2.2) ∗ (bigSep wtoks fun x => writeTok ES x.1 (x.2 + 1))
      ∗ (bigSep cells fun g => atPos ER g 0 ∅ 0) ∗ bigSep keys fun g => readerAt ES g 0)
    = (bigSep Finset.univ fun c : Dev nD => Mine c : sProp 𝕄) := by
  unfold Mine
  rw [bigSep_sep', bigSep_sep', bigSep_sep', toks_eq, wtoks_eq, fam_cells, fam_keys]

theorem sems_split : (bigSep Finset.univ fun c => iprop(Pipeline.ownSems0 (Ix := ℕ) (Name := ℕ) (U := UU) (Lvl := ℕ) (Val := Elt F) (τ := τ) osem c
      ∗ unscopedSems0 c ∗ G c) : sProp 𝕄)
    ⊢ iprop((bigSep cells fun g => semVal g 0) ∗ bigSep Finset.univ fun c : Dev nD => G c) := by
  rw [← sems_eq, ← bigSep_sep']
  refine bigSep_mono fun c _ => ?_
  show _ ⊢ (_ : sProp 𝕄)
  iintro ⟨H1, H2, H3⟩
  isplitl [H1 H2]
  · isplitl [H1] <;> iassumption
  iexact H3

theorem glob : (bigSep Finset.univ fun c => iprop(Pipeline.ownSems0 (Ix := ℕ) (Name := ℕ) (U := UU) (Lvl := ℕ) (Val := Elt F) (τ := τ) osem c
      ∗ unscopedSems0 c ∗ G c) : sProp 𝕄)
    ⊢ |={Set.univ}=> bigSep Finset.univ (G' m) := by
  have hG : (bigSep Finset.univ fun c : Dev nD => (G c : sProp 𝕄)) ⊢ iprop(BI.own (ER (launchOf cells ∅ toks)) ∗ BI.own (ES (initSlots keys 16))) :=
    (bigSep_elim (Finset.mem_univ (0 : Dev nD))).trans (Entails.of_eq (show G 0 = _ by unfold G; rw [if_pos rfl]))
  have hR := Rounds.fund_launch (ER (F := F)) (Rd (xIn m) (wIn m)) (S := cells) (Sd := ∅) (Finset.disjoint_empty_right _)
    (fun g hg => absurd hg (Finset.notMem_empty g)) toks (Es := Set.univ)
  rw [Finset.union_empty] at hR
  have hS := Release.slots_init (ES (F := F)) keys 16 (fun g => slotAt (F := F) g) (Es := Set.univ)
  have hW : (bigSep (keys ×ˢ Finset.range 16) fun x => writeTok ES x.1 (x.2 + 1)) ⊢ (bigSep wtoks fun x => writeTok ES x.1 (x.2 + 1) : sProp 𝕄) :=
    BI.bigSep_subset wtoks_sub
  iintro H
  ihave H := (sems_split (F := F)) $$ H
  icases H with ⟨Hv, HG⟩
  ihave HG := hG $$ HG
  icases HG with ⟨HR, HS⟩
  imod hR $$ [Hv HR] with ⟨%κ, %hκ, Hinv, Hre, Hat, -, Htok⟩
  · isplitl [Hv] <;> iassumption
  imod hS $$ HS with ⟨%η, %hη, Hsl, Hrd, Hwr⟩
  ihave Hwr := hW $$ Hwr
  imodintro
  have hgo : iprop(Known m κ η ∗ bigSep Finset.univ fun c : Dev nD => Mine c) ⊢ bigSep Finset.univ (G' m) :=
    bigSep_with_persistent fun c _ => by
      unfold G'
      iintro ⟨#HK, HM⟩
      iexists κ; iexists η
      isplitr; · iexact HK
      iexact HM
  iapply hgo
  rw [← mine_eq]
  unfold Known
  rw [bigSep_sep']
  isplitl [Hinv Hre Hsl]
  · isplitl [Hinv Hre]
    · isplitl [Hinv] <;> iassumption
    iexact Hsl
  isplitl [Htok]; · iexact Htok
  isplitl [Hwr]; · iexact Hwr
  isplitl [Hat] <;> iassumption

/-- What device `c`'s body starts from. -/
def Begin (c : Dev nD) : sProp 𝕄 := iprop(∃ κ η : GSem nD τ sig → ℕ, Ctx (xIn m) (wIn m) κ η ∗ Start c)

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Begin m c ∗ emp) := by
  unfold G' Begin Mine Known Ctx
  iintro ⟨-, #Hlev, Hcr, -, ⟨%κ, %η, ⟨#HI, #HS⟩, HD, HW, HP, HR⟩⟩
  ihave Hst := (start_intro (F := F) c) $$ [Hcr HD HW HP HR]
  · isplitl [HD]; · iexact HD
    isplitl [HW]; · iexact HW
    isplitl [HP]; · iexact HP
    isplitl [HR] <;> iassumption
  imodintro
  isplitl
  · iexists κ; iexists η
    isplitr
    · isplitr; · iexact HI
      isplitr; · iexact HS
      iexact Hlev
    iexact Hst
  iempintro

theorem bufs_eq (c : Dev nD) : (Bufs c : sProp 𝕄) ⊣⊢ Pipeline.scopedRest cfg0.spec c := by
  rw [scopedRest0_eq]
  unfold Bufs
  rw [four, four]
  constructor
  · iintro ⟨⟨H0, H1, H2, H3⟩, ⟨H4, H5, H6, H7⟩, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨H0, H1, H2, H3, H4, H5, H6, H7, H8, H9⟩
    isplitl [H0 H1 H2 H3]
    · isplitl [H0]; · iexact H0
      isplitl [H1]; · iexact H1
      isplitl [H2]; · iexact H2
      iexact H3
    isplitl [H4 H5 H6 H7]
    · isplitl [H4]; · iexact H4
      isplitl [H5]; · iexact H5
      isplitl [H6]; · iexact H6
      iexact H7
    isplitl [H8]; · iexact H8
    iexact H9

theorem phi_in (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀ Begin
  iintro ⟨Hs, -, Hr⟩
  isplitl [Hs]; · iexact Hs
  iapply (bufs_eq (F := F) c).2; iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_eq, unscoped_eq]
  unfold Φ₁ Closed Fam
  iintro ⟨HB, H1, H2, H3, H4, H5, H6⟩
  isplitl [H6]; · iexact H6
  isplitl [H1 H2 H3 H4 H5]
  · isplitl [H1]; · iexact H1
    isplitl [H2]; · iexact H2
    isplitl [H3]; · iexact H3
    isplitl [H4] <;> iassumption
  iapply (bufs_eq (F := F) c).1; iexact HB

theorem role_stage : ∀ (w : Fin 3) (s : Fin (spec0 w).nbuf), roleOf (.dma ((spec0 w).sem s)) = .stage := by decide
theorem lv_stage (c : Dev nD) (w : Fin 3) (s : Fin (spec0 w).nbuf) (k : ℕ) : lv ((c : Thread nD τ), .dma ((spec0 w).sem s)) k = 0 := by
  unfold lv; rw [role_stage]
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait (above_start c) (by decide) (by rw [lv_stage]; decide)
    · exact mayWait (Above.zero 1) (by decide) (by rw [lv_stage]; decide)

/-! ## The run -/

theorem ownSemFacts : Pipeline.OwnSemFacts cfg0.spec osem := by decide

def finalA (c : Dev nD) (w : Fin cfg0.W) : Buf (Elt F) ((cfg0.win w).arr.view.loc (c : Thread nD τ)) := (dats m ρ 0 c).arrAt w cfg0.N

set_option maxRecDepth 100000 in
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := fun c => G c) (G' := G' m) (u₀ := u₀)
    (hu₀ := by
      unfold u₀
      iintro Hu
      ihave H := (ownU_pair _ _) $$ Hu
      icases H with ⟨HP, HX⟩
      ihave HX := (own_pair_emb _ _ _) $$ HX
      imodintro
      isplitl [HP]; · iexact HP
      iapply (deal (F := F))
      iexact HX)
    (hglob := glob m)
    (hA := fun _ _ => rfl) (hpf := fun _ k => k.elim0)
    (X := Begin m) (Y := fun c => unscopedSems0 c) (Z := fun _ => iprop(emp))
    (hX := begin_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _
theorem final_o (c : Dev nD) : (win0_2.blk (0 : Fin 1)).view.read (Elt F) (finalA m ρ c (2 : Fin 3)) = outv (xIn m) (wIn m) c := by
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- Every run ends with each device's result as computed, the inputs unchanged and every semaphore at zero. -/
theorem run_main : θ_run defs (onTc (τ := τ) (main (F := F))) (s₀ m ρ)
    (fun r => (∀ c : Dev nD, (win0_2.blk (0 : Fin 1)).view.read (Elt F) (r.2.mem ((c : Thread nD τ).loc main_v1)) = outv (xIn m) (wIn m) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(congrArg _ (h.1 c (2 : Fin 3))).trans (final_o m ρ c),
    (h.1 c (0 : Fin 3)).trans (final_x m ρ c), (h.1 c (1 : Fin 3)).trans (final_w m ρ c)⟩, h.2⟩) (run_arrays m ρ)

end Launch

end Cert.Gemm

end
-- ==== Proof.Carry.lean ====
/-
The two printed programs are one text: what is proved of the one, at any float values, holds of the other.
-/
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace Cert.Gemm

open Idealize.ShloMosaic Idealize.SL.Sem
open Idealize.ShloMosaic.TcCoe

/-- The kernel's frame at the machine's floats, read of the other program's text. -/
theorem frame_eq : Cert.quiescent_Kernel =
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  chain_rfl

end Cert.Gemm
-- ==== Proof.Frames.lean ====
/-
The runs of the three programs: each terminates, leaves its inputs and brings every semaphore back to zero.
-/
module

public import proofs.«01_k».proof.Defs
public import proofs.«01_k».proof.Proof.Launch
public import proofs.«01_k».proof.Proof.Carry
public import proofs.«01_k».proof.Proof.Gen.ReferenceIdeal.Frame

@[expose] public section

noncomputable section

namespace Cert.Gemm

open Idealize.ShloMosaic Idealize.SL.Sem

theorem frame_kernel : Cert.quiescent_Kernel := by
  rw [frame_eq]
  intro m g _
  exact (θ_run Cert.KernelIdeal.defs _ _).mono (fun _ h => ⟨fun c => (h.1 c).2, h.2⟩) (run_main m g)

theorem frame_ideal : Cert.quiescent_KernelIdeal := fun m g _ =>
  (θ_run Cert.KernelIdeal.defs _ _).mono (fun _ h => ⟨fun c => (h.1 c).2, h.2⟩) (run_main m g)

theorem frame_reference : Cert.quiescent_ReferenceIdeal := fun m g _ => Cert.ReferenceIdeal.Gen.frame m g

end Cert.Gemm

end
-- ==== Proof.Partials.lean ====
/-
The partial sums over the extended reals: what a device's chunk product holds at an index, what a message holds after
`s` hops, and the column block that a device ends with, which is the sum over all the devices of the ring.
-/
module

public import proofs.«01_k».proof.Proof.Protocol
public import Idealize.ShloMosaic.Lib.MatmulPlain
public import Idealize.ShloMosaic.Lib.ValueLayout
public import Idealize.ShloMosaic.Lib.IdealHost

@[expose] public section

noncomputable section

namespace Cert.Gemm

open Cert.KernelIdeal Cert.KernelIdeal.Gen
open Idealize.ShloMosaic Idealize.ShloMosaic.ValueIdx
open Idealize.ShloMosaic.TcCoe
open scoped BigOperators

/-! ## The constants -/

theorem word_zero : Ideal.ofBits .f32 0x00000000#32 = 0 := by simp [Ideal.ofBits, Ideal.ieee]
theorem word_bot : Ideal.ofBits .f32 0xFF800000#32 = ⊥ := by simp [Ideal.ofBits, Ideal.ieee]
theorem word_pos : Ideal.ofBits .f32 0x43E00000#32 = ((448 : ℝ) : EReal) := by
  simp [Ideal.ofBits, Ideal.ieee, -EReal.coe_mul]; norm_num
theorem word_neg : Ideal.ofBits .f32 0xC3E00000#32 = ((-448 : ℝ) : EReal) := by
  simp [Ideal.ofBits, Ideal.ieee, -EReal.coe_mul]; norm_num

/-! ## Round the ring -/

/-- The target of a round is the same device, seen from the one behind. -/
theorem hop_up : ∀ s : Fin 30, ∀ i : Fin 4, ∀ d : Dev nD, hop i (31 - s.val) (up i d) = hop i (31 - (s.val + 1)) d := by
  decide +kernel
theorem hop_last : ∀ i : Fin 4, ∀ d : Dev nD, hop i 1 (up i d) = d := by decide +kernel

/-- How many hops of stream `i` lie between `e` and the device `d` downstream of it. -/
def gap (i : Fin 4) (d e : Dev nD) : ℕ :=
  if i.val % 2 = 0 then (kOfL d.val + 31 * kOfL e.val) % 32 else (kOfL e.val + 31 * kOfL d.val) % 32

theorem gap_iterate : ∀ i : Fin 4, ∀ d : Dev nD, ∀ n : Fin 32, gap i d ((up i)^[n.val] d) = n.val := by decide +kernel

/-- The 32 devices upstream of a device are all the devices. -/
theorem sum_ring (i : Fin 4) (d : Dev nD) (f : Dev nD → EReal) :
    ∑ n ∈ Finset.range 32, f ((up i)^[n] d) = ∑ e : Dev nD, f e := by
  rw [← Fin.sum_univ_eq_sum_range fun n => f ((up i)^[n] d)]
  have hinj : Function.Injective fun n : Fin 32 => (up i)^[n.val] d := fun a b h => Fin.ext (by
    have := congrArg (gap i d) h
    simpa only [gap_iterate] using this)
  exact Equiv.sum_comp (Equiv.ofBijective _ ((Fintype.bijective_iff_injective_and_card _).2 ⟨hinj, rfl⟩)) f

/-! ## The sums -/

variable (xs : Dev nD → (xM : Memref sig .tc .vmem S4096x128 .f32).view.ty.Contents (Elt Ideal))
variable (ws : Dev nD → (wM : Memref sig .tc .vmem S128x2048 .f32).view.ty.Contents (Elt Ideal))

/-- The row `r` of the chunk for device `c`, in the whole. -/
def rowAt' (c : Dev nD) (r : Fin 128) : Fin 4096 := ⟨c.val * 128 + r.val, by have : c.val < 32 := c.isLt; omega⟩
/-- The column `j` of stream `i`. -/
def colAt (i : Fin 4) (j : Fin 512) : Fin 2048 := ⟨col i + j.val, by
  have h : ∀ i, col i ≤ 1536 := by decide
  have := h i; omega⟩

/-- The elements of the block of `x` on device `d`, -/
def xat (d : Dev nD) : S4096x128.Idx → EReal := (xM : Memref sig .tc .vmem S4096x128 .f32).view.read (Elt Ideal) (xs d)
/-- and of its block of `w`. -/
def wat (d : Dev nD) : S128x2048.Idx → EReal := (wM : Memref sig .tc .vmem S128x2048 .f32).view.read (Elt Ideal) (ws d)

theorem xrow_apply (d c : Dev nD) (r k : Fin 128) : xrow xs d c (ix2 r k) = xat xs d (ix2 (rowAt' c r) k) := by
  refine congrArg (xat xs d) (funext fun a => Fin.ext ?_)
  match a with
  | ⟨0, _⟩ => show 128 * c.val + 1 * r.val = c.val * 128 + r.val; omega
  | ⟨1, _⟩ => show 0 + 1 * k.val = k.val; omega

theorem wcol_apply (d : Dev nD) (i : Fin 4) (k : Fin 128) (j : Fin 512) :
    wcol ws d i (ix2 k j) = wat ws d (ix2 k (colAt i j)) := by
  refine congrArg (wat ws d) (funext fun a => Fin.ext ?_)
  match a with
  | ⟨0, _⟩ => show 0 + 1 * k.val = k.val; omega
  | ⟨1, _⟩ => show col i + 1 * j.val = col i + j.val; omega

/-- What device `e` adds to the element at row `r` and column `j` of the block that device `c` is to own. -/
def term (c : Dev nD) (r : Fin 128) (j : Fin 2048) (e : Dev nD) : EReal :=
  ∑ k : Fin 128, xat xs e (ix2 (rowAt' c r) k) * wat ws e (ix2 k j)

/-- The chunk product at an index. -/
theorem chunk_apply (e c : Dev nD) (i : Fin 4) (r : Fin 128) (j : Fin 512) :
    matmul (φ₁ := .f32) (φ₂ := .f32) dot_S128x128_S128x512_S128x512_1_0_0_1_n_n none (xrow xs e c) (wcol ws e i) (constant S128x512 .f32 0x00000000#32) (ix2 r j)
      = term xs ws c r (colAt i j) e := by
  refine (Ideal.matmul_plain_apply none (xrow xs e c) (wcol ws e i) (constant S128x512 .f32 0x00000000#32) r j).trans ?_
  rw [constant_apply, word_zero, zero_add]
  exact Finset.sum_congr rfl fun k _ => by rw [xrow_apply, wcol_apply]

/-- A message at an index: the sum over the devices that it has passed. -/
theorem msg_apply (i : Fin 4) (r : Fin 128) (j : Fin 512) : ∀ s : ℕ, s < 31 → ∀ d : Dev nD,
    msg xs ws s i d (ix3 (0 : Fin 1) r j)
      = ∑ n ∈ Finset.range (s + 1), term xs ws (hop i (31 - s) d) r (colAt i j) ((up i)^[n] d)
  | 0, _, d => by
    rw [Finset.sum_range_one]
    show k0_pay2 (xrow xs d (hop i 31 d)) (wcol ws d i) (ix3 (0 : Fin 1) r j) = _
    unfold k0_pay2
    rw [shapeCast_ab_1ab_apply, shapeCast_self, shapeCast_self, chunk_apply]
    rfl
  | s + 1, h, d => by
    show k0_pay6 (xrow xs d (hop i (31 - (s + 1)) d)) (wcol ws d i) (msg xs ws s i (up i d)) (ix3 (0 : Fin 1) r j) = _
    unfold k0_pay6
    rw [shapeCast_ab_1ab_apply, addf_apply, shapeCast_1ab_ab_apply, shapeCast_self, shapeCast_self, chunk_apply,
      msg_apply i r j s (by omega) (up i d), hop_up ⟨s, by omega⟩ i d, Finset.sum_range_succ' _ (s + 1)]
    rfl

/-- The column block that a device ends with, at an index: the sum over all the devices. -/
theorem part_apply (i : Fin 4) (d : Dev nD) (r : Fin 128) (j : Fin 512) :
    part xs ws i d (ix2 r j) = ∑ e : Dev nD, term xs ws d r (colAt i j) e := by
  unfold part k0_pay168
  rw [addf_apply, shapeCast_1ab_ab_apply, shapeCast_self, shapeCast_self, chunk_apply,
    msg_apply xs ws i r j 30 (by omega) (up i d), show 31 - 30 = 1 from rfl, hop_last, ← sum_ring i d, Finset.sum_range_succ' _ 31]
  rfl

end Cert.Gemm
-- ==== Proof.RefValue.lean ====
/-
What the reference leaves in its result: the rectified product, its largest absolute value over 448 as the scale, the
quotients clipped to ±448 and rounded to eight bits and back, and the scale multiplied in again.
-/
module

public import proofs.«01_k».proof.Proof.Gen.ReferenceIdeal.Frame
public import Idealize.ShloMosaic.Lib.Pipeline.ValueKit.Geometry
public import Idealize.ShloMosaic.Lib.StableHlo.RunRead

@[expose] public section

noncomputable section

namespace Cert.GemmRef

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The rectified product of the whole arrays. -/
def rect (x : FVec F S4096x4096 .f32) (w : FVec F S4096x2048 .f32) : FVec F S4096x2048 .f32 :=
  maximumf (Host.dotGeneral dot_S4096x4096_S4096x2048_S4096x2048_1_0_0_1_n_n none x w)
    (broadcastInDim S4096x2048 ![] bcast_S_S4096x2048 (constant S_ .f32 0x00000000#32))

/-- The scale of an array: its largest absolute value over 448. -/
def scaleOf (y : FVec F S4096x2048 .f32) : FVec F S_ .f32 :=
  Host.divf (Host.reduce FloatOps.maximumf (Host.absf y) (constant S_ .f32 0xFF800000#32) reducesTo_S4096x2048_S_d0_1 h_S_)
    (constant S_ .f32 0x43E00000#32)

/-- An array divided by a scale and clipped to ±448. -/
def clipped (y : FVec F S4096x2048 .f32) (s : FVec F S_ .f32) : FVec F S4096x2048 .f32 :=
  minimumf (broadcastInDim S4096x2048 ![] bcast_S_S4096x2048 (constant S_ .f32 0x43E00000#32))
    (maximumf (broadcastInDim S4096x2048 ![] bcast_S_S4096x2048 (constant S_ .f32 0xC3E00000#32))
      (Host.divf y (broadcastInDim S4096x2048 ![] bcast_S_S4096x2048 s)))

/-- The reference's result. -/
def refOut (x : FVec F S4096x4096 .f32) (w : FVec F S4096x2048 .f32) : FVec F S4096x2048 .f32 :=
  mulf (k0_pay1 (clipped (rect x w) (scaleOf (rect x w))))
    (broadcastInDim S4096x2048 ![] bcast_S_S4096x2048 (scaleOf (rect x w)))

variable (m : (ℓ : Loc nD τ sig) → Buf (Elt F) ℓ) (ρ : Dev nD → PrngReg)

/-- The scale as the region finds it. -/
theorem V_scale (c : Dev nD) : V m c main_v5 = scaleOf (rect (m ((c : Thread nD τ).loc main_arg0)) (m ((c : Thread nD τ).loc main_arg1))) := by
  show after (List.flatten [hostOps0, hostOps0_1]) (fun b => m (c, b)) (Proc.devRef .tc main_v5) = _
  after_reads_simp
  rfl

/-- The clipped quotients as the region finds them. -/
theorem V_clipped (c : Dev nD) : V m c main_v8 = clipped (rect (m ((c : Thread nD τ).loc main_arg0)) (m ((c : Thread nD τ).loc main_arg1)))
    (scaleOf (rect (m ((c : Thread nD τ).loc main_arg0)) (m ((c : Thread nD τ).loc main_arg1)))) := by
  show after (List.flatten [hostOps0, hostOps0_1]) (fun b => m (c, b)) (Proc.devRef .tc main_v8) = _
  after_reads_simp
  rfl

/-- The rounding call's staging buffer after its body: the rounding of the block it read. -/
theorem round_eq (x : FVec F S4096x2048 .f32) : out0_1 x = k0_pay1 x := by
  have hz : (![0, 0] : Fin S4096x2048.rank → ℕ) = fun _ => 0 := by funext a; fin_cases a <;> rfl
  unfold out0_1
  rw [View.canon_unit_zero hz, View.ld_unit_zero hz]

/-- The rounding call's array after the region: the rounding of the clipped quotients. -/
theorem arr_v9 (c : Dev nD) : (dats m 0 c).arrAt 1 cfg0.N = k0_pay1 (V m c main_v8) := by
  have hz0 : (fun a => (win0_0.index t0_0) a * main_v8.ty.shape.size a) = fun _ => 0 := funext fun a => by fin_cases a <;> decide
  have hz1 : (fun a => (win0_1.index t0_0) a * main_v9.ty.shape.size a) = fun _ => 0 := funext fun a => by fin_cases a <;> decide
  have hr0 := fun f => Memref.read_access_unit_zero (Elt F) main_v8 hz0 (fun a => by fin_cases a <;> decide) f
  have hr1 := fun f => Memref.read_access_unit_zero (Elt F) main_v9 hz1 (fun a => by fin_cases a <;> decide) f
  have ho : ((cfg0.win (1 : Fin 2)).blk t0_0).view.read (Elt F) ((dats (F := F) m 0 c).arrAt (1 : Fin 2) cfg0.N)
      = (dats (F := F) m 0 c).flushed (1 : Fin 2) t0_0 := by
    rw [show cfg0.N = (t0_0 : Fin cfg0.N).val + 1 from rfl, (dats (F := F) m 0 c).arrAt_succ (1 : Fin 2) t0_0,
      show (cfg0.win (1 : Fin 2)).flush t0_0 = true from by decide, if_pos rfl]
    exact View.read_write_univ _ _
  rw [hr1] at ho
  rw [ho]
  show (cfg0.win (1 : Fin 2)).cut _ ((dats (F := F) m 0 c).after 1 t0_0) = _
  rw [after0_1, round_eq]
  unfold iblk
  rw [hr0]
  rfl

/-- The result after the host lines that follow the region. -/
theorem tail_v11 (c : Dev nD) : Pipeline.afterTail₀ cfgs (dats m) 0 (V0 m) [hostOps1] c main_v11
    = refOut (m ((c : Thread nD τ).loc main_arg0)) (m ((c : Thread nD τ).loc main_arg1)) := by
  have h9 : Pipeline.withArrays spec0 c (V0 m c) (fun w => (dats m 0 c).arrAt w cfg0.N) (Proc.devRef .tc main_v9)
      = k0_pay1 (V m c main_v8) :=
    (Pipeline.withArrays_arr spec0 (by decide) c (V0 m c) (fun w => (dats m 0 c).arrAt w cfg0.N) 1).trans (arr_v9 m c)
  have h5 : Pipeline.withArrays spec0 c (V0 m c) (fun w => (dats m 0 c).arrAt w cfg0.N) (Proc.devRef .tc main_v5)
      = V m c main_v5 :=
    Pipeline.withArrays_of_ne _ c (V0 m c) _ main_v5 (by exact (by decide : ∀ w, Pipeline.arrRef spec0 w ≠ main_v5))
  show after (List.flatten [hostOps1]) (Pipeline.withArrays spec0 c (V0 m c) fun w => (dats m 0 c).arrAt w cfg0.N) (Proc.devRef .tc main_v11) = _
  generalize Pipeline.withArrays spec0 c (V0 m c) (fun w => (dats m 0 c).arrAt w cfg0.N) = W at h9 h5
  after_reads_simp
  rw [h9, h5, V_scale, V_clipped]
  rfl

/-- THE REFERENCE'S RUN: every run ends with the result holding `refOut` of the arguments, and the arguments unchanged. -/
theorem run_ref : θ_run defs (onTc (τ := τ) (main (F := F))) ⟨m, fun _ => 0, ρ⟩ (fun r => ∀ c : Dev nD,
      r.2.mem ((c.tc : Thread nD τ).loc main_v11) = refOut (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_v11 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.GemmRef

end
-- ==== Proof.Values.lean ====
/-
The rectified blocks over the extended reals: side by side, the column blocks of a device are its rows of the rectified
product of the whole arrays.
-/
module

public import proofs.«01_k».proof.Proof.Partials
public import proofs.«01_k».proof.Proof.RefValue
public import Idealize.ShloMosaic.Lib.StackMember
public import Idealize.ShloMosaic.Lib.Layout

@[expose] public section

noncomputable section

namespace Cert.Gemm

open Cert.KernelIdeal Cert.KernelIdeal.Gen
open Idealize.ShloMosaic Idealize.ShloMosaic.ValueIdx
open Idealize.ShloMosaic.TcCoe
open scoped BigOperators

/-! ## The column blocks side by side -/

/-- Every column is a column of one stream. -/
theorem exists_colAt (c : Fin 2048) : ∃ i j, c = colAt i j := by
  have h := c.isLt
  by_cases h1 : c.val < 512
  · exact ⟨0, ⟨c.val, h1⟩, Fin.ext (Nat.zero_add _).symm⟩
  by_cases h2 : c.val < 1024
  · exact ⟨2, ⟨c.val - 512, by omega⟩, Fin.ext (show c.val = 512 + (c.val - 512) by omega)⟩
  by_cases h3 : c.val < 1536
  · exact ⟨1, ⟨c.val - 1024, by omega⟩, Fin.ext (show c.val = 1024 + (c.val - 1024) by omega)⟩
  · exact ⟨3, ⟨c.val - 1536, by omega⟩, Fin.ext (show c.val = 1536 + (c.val - 1536) by omega)⟩

/-- A column of stream `i` of the four blocks side by side is that column of the stream's block. -/
theorem cat_apply (p : Fin 4 → FVec Ideal S128x512 .f32) (r : Fin 128) (j : Fin 512) (i : Fin 4) :
    concatenate S128x2048 1 [⟨S128x512, p 0⟩, ⟨S128x512, p 2⟩, ⟨S128x512, p 1⟩, ⟨S128x512, p 3⟩]
      concatenates_S128x512_S128x512_S128x512_S128x512_S128x2048_d1 (ix2 r (colAt i j)) = p i (ix2 r j) := by
  have hi : ∀ b : Fin S128x512.rank, b.cast (rfl : S128x512.rank = S128x2048.rank) ≠ 1 →
      ((ix2 r j : S128x512.Idx) b).val = ((ix2 r (colAt i j) : S128x2048.Idx) (b.cast rfl)).val := fun b hb => by
    match b with
    | ⟨0, _⟩ => rfl
    | ⟨1, _⟩ => exact absurd rfl hb
  have key := fun i => concatenate_apply_piece (t := S128x2048) 1
    [⟨S128x512, p 0⟩, ⟨S128x512, p 2⟩, ⟨S128x512, p 1⟩, ⟨S128x512, p 3⟩]
    concatenates_S128x512_S128x512_S128x512_S128x512_S128x2048_d1 (ix2 r (colAt i j))
  match i with
  | 0 => exact key 0 0 (by simp) S128x512 (p 0) rfl rfl 0 rfl (ix2 r j) hi rfl
  | 1 => exact key 1 2 (by simp) S128x512 (p 1) rfl rfl 1024 rfl (ix2 r j) hi rfl
  | 2 => exact key 2 1 (by simp) S128x512 (p 2) rfl rfl 512 rfl (ix2 r j) hi rfl
  | 3 => exact key 3 3 (by simp) S128x512 (p 3) rfl rfl 1536 rfl (ix2 r j) hi rfl

/-! ## The whole product -/

variable (xs : Dev nD → (xM : Memref sig .tc .vmem S4096x128 .f32).view.ty.Contents (Elt Ideal))
variable (ws : Dev nD → (wM : Memref sig .tc .vmem S128x2048 .f32).view.ty.Contents (Elt Ideal))
variable (X : FVec Ideal ⟨2, ![4096, 4096]⟩ .f32) (W : FVec Ideal ⟨2, ![4096, 2048]⟩ .f32)

/-- The devices' terms add up to the product of the whole arrays. -/
theorem sum_term (hx : ∀ d r k, xat xs d (ix2 r k) = X (ix2 r (rowAt' d k)))
    (hw : ∀ d k j, wat ws d (ix2 k j) = W (ix2 (rowAt' d k) j)) (d : Dev nD) (r : Fin 128) (j : Fin 2048) :
    ∑ e : Dev nD, term xs ws d r j e = ∑ k : Fin 4096, X (ix2 (rowAt' d r) k) * W (ix2 k j) := by
  have e1 : ∀ e : Dev nD, term xs ws d r j e
      = ∑ k : Fin 128, X (ix2 (rowAt' d r) (finProdFinEquiv (m := 32) (n := 128) (e, k))) * W (ix2 (finProdFinEquiv (m := 32) (n := 128) (e, k)) j) := fun e =>
    Finset.sum_congr rfl fun k _ => by
      have ek : rowAt' e k = finProdFinEquiv (m := 32) (n := 128) (e, k) := Fin.ext (by
        show e.val * 128 + k.val = k.val + 128 * e.val; omega)
      rw [hx, hw, ek]
  rw [Finset.sum_congr rfl fun e _ => e1 e]
  exact (Fintype.sum_prod_type fun q : Fin 32 × Fin 128 =>
      X (ix2 (rowAt' d r) (finProdFinEquiv (m := 32) (n := 128) q)) * W (ix2 (finProdFinEquiv (m := 32) (n := 128) q) j)).symm.trans
    (Equiv.sum_comp (finProdFinEquiv (m := 32) (n := 128)) fun k : Fin 4096 => X (ix2 (rowAt' d r) k) * W (ix2 k j))

/-- The rectified product at an index. -/
theorem rect_apply (r : Fin 4096) (j : Fin 2048) :
    GemmRef.rect X W (ix2 r j) = max (∑ k : Fin 4096, X (ix2 r k) * W (ix2 k j)) 0 := by
  unfold GemmRef.rect
  rw [maximumf_apply, broadcastInDim_scalar_apply, constant_apply, word_zero]
  exact congrArg (max · 0) (StackMember.dotGeneral_plain_apply none X W r j)

/-- A device's rectified block is its rows of the rectified product. -/
theorem yv_apply (hx : ∀ d r k, xat xs d (ix2 r k) = X (ix2 r (rowAt' d k)))
    (hw : ∀ d k j, wat ws d (ix2 k j) = W (ix2 (rowAt' d k) j)) (d : Dev nD) (r : Fin 128) (j : Fin 2048) :
    yv xs ws d (ix2 r j) = GemmRef.rect X W (ix2 (rowAt' d r) j) := by
  obtain ⟨i, l, rfl⟩ := exists_colAt j
  unfold yv yOf
  rw [maximumf_apply, cat_apply (fun i => part xs ws i d), part_apply, sum_term xs ws X W hx hw, rect_apply]
  exact congrArg (max _) word_zero

theorem rect_nonneg (i : (⟨2, ![4096, 2048]⟩ : Shape).Idx) : 0 ≤ GemmRef.rect X W i := by
  obtain ⟨r, j, rfl⟩ : ∃ r j, i = ix2 r j := ⟨_, _, eq_ix2 i⟩
  rw [rect_apply]; exact le_max_right _ _

end Cert.Gemm
-- ==== Proof.Maxima.lean ====
/-
The maxima over the extended reals, each told by what bounds it; and the clipping, which changes nothing where the scale
is the largest of the values divided.
-/
module

public import proofs.«01_k».proof.Proof.Values
public import Idealize.ShloMosaic.PureOps.Ideal.Laws

@[expose] public section

noncomputable section

namespace Cert.Gemm

open Cert.KernelIdeal Cert.KernelIdeal.Gen
open Idealize.ShloMosaic Idealize.ShloMosaic.ValueIdx
open Idealize.ShloMosaic.TcCoe
open scoped BigOperators

/-! ## Maxima by their bounds -/

/-- A maximum over every axis is bounded by what bounds every element. -/
theorem multiReduction_le {s t : Shape} {axes : List (Fin s.rank)} (src : FVec Ideal s .f32) (h : s.Reduces axes t) (hφ hacc)
    [Subsingleton t.Idx] (j : t.Idx) (z : EReal) :
    multiReduction .maximumf axes t src 0xFF800000#32 h hφ hacc j ≤ z ↔ ∀ i, src i ≤ z := by
  rw [multiReduction_maximumf_eq_fold]
  refine (Finset.fold_max_le (β := EReal) z).trans ⟨fun H i => H.2 i (Finset.mem_filter.2 ⟨Finset.mem_univ _, Subsingleton.elim _ _⟩),
    fun H => ⟨?_, fun i _ => H i⟩⟩
  exact (congrArg (· ≤ z) word_bot).mpr bot_le

theorem reduce_le {s t u : Shape} {axes : List (Fin s.rank)} (src : FVec Ideal s .f32) (h : s.ReducesTo axes t) (hu : 0 < u.numel)
    [Subsingleton t.Idx] (j : t.Idx) (z : EReal) :
    Host.reduce FloatOps.maximumf src (constant u .f32 0xFF800000#32) h hu j ≤ z ↔ ∀ i, src i ≤ z := by
  rw [Host.reduce_eq_fold]
  refine (Finset.fold_max_le (β := EReal) z).trans ⟨fun H i => H.2 i (Finset.mem_filter.2 ⟨Finset.mem_univ _, Subsingleton.elim _ _⟩),
    fun H => ⟨?_, fun i _ => H i⟩⟩
  exact (congrArg (· ≤ z) word_bot).mpr bot_le

/-- Bounding a reshaped array is bounding the array. -/
theorem shapeCast_le {s t : Shape} (v : FVec Ideal s .f32) (h : s.ShapeCasts t) (z : EReal) :
    (∀ i, shapeCast t v h i ≤ z) ↔ ∀ i, v i ≤ z :=
  (Shape.reshapeEquiv h).forall_congr_left (p := fun i => shapeCast t v h i ≤ z) |>.trans (by
    simp only [shapeCast, Equiv.apply_symm_apply])

instance : Subsingleton S1.Idx := ⟨fun a b => funext fun i => by
  have h : ∀ c : S1.Idx, (c 0).val = 0 := fun c => Nat.lt_one_iff.mp (c 0).isLt
  match i with | ⟨0, _⟩ => exact Fin.ext ((h a).trans (h b).symm)⟩
instance : Subsingleton Cert.ReferenceIdeal.S_.Idx := ⟨fun a b => funext fun i => i.elim0⟩

/-- The block's largest element, and the largest element of the table, as the reductions that compute them. -/
theorem amaxOf_eq {F : FTy → Type} [FloatOps F] (y : FVec F S128x2048 .f32) (x : S8x128.Idx) :
    amaxOf y x = multiReduction .maximumf [1, 2] S1 (shapeCast S1x128x2048 y shapeCasts_S128x2048_S1x128x2048)
      0xFF800000#32 reduces_S1x128x2048_S1 (.inl rfl) rfl (ix1 (0 : Fin 1)) := by
  have key : ∀ v : FVec F S1 .f32, shapeCast S8x128 (broadcast S8x128 (extractAt ![0, 0, 0]
      (shapeCast S1x1x1 v shapeCasts_S1_S1x1x1) inpos_S1x1x1_p0_0_0)) shapeCasts_S8x128_S8x128 x = v (ix1 (0 : Fin 1)) := fun v => by
    rw [shapeCast_self]; exact congrArg v (Subsingleton.elim _ _)
  unfold amaxOf
  exact key _
theorem pay174_eq {F : FTy → Type} [FloatOps F] (t : FVec F S32x8x128 .f32) :
    k0_pay174 t = multiReduction .maximumf [1, 2, 3] S1 (shapeCast S1x32x8x128 t shapeCasts_S32x8x128_S1x32x8x128)
      0xFF800000#32 reduces_S1x32x8x128_S1 (.inl rfl) rfl (ix1 (0 : Fin 1)) := by
  have key : ∀ v : FVec F S1 .f32, extractAt ![0, 0, 0, 0] (shapeCast S1x1x1x1 v shapeCasts_S1_S1x1x1x1) inpos_S1x1x1x1_p0_0_0_0
      = v (ix1 (0 : Fin 1)) := fun v => congrArg v (Subsingleton.elim _ _)
  unfold k0_pay174
  exact key _

theorem amaxOf_le (y : FVec Ideal S128x2048 .f32) (x : S8x128.Idx) (z : EReal) : (amaxOf y x : EReal) ≤ z ↔ ∀ i, y i ≤ z := by
  rw [amaxOf_eq y x]
  exact (multiReduction_le (t := S1) (shapeCast S1x128x2048 y shapeCasts_S128x2048_S1x128x2048) reduces_S1x128x2048_S1 _ _
    (ix1 (0 : Fin 1)) z).trans (shapeCast_le y shapeCasts_S128x2048_S1x128x2048 z)

theorem pay174_le (t : FVec Ideal S32x8x128 .f32) (z : EReal) : (k0_pay174 (F := Ideal) t : EReal) ≤ z ↔ ∀ i, t i ≤ z := by
  rw [pay174_eq t]
  exact (multiReduction_le (t := S1) (shapeCast S1x32x8x128 t shapeCasts_S32x8x128_S1x32x8x128) reduces_S1x32x8x128_S1 _ _
    (ix1 (0 : Fin 1)) z).trans (shapeCast_le t shapeCasts_S32x8x128_S1x32x8x128 z)

/-! ## Clipping -/

/-- The scale that a largest value gives. -/
def scl (a : EReal) : EReal := Ideal.div a ((448 : ℝ) : EReal)

/-- Clipping the quotient of a nonnegative value and the scale of a bound of it changes nothing once multiplied back. -/
theorem clip_mul {y a : EReal} (hy : 0 ≤ y) (h : y ≤ a) :
    min ((448 : ℝ) : EReal) (max ((-448 : ℝ) : EReal) (Ideal.div y (scl a))) * scl a = Ideal.div y (scl a) * scl a := by
  have h448 : ((448 : ℝ) : EReal) ≠ 0 := by exact_mod_cast (by norm_num : (448 : ℝ) ≠ 0)
  have hneg : ((-448 : ℝ) : EReal) ≤ 0 := by exact_mod_cast (by norm_num : (-448 : ℝ) ≤ 0)
  have hpos : (0 : EReal) ≤ ((448 : ℝ) : EReal) := by exact_mod_cast (by norm_num : (0 : ℝ) ≤ 448)
  have within : 0 ≤ Ideal.div y (scl a) → Ideal.div y (scl a) ≤ ((448 : ℝ) : EReal) →
      min ((448 : ℝ) : EReal) (max ((-448 : ℝ) : EReal) (Ideal.div y (scl a))) = Ideal.div y (scl a) := fun h0 h1 => by
    rw [max_eq_right (hneg.trans h0), min_eq_right h1]
  have ha : 0 ≤ a := hy.trans h
  induction a using EReal.rec with
  | bot => exact absurd ha (by simp)
  | top =>
    have hs : scl ⊤ = ⊤ := by
      unfold scl Ideal.div; rw [if_neg h448, ← EReal.coe_inv]; exact EReal.top_mul_coe_of_pos (by norm_num)
    have hd : Ideal.div y (scl ⊤) = 0 := by rw [hs]; unfold Ideal.div; rw [if_neg (by simp), EReal.inv_top, mul_zero]
    rw [within (by rw [hd]) (by rw [hd]; exact hpos)]
  | coe a =>
    have ha' : 0 ≤ a := by exact_mod_cast ha
    have hs : scl (a : EReal) = ((a / 448 : ℝ) : EReal) := by
      unfold scl Ideal.div; rw [if_neg h448, ← EReal.coe_inv, ← EReal.coe_mul, div_eq_mul_inv]
    lift y to ℝ using ⟨fun e => by rw [e] at h; exact absurd h (by simp), fun e => by rw [e] at hy; exact absurd hy (by simp)⟩
    have hy' : 0 ≤ y := by exact_mod_cast hy
    have h' : y ≤ a := by exact_mod_cast h
    rcases eq_or_lt_of_le ha' with h0 | h0
    · have : scl (a : EReal) = 0 := by rw [hs, ← h0]; simp
      rw [this, mul_zero, mul_zero]
    · have hp : (0 : ℝ) < a / 448 := by positivity
      have hd : Ideal.div y (scl a) = ((y / (a / 448) : ℝ) : EReal) := by
        rw [hs]; unfold Ideal.div
        rw [if_neg (by exact_mod_cast hp.ne'), ← EReal.coe_inv, ← EReal.coe_mul, div_eq_mul_inv y]
      rw [within (by rw [hd]; exact_mod_cast (div_nonneg hy' hp.le))
        (by rw [hd]; exact_mod_cast ((div_le_iff₀ hp).2 (by linarith)))]

end Cert.Gemm
-- ==== Proof.Algebraic.lean ====
/-
The result over the extended reals: every device's rows of the kernel's result are its rows of the reference's.
-/
module

public import proofs.«01_k».proof.Defs
public import proofs.«01_k».proof.Proof.Maxima
public import proofs.«01_k».proof.Proof.Launch

@[expose] public section

noncomputable section

namespace Cert.Gemm

open Cert.KernelIdeal Cert.KernelIdeal.Gen
open Idealize.ShloMosaic Idealize.ShloMosaic.ValueIdx
open Idealize.ShloMosaic.TcCoe
open Idealize.SL Idealize.SL.Sem
open scoped BigOperators

/-- The table at an index: the maximum of the device that the index names. -/
theorem tiles_apply {F : FTy → Type} [FloatOps F] (xs : Dev nD → (xM : Memref sig .tc .vmem S4096x128 .f32).view.ty.Contents (Elt F))
    (ws : Dev nD → (wM : Memref sig .tc .vmem S128x2048 .f32).view.ty.Contents (Elt F)) (d : Dev nD) (u : Fin 8) (v : Fin 128) :
    tiles xs ws (ix3 d u v) = amaxOf (yv xs ws d) (ix2 u v) := rfl

section Result

variable (xs : Dev nD → (xM : Memref sig .tc .vmem S4096x128 .f32).view.ty.Contents (Elt Ideal))
variable (ws : Dev nD → (wM : Memref sig .tc .vmem S128x2048 .f32).view.ty.Contents (Elt Ideal))
variable (X : FVec Ideal ⟨2, ![4096, 4096]⟩ .f32) (W : FVec Ideal ⟨2, ![4096, 2048]⟩ .f32)

/-- The largest absolute value of the reference's rectified product. -/
def refMax : EReal := Host.reduce (α := Ideal .f32) FloatOps.maximumf (Host.absf (GemmRef.rect X W)) (constant (F := Ideal) Cert.ReferenceIdeal.S_ .f32 0xFF800000#32)
  Cert.ReferenceIdeal.Gen.reducesTo_S4096x2048_S_d0_1 Cert.ReferenceIdeal.Gen.h_S_ ix0

theorem refMax_le (z : EReal) : refMax X W ≤ z ↔ ∀ i, GemmRef.rect X W i ≤ z := by
  unfold refMax
  rw [reduce_le]
  refine forall_congr' fun i => ?_
  show max (GemmRef.rect X W i) (-(GemmRef.rect X W i)) ≤ z ↔ _
  rw [max_eq_left ((EReal.neg_le_neg_iff.2 (rect_nonneg X W i)).trans (by simpa using rect_nonneg X W i))]

/-- Every row is a row of one device. -/
theorem exists_rowAt (r : Fin 4096) : ∃ d k, r = rowAt' d k := by
  have h := r.isLt
  exact ⟨⟨r.val / 128, by show _ < 32; omega⟩, ⟨r.val % 128, by omega⟩, Fin.ext (by show r.val = r.val / 128 * 128 + r.val % 128; omega)⟩

/-- The largest of the devices' maxima is the largest value of the whole. -/
theorem max_eq (hx : ∀ d r k, xat xs d (ix2 r k) = X (ix2 r (rowAt' d k)))
    (hw : ∀ d k j, wat ws d (ix2 k j) = W (ix2 (rowAt' d k) j)) : k0_pay174 (tiles xs ws) = refMax X W := by
  refine eq_of_forall_ge_iff fun z => (pay174_le _ z).trans (Iff.trans ?_ (refMax_le X W z).symm)
  constructor
  · intro H i
    obtain ⟨r, j, rfl⟩ : ∃ r j, i = ix2 r j := ⟨_, _, eq_ix2 i⟩
    obtain ⟨d, k, rfl⟩ := exists_rowAt r
    rw [← yv_apply xs ws X W hx hw]
    have h := H (ix3 d (0 : Fin 8) (0 : Fin 128))
    rw [tiles_apply] at h
    exact (amaxOf_le (yv xs ws d) _ z).1 h _
  · intro H x
    obtain ⟨d, u, v, rfl⟩ : ∃ (d : Dev nD) (u : Fin 8) (v : Fin 128), x = ix3 d u v := ⟨_, _, _, eq_ix3 x⟩
    rw [tiles_apply]
    refine (amaxOf_le (yv xs ws d) _ z).2 fun i => ?_
    obtain ⟨r, j, rfl⟩ : ∃ r j, i = ix2 r j := ⟨_, _, eq_ix2 i⟩
    rw [yv_apply xs ws X W hx hw]
    exact H _

/-- The kernel's result at an index, -/
theorem pay1_apply (y : FVec Ideal S128x2048 .f32) (a : EReal) (i : S128x2048.Idx) :
    k0_pay1 (F := Ideal) y a i = Ideal.div (y i) (scl a) * scl a := by
  show Ideal.div (y i) (Ideal.div a (Ideal.ofBits .f32 0x43E00000#32)) * Ideal.div a (Ideal.ofBits .f32 0x43E00000#32) = _
  rw [word_pos]; rfl

/-- and the reference's. -/
theorem refOut_apply (i : (⟨2, ![4096, 2048]⟩ : Shape).Idx) :
    GemmRef.refOut X W i = min ((448 : ℝ) : EReal) (max ((-448 : ℝ) : EReal) (Ideal.div (GemmRef.rect X W i) (scl (refMax X W)))) * scl (refMax X W) := by
  have hs : GemmRef.scaleOf (GemmRef.rect X W) ix0 = scl (refMax X W) := by
    show Ideal.div (refMax X W) (Ideal.ofBits .f32 0x43E00000#32) = _
    rw [word_pos]; rfl
  have hc : GemmRef.clipped (GemmRef.rect X W) (GemmRef.scaleOf (GemmRef.rect X W)) i
      = min ((448 : ℝ) : EReal) (max ((-448 : ℝ) : EReal) (Ideal.div (GemmRef.rect X W i) (scl (refMax X W)))) := by
    unfold GemmRef.clipped
    rw [minimumf_apply, maximumf_apply, hostDivf_apply, broadcastInDim_scalar_apply, broadcastInDim_scalar_apply, broadcastInDim_scalar_apply,
      constant_apply, constant_apply, word_pos, word_neg, hs]
  unfold GemmRef.refOut
  rw [mulf_apply, broadcastInDim_scalar_apply, hs, ← hc]
  unfold Cert.ReferenceIdeal.Gen.k0_pay1
  rw [shapeCast_self]
  rfl

/-- A device's result is its rows of the reference's. -/
theorem outv_eq (hx : ∀ d r k, xat xs d (ix2 r k) = X (ix2 r (rowAt' d k)))
    (hw : ∀ d k j, wat ws d (ix2 k j) = W (ix2 (rowAt' d k) j)) (d : Dev nD) :
    outv xs ws d = Layout.block ⟨2, ![128, 2048]⟩ ⟨2, ![4096, 2048]⟩ 0 32 d (GemmRef.refOut X W) := by
  funext i
  obtain ⟨r, j, rfl⟩ : ∃ r j, i = ix2 r j := ⟨_, _, eq_ix2 i⟩
  have ei : (by decide : Layout.Tiles ⟨2, ![128, 2048]⟩ ⟨2, ![4096, 2048]⟩ 0 32).idx d (ix2 r j) = ix2 (rowAt' d r) j := by
    funext a
    match a with
    | ⟨0, _⟩ => rfl
    | ⟨1, _⟩ => rfl
  rw [Layout.block_apply, ei]
  unfold outv
  rw [max_eq xs ws X W hx hw, pay1_apply, yv_apply xs ws X W hx hw, refOut_apply,
    clip_mul (rect_nonneg X W _) ((refMax_le X W _).1 le_rfl _)]

end Result

/-! ## The windows are the whole arrays -/

section Windows

variable (m : (ℓ : Loc nD τ sig) → Buf (Elt Ideal) ℓ) (d : Dev nD)

theorem blk_x (f) : (win0_0.blk (0 : Fin 1)).view.read (Elt Ideal) f = f :=
  Memref.read_access_unit_zero (Elt Ideal) main_arg0 (funext fun a => by fin_cases a <;> decide) (fun a => by fin_cases a <;> decide) f
theorem blk_w (f) : (win0_1.blk (0 : Fin 1)).view.read (Elt Ideal) f = f :=
  Memref.read_access_unit_zero (Elt Ideal) main_arg1 (funext fun a => by fin_cases a <;> decide) (fun a => by fin_cases a <;> decide) f
theorem blk_o (f) : (win0_2.blk (0 : Fin 1)).view.read (Elt Ideal) f = f :=
  Memref.read_access_unit_zero (Elt Ideal) main_v1 (funext fun a => by fin_cases a <;> decide) (fun a => by fin_cases a <;> decide) f

/-- The block of `x` that the body reads is the array, -/
theorem xat_in : xat (xIn m) d = m ((d : Thread nD τ).loc main_arg0) := blk_x (m ((d : Thread nD τ).loc main_arg0))
/-- and so is its block of `w`. -/
theorem wat_in : wat (wIn m) d = m ((d : Thread nD τ).loc main_arg1) := blk_w (m ((d : Thread nD τ).loc main_arg1))

end Windows

/-- On every device the kernel's result is the device's rows of the reference's result. -/
theorem algebraic : algebraic_KernelIdeal_ReferenceIdeal (hKernelIdeal := Cert.KernelIdeal.Gen.facts)
    (hReferenceIdeal := Cert.ReferenceIdeal.Gen.facts) := by
  intro m g m' g' _ hm
  have hx : ∀ d r k, xat (xIn m) d (ix2 r k)
      = m' (((0 : Dev Cert.ReferenceIdeal.nD).tc : Thread _ Cert.ReferenceIdeal.τ).loc Cert.ReferenceIdeal.main_arg0) (ix2 r (rowAt' d k)) := fun d r k => by
    rw [xat_in, (hm d).1]
    exact congrArg (m' _) (funext fun a => by match a with | ⟨0, _⟩ => rfl | ⟨1, _⟩ => rfl)
  have hw : ∀ d k j, wat (wIn m) d (ix2 k j)
      = m' (((0 : Dev Cert.ReferenceIdeal.nD).tc : Thread _ Cert.ReferenceIdeal.τ).loc Cert.ReferenceIdeal.main_arg1) (ix2 (rowAt' d k) j) := fun d k j => by
    rw [wat_in, (hm d).2]
    exact congrArg (m' _) (funext fun a => by match a with | ⟨0, _⟩ => rfl | ⟨1, _⟩ => rfl)
  refine ⟨GemmRef.refOut (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run defs _ _).mono (fun _ h c => ⟨?_, (h.1 c).2⟩) (run_main (F := Ideal) m g)
    exact (blk_o _).symm.trans ((h.1 c).1.trans (outv_eq _ _ _ _ hx hw c))
  · exact (θ_run Cert.ReferenceIdeal.defs _ _).mono (fun _ h => h 0) (GemmRef.run_ref (F := Ideal) m' g')

end Cert.Gemm
-- ==== Proof.lean ====
/-
The certificate's claims, put together.
-/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gemm.frame_kernel, Cert.Gemm.frame_ideal, Cert.Gemm.frame_reference, trivial, Cert.Gemm.algebraic⟩

end Cert.Proof

end
